-- ==== Defs.lean ====
def Pre_Scatter [hPre_labels_in_range : Cert.Pre_labels_in_range.Facts] (m : (ℓ : Loc Cert.Scatter.nD Cert.Scatter.τ Cert.Scatter.sig) → Buf (Elt Bits) ℓ) : Prop :=
  ∀ c : Dev Cert.Scatter.nD,
    (Cert.Pre_labels_in_range.fn (F := Bits) (m ((c.tc : Thread Cert.Scatter.nD Cert.Scatter.τ).loc Cert.Scatter.main_arg0)) (m ((c.tc : Thread Cert.Scatter.nD Cert.Scatter.τ).loc Cert.Scatter.main_arg1))) = (fun _ => 1#1)

def Pre_ScatterIdeal [hPre_labels_in_range : Cert.Pre_labels_in_range.Facts] (m : (ℓ : Loc Cert.ScatterIdeal.nD Cert.ScatterIdeal.τ Cert.ScatterIdeal.sig) → Buf (Elt Ideal) ℓ) : Prop :=
  ∀ c : Dev Cert.ScatterIdeal.nD,
    (Cert.Pre_labels_in_range.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1))) = (fun _ => 1#1)

def Pre_ScatterReferenceIdeal (m : (ℓ : Loc Cert.ScatterReferenceIdeal.nD Cert.ScatterReferenceIdeal.τ Cert.ScatterReferenceIdeal.sig) → Buf (Elt Ideal) ℓ) : Prop :=
  True

def Pre_ScatterReferenceIdeal_labels_in_range [hPre_labels_in_range : Cert.Pre_labels_in_range.Facts] (m : (ℓ : Loc Cert.ScatterReferenceIdeal.nD Cert.ScatterReferenceIdeal.τ Cert.ScatterReferenceIdeal.sig) → Buf (Elt Ideal) ℓ) : Prop :=
  ∀ c : Dev Cert.ScatterReferenceIdeal.nD,
    (Cert.Pre_labels_in_range.fn (F := Ideal) (m ((c.tc : Thread Cert.ScatterReferenceIdeal.nD Cert.ScatterReferenceIdeal.τ).loc Cert.ScatterReferenceIdeal.main_arg0)) (m ((c.tc : Thread Cert.ScatterReferenceIdeal.nD Cert.ScatterReferenceIdeal.τ).loc Cert.ScatterReferenceIdeal.main_arg1))) = (fun _ => 1#1)

def Pre_KernelIdeal [hPre_sound_inputs : Cert.Pre_sound_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_sound_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sound_inputs [hPre_sound_inputs : Cert.Pre_sound_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sound_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Scatter [hScatter : Cert.Scatter.Facts] [hPre_labels_in_range : Cert.Pre_labels_in_range.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (Cert.Scatter.threads (F := Bits)) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1))
      ∧ r.2.sem = fun _ => 0)

def quiescent_ScatterIdeal [hScatterIdeal : Cert.ScatterIdeal.Facts] [hPre_labels_in_range : Cert.Pre_labels_in_range.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (Cert.ScatterIdeal.threads (F := Ideal)) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ r.2.sem = fun _ => 0)

def quiescent_ScatterReferenceIdeal [hScatterReferenceIdeal : Cert.ScatterReferenceIdeal.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1))
      ∧ r.2.sem = fun _ => 0)

def quiescent_ScatterReferenceIdeal_pre_labels_in_range [hScatterReferenceIdeal : Cert.ScatterReferenceIdeal.Facts] [hPre_labels_in_range : Cert.Pre_labels_in_range.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal_labels_in_range m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1))
      ∧ r.2.sem = fun _ => 0)

def quiescent_KernelIdeal [hKernelIdeal : Cert.KernelIdeal.Facts] [hPre_sound_inputs : Cert.Pre_sound_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sound_inputs [hReferenceIdeal : Cert.ReferenceIdeal.Facts] [hPre_sound_inputs : Cert.Pre_sound_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sound_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Scatter_ScatterIdeal : Prop :=
  True

def algebraic_ScatterIdeal_ScatterReferenceIdeal [hScatterIdeal : Cert.ScatterIdeal.Facts] [hScatterReferenceIdeal : Cert.ScatterReferenceIdeal.Facts] [hPre_labels_in_range : Cert.Pre_labels_in_range.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterReferenceIdeal.nD Cert.ScatterReferenceIdeal.τ Cert.ScatterReferenceIdeal.sig) → Buf (Elt Ideal) ℓ) (g' : Dev Cert.ScatterReferenceIdeal.nD → PrngReg), Pre_ScatterIdeal m →
    (∀ c : Dev Cert.ScatterIdeal.nD,
      m' ((c.tc : Thread Cert.ScatterReferenceIdeal.nD Cert.ScatterReferenceIdeal.τ).loc Cert.ScatterReferenceIdeal.main_arg0) = m ((c.tc : Thread Cert.ScatterIdeal.nD Cert.ScatterIdeal.τ).loc Cert.ScatterIdeal.main_arg0)
      ∧ m' ((c.tc : Thread Cert.ScatterReferenceIdeal.nD Cert.ScatterReferenceIdeal.τ).loc Cert.ScatterReferenceIdeal.main_arg1) = m ((c.tc : Thread Cert.ScatterIdeal.nD Cert.ScatterIdeal.τ).loc Cert.ScatterIdeal.main_arg1)) →
    ∃ (v0 : (c : Dev Cert.ScatterIdeal.nD) → Buf (Elt Ideal) ((c.tc : Thread Cert.ScatterIdeal.nD Cert.ScatterIdeal.τ).loc Cert.ScatterIdeal.main_v1)),
      θ_run (Cert.ScatterIdeal.defs (F := Ideal)) (Cert.ScatterIdeal.threads (F := Ideal)) ⟨m, fun _ => 0, g⟩ (fun r => ∀ c : Dev Cert.ScatterIdeal.nD,
          r.2.mem ((c.tc : Thread Cert.ScatterIdeal.nD Cert.ScatterIdeal.τ).loc Cert.ScatterIdeal.main_v1) = v0 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ θ_run (Cert.ScatterReferenceIdeal.defs (F := Ideal)) (onTc (τ := Cert.ScatterReferenceIdeal.τ) (Cert.ScatterReferenceIdeal.main (F := Ideal))) ⟨m', fun _ => 0, g'⟩ (fun r => ∀ c : Dev Cert.ScatterReferenceIdeal.nD,
          r.2.mem ((c.tc : Thread Cert.ScatterReferenceIdeal.nD Cert.ScatterReferenceIdeal.τ).loc Cert.ScatterReferenceIdeal.main_v19) = v0 c
          ∧ r.2.mem ((c.tc : Thread Cert.ScatterReferenceIdeal.nD Cert.ScatterReferenceIdeal.τ).loc Cert.ScatterReferenceIdeal.main_arg0) = m' ((c.tc : Thread Cert.ScatterReferenceIdeal.nD Cert.ScatterReferenceIdeal.τ).loc Cert.ScatterReferenceIdeal.main_arg0)
          ∧ r.2.mem ((c.tc : Thread Cert.ScatterReferenceIdeal.nD Cert.ScatterReferenceIdeal.τ).loc Cert.ScatterReferenceIdeal.main_arg1) = m' ((c.tc : Thread Cert.ScatterReferenceIdeal.nD Cert.ScatterReferenceIdeal.τ).loc Cert.ScatterReferenceIdeal.main_arg1))

def algebraic_KernelIdeal_ReferenceIdeal [hKernelIdeal : Cert.KernelIdeal.Facts] [hReferenceIdeal : Cert.ReferenceIdeal.Facts] [hPre_sound_inputs : Cert.Pre_sound_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hScatter : Cert.Scatter.Facts) (hScatterIdeal : Cert.ScatterIdeal.Facts) (hScatterReferenceIdeal : Cert.ScatterReferenceIdeal.Facts) (hKernelIdeal : Cert.KernelIdeal.Facts) (hReferenceIdeal : Cert.ReferenceIdeal.Facts) (hPre_labels_in_range : Cert.Pre_labels_in_range.Facts) (hPre_sound_inputs : Cert.Pre_sound_inputs.Facts),
    quiescent_Scatter (hScatter := hScatter) (hPre_labels_in_range := hPre_labels_in_range)
    ∧ quiescent_ScatterIdeal (hScatterIdeal := hScatterIdeal) (hPre_labels_in_range := hPre_labels_in_range)
    ∧ quiescent_ScatterReferenceIdeal (hScatterReferenceIdeal := hScatterReferenceIdeal)
    ∧ quiescent_ScatterReferenceIdeal_pre_labels_in_range (hScatterReferenceIdeal := hScatterReferenceIdeal) (hPre_labels_in_range := hPre_labels_in_range)
    ∧ quiescent_KernelIdeal (hKernelIdeal := hKernelIdeal) (hPre_sound_inputs := hPre_sound_inputs)
    ∧ quiescent_ReferenceIdeal (hReferenceIdeal := hReferenceIdeal)
    ∧ quiescent_ReferenceIdeal_pre_sound_inputs (hReferenceIdeal := hReferenceIdeal) (hPre_sound_inputs := hPre_sound_inputs)
    ∧ preserves_Scatter_ScatterIdeal
    ∧ algebraic_ScatterIdeal_ScatterReferenceIdeal (hScatterIdeal := hScatterIdeal) (hScatterReferenceIdeal := hScatterReferenceIdeal) (hPre_labels_in_range := hPre_labels_in_range)
    ∧ algebraic_KernelIdeal_ReferenceIdeal (hKernelIdeal := hKernelIdeal) (hReferenceIdeal := hReferenceIdeal) (hPre_sound_inputs := hPre_sound_inputs)
-- ==== Pre_labels_in_range.lean ====
abbrev S1024x16 : Shape := ⟨2, ![1024, 16]⟩
abbrev S100000 : Shape := ⟨1, ![100000]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S100000 : S_.BroadcastsInDim S100000 (![] : Fin 0 → Fin S100000.rank)
  reducesTo_S100000_S_d0 : S100000.ReducesTo [0] S_

variable [Facts]

def fn {F : FTy → Type} [FloatOps F] (main_arg0 : IVec S1024x16 32) (main_arg1 : IVec S100000 32) : IVec S_ 1 :=
  let main_c : IVec S_ 32 := constantI S_ 32 0#32
  let main_v0 : IVec S1024x16 32 := broadcastInDim S1024x16 ![] bcast_S_S1024x16 main_c
  let main_v1 : IVec S1024x16 1 := cmpi .sge main_arg0 main_v0
  let main_c_0 : IVec S_ 32 := constantI S_ 32 100000#32
  let main_v2 : IVec S1024x16 32 := broadcastInDim S1024x16 ![] bcast_S_S1024x16 main_c_0
  let main_v3 : IVec S1024x16 1 := cmpi .slt main_arg0 main_v2
  let main_v4 : IVec S1024x16 1 := andi main_v1 main_v3
  let main_c_1 : IVec S_ 1 := constantI S_ 1 1#1
  let main_v5 : IVec S_ 1 := (fun x v => Host.reduce IntOp.andi x v reducesTo_S1024x16_S_d0_1 h_S_) main_v4 main_c_1
  let main_c_2 : IVec S_ 32 := constantI S_ 32 0#32
  let main_v6 : IVec S100000 32 := broadcastInDim S100000 ![] bcast_S_S100000 main_c_2
  let main_v7 : IVec S100000 1 := cmpi .sge main_arg1 main_v6
  let main_c_3 : IVec S_ 32 := constantI S_ 32 1000#32
  let main_v8 : IVec S100000 32 := broadcastInDim S100000 ![] bcast_S_S100000 main_c_3
  let main_v9 : IVec S100000 1 := cmpi .slt main_arg1 main_v8
  let main_v10 : IVec S100000 1 := andi main_v7 main_v9
  let main_c_4 : IVec S_ 1 := constantI S_ 1 1#1
  let main_v11 : IVec S_ 1 := (fun x v => Host.reduce IntOp.andi x v reducesTo_S100000_S_d0 h_S_) main_v10 main_c_4
  let main_v12 : IVec S_ 1 := andi main_v5 main_v11
  main_v12
-- ==== Pre_sound_inputs.lean ====
abbrev S1024x64 : Shape := ⟨2, ![1024, 64]⟩
abbrev S100000x64 : Shape := ⟨2, ![100000, 64]⟩
abbrev S100000 : Shape := ⟨1, ![100000]⟩
abbrev S_ : Shape := ⟨0, ![]⟩
abbrev S1024 : Shape := ⟨1, ![1024]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  reducesTo_S1024x64_S1024_d1 : S1024x64.ReducesTo [1] S1024
  reducesTo_S1024_S_d0 : S1024.ReducesTo [0] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg2 : IVec S100000 32) (main_v13 : IVec S_ 1) (main_v15 : IVec S100000 1) : IVec S_ 1 :=
  let main_c_6 : IVec S_ 32 := constantI S_ 32 1000#32
  let main_v16 : IVec S100000 32 := broadcastInDim S100000 ![] bcast_S_S100000 main_c_6
  let main_v17 : IVec S100000 1 := cmpi .slt main_arg2 main_v16
  let main_v18 : IVec S100000 1 := andi main_v15 main_v17
  let main_c_7 : IVec S_ 1 := constantI S_ 1 1#1
  let main_v19 : IVec S_ 1 := (fun x v => Host.reduce IntOp.andi x v reducesTo_S100000_S_d0 h_S_) main_v18 main_c_7
  let main_v20 : IVec S_ 1 := andi main_v13 main_v19
  main_v20

def fn {F : FTy → Type} [FloatOps F] (main_arg0 : FVec F S1024x64 .f32) (main_arg1 : FVec F S100000x64 .f32) (main_arg2 : IVec S100000 32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_cst_2 : FVec F S_ .f32 := constant S_ .f32 0x00000000#32
  let main_v9 : FVec F S1024x64 .f32 := broadcastInDim S1024x64 ![] bcast_S_S1024x64 main_cst_2
  let main_v10 : IVec S1024x64 1 := cmpf .une main_arg0 main_v9
  let main_c_3 : IVec S_ 1 := constantI S_ 1 0#1
  let main_v11 : IVec S1024 1 := (fun x v => Host.reduce IntOp.ori x v reducesTo_S1024x64_S1024_d1 h_S_) main_v10 main_c_3
  let main_c_4 : IVec S_ 1 := constantI S_ 1 1#1
  let main_v12 : IVec S_ 1 := (fun x v => Host.reduce IntOp.andi x v reducesTo_S1024_S_d0 h_S_) main_v11 main_c_4
  let main_v13 : IVec S_ 1 := andi main_v8 main_v12
  let main_c_5 : IVec S_ 32 := constantI S_ 32 0#32
  let main_v14 : IVec S100000 32 := broadcastInDim S100000 ![] bcast_S_S100000 main_c_5
  let main_v15 : IVec S100000 1 := cmpi .sge main_arg2 main_v14
  fn_part1 (F := F) main_arg2 main_v13 main_v15
-- ==== Scatter.lean ====
abbrev S1024x16 : Shape := ⟨2, ![1024, 16]⟩
abbrev S100000 : Shape := ⟨1, ![100000]⟩
abbrev S1024x1024 : Shape := ⟨2, ![1024, 1024]⟩
abbrev S32x16 : Shape := ⟨2, ![32, 16]⟩
abbrev S1024 : Shape := ⟨1, ![1024]⟩
abbrev S_ : Shape := ⟨0, ![]⟩
abbrev S16 : Shape := ⟨1, ![16]⟩
abbrev S1x16 : Shape := ⟨2, ![1, 16]⟩
abbrev S1x1024 : Shape := ⟨2, ![1, 1024]⟩
abbrev S1024x1000 : Shape := ⟨2, ![1024, 1000]⟩

abbrev nBuf : Table → Nat
  | .hbm => 4
  | .local .scVector .vmem => 3
  | _ => 0

abbrev bufTy : (tb : Table) → Fin (nBuf tb) → BufTy
  | .hbm, ⟨0, _⟩ => ⟨S1024x16, .i32⟩
  | .hbm, ⟨1, _⟩ => ⟨S100000, .i32⟩
  | .hbm, ⟨2, _⟩ => ⟨S1024x1024, .f32⟩
  | .hbm, ⟨3, _⟩ => ⟨S1024x1000, .f32⟩
  | .local .scVector .vmem, ⟨0, _⟩ => ⟨S100000, .i32⟩
  | .local .scVector .vmem, ⟨1, _⟩ => ⟨S32x16, .i32⟩
  | .local .scVector .vmem, ⟨2, _⟩ => ⟨S1024, .f32⟩
  | _, _ => ⟨S1024x16, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_8_r1 : BitVec 32 := 0#32
  ![v2.toNat, 0]
@[reducible] def k0_t1_loop : Scf.Loop 32 :=
  let c0_i32_1 : BitVec 32 := 0#32
  let c64_i32 : BitVec 32 := 64#32
  let v5 : BitVec 32 := Scalar.addi c0_i32_1 c64_i32
  let c1_i32 : BitVec 32 := 1#32
  ⟨c0_i32_1, v5, c1_i32⟩
def k0_off2 (k0_t1 : Fin k0_t1_loop.trips) : Fin 1 → Nat :=
  let c0_i32_1 : BitVec 32 := 0#32
  let c1_i32 : BitVec 32 := 1#32
  let arg8 : BitVec 32 := Scf.iv c0_i32_1 c1_i32 k0_t1
  let c16_i32 : BitVec 32 := 16#32
  let v7 : BitVec 32 := Scalar.muli arg8 c16_i32
  let v8 : Index := Scalar.indexCast v7
  ![v8.toNat]
@[reducible] def k0_t2_loop : Scf.Loop 32 :=
  let c0_i32_4 : BitVec 32 := 0#32
  let c32_i32_5 : BitVec 32 := 32#32
  let v6 : BitVec 32 := Scalar.addi c0_i32_4 c32_i32_5
  let c1_i32_6 : BitVec 32 := 1#32
  ⟨c0_i32_4, v6, c1_i32_6⟩
def k0_off3 (k0_t2 : Fin k0_t2_loop.trips) : Fin 2 → Nat :=
  let c0_i32_4 : BitVec 32 := 0#32
  let c1_i32_6 : BitVec 32 := 1#32
  let arg8 : BitVec 32 := Scf.iv c0_i32_4 c1_i32_6 k0_t2
  let v7 : Index := Scalar.indexCast arg8
  let c0 : Index := 0#32
  ![v7.toNat, 0]

def k0_chk1 (v8 : IVec S16 32) : Prop :=
  (∀ a x, ((![v8] : Fin 1 → IVec S16 32) a x).toNat < S100000.size a)
theorem k0_idx1_inb : ∀ (v8 : IVec S16 32) (k0_hw1 : k0_chk1 v8), ∀ a x, ((![v8] : Fin 1 → IVec S16 32) a x).toNat < S100000.size a := fun v8 k0_hw1 => k0_hw1
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_4 : BitVec 32 := 0#32
  let c1_i32_6 : BitVec 32 := 1#32
  let arg8 : BitVec 32 := Scf.iv c0_i32_4 c1_i32_6 k0_t2
  let v10 : BitVec 32 := Scalar.addi v2 arg8
  let c0_i32_8_r2 : BitVec 32 := 0#32
  ![v10.toNat, 0]

def k0_chk2 (v9 : IVec S16 32) : Prop :=
  (∀ a x, ((![v9] : Fin 1 → IVec S16 32) a x).toNat < S1024.size a) ∧
  (∀ a x, ((![v9] : Fin 1 → IVec S16 32) a x).toNat < S1024.size a)
theorem k0_idx2_inb : ∀ (v9 : IVec S16 32) (k0_hw2 : k0_chk2 v9), ∀ a x, ((![v9] : Fin 1 → IVec S16 32) a x).toNat < S1024.size a := fun v9 k0_hw2 => k0_hw2.1
theorem k0_idx3_inb : ∀ (v9 : IVec S16 32) (k0_hw2 : k0_chk2 v9), ∀ a x, ((![v9] : Fin 1 → IVec S16 32) a x).toNat < S1024.size a := fun v9 k0_hw2 => k0_hw2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ScatterReferenceIdeal.lean ====
abbrev S1024x16 : Shape := ⟨2, ![1024, 16]⟩
abbrev S100000 : Shape := ⟨1, ![100000]⟩
abbrev S_ : Shape := ⟨0, ![]⟩
abbrev S1024x16x1 : Shape := ⟨3, ![1024, 16, 1]⟩
abbrev S1 : Shape := ⟨1, ![1]⟩
abbrev S1x1x1 : Shape := ⟨3, ![1, 1, 1]⟩
abbrev S1024 : Shape := ⟨1, ![1024]⟩
abbrev S1024x1 : Shape := ⟨2, ![1024, 1]⟩
abbrev S1024x1000 : Shape := ⟨2, ![1024, 1000]⟩
abbrev S1024x16x2 : Shape := ⟨3, ![1024, 16, 2]⟩

abbrev nBuf : Space → Nat
  | .hbm => 49
  | .vmem => 0
  | .smem => 0
  | _ => 0

abbrev bufTy : (tb : Table) → Fin (tcTables nBuf tb) → BufTy
  | .hbm, ⟨0, _⟩ => ⟨S1024x16, .i32⟩
  | .hbm, ⟨1, _⟩ => ⟨S100000, .i32⟩
  | .hbm, ⟨2, _⟩ => ⟨S_, .i32⟩
  | .hbm, ⟨3, _⟩ => ⟨S1024x16, .i32⟩
  | .hbm, ⟨4, _⟩ => ⟨S1024x16, .i1⟩
  | .hbm, ⟨5, _⟩ => ⟨S_, .i32⟩
  | .hbm, ⟨6, _⟩ => ⟨S1024x16, .i32⟩
  | .hbm, ⟨7, _⟩ => ⟨S1024x16, .i32⟩
  | .hbm, ⟨8, _⟩ => ⟨S1024x16, .i32⟩
  | .hbm, ⟨9, _⟩ => ⟨S1024x16x1, .i32⟩
  | .hbm, ⟨10, _⟩ => ⟨S1, .i32⟩
  | .hbm, ⟨11, _⟩ => ⟨S_, .i32⟩
  | .hbm, ⟨12, _⟩ => ⟨S1024x16x1, .i32⟩
  | .hbm, ⟨13, _⟩ => ⟨S1024x16x1, .i1⟩
  | .hbm, ⟨14, _⟩ => ⟨S1x1x1, .i32⟩
  | .hbm, ⟨15, _⟩ => ⟨S1024x16x1, .i32⟩
  | .hbm, ⟨16, _⟩ => ⟨S1024x16x1, .i1⟩
  | .hbm, ⟨17, _⟩ => ⟨S1024x16x1, .i1⟩
  | .hbm, ⟨18, _⟩ => ⟨S_, .i1⟩
  | .hbm, ⟨19, _⟩ => ⟨S1024x16, .i1⟩
  | .hbm, ⟨20, _⟩ => ⟨S1024x16, .i32⟩
  | .hbm, ⟨21, _⟩ => ⟨S_, .i32⟩
  | .hbm, ⟨22, _⟩ => ⟨S1024x16, .i32⟩
  | .hbm, ⟨23, _⟩ => ⟨S1024x16, .i32⟩
  | .hbm, ⟨24, _⟩ => ⟨S1024, .i32⟩
  | .hbm, ⟨25, _⟩ => ⟨S1024x1, .i32⟩
  | .hbm, ⟨26, _⟩ => ⟨S1024x16, .i32⟩
  | .hbm, ⟨27, _⟩ => ⟨S_, .f32⟩
  | .hbm, ⟨28, _⟩ => ⟨S1024x1000, .f32⟩
  | .hbm, ⟨29, _⟩ => ⟨S_, .i32⟩
  | .hbm, ⟨30, _⟩ => ⟨S1024x16, .i32⟩
  | .hbm, ⟨31, _⟩ => ⟨S1024x16, .i1⟩
  | .hbm, ⟨32, _⟩ => ⟨S_, .i32⟩
  | .hbm, ⟨33, _⟩ => ⟨S1024x16, .i32⟩
  | .hbm, ⟨34, _⟩ => ⟨S1024x16, .i32⟩
  | .hbm, ⟨35, _⟩ => ⟨S1024x16, .i32⟩
  | .hbm, ⟨36, _⟩ => ⟨S_, .i32⟩
  | .hbm, ⟨37, _⟩ => ⟨S1024x16, .i32⟩
  | .hbm, ⟨38, _⟩ => ⟨S1024x16, .i1⟩
  | .hbm, ⟨39, _⟩ => ⟨S_, .i32⟩
  | .hbm, ⟨40, _⟩ => ⟨S1024x16, .i32⟩
  | .hbm, ⟨41, _⟩ => ⟨S1024x16, .i32⟩
  | .hbm, ⟨42, _⟩ => ⟨S1024x16, .i32⟩
  | .hbm, ⟨43, _⟩ => ⟨S1024x16x1, .i32⟩
  | .hbm, ⟨44, _⟩ => ⟨S1024x16x1, .i32⟩
  | .hbm, ⟨45, _⟩ => ⟨S1024x16x2, .i32⟩
  | .hbm, ⟨46, _⟩ => ⟨S_, .f32⟩
  | .hbm, ⟨47, _⟩ => ⟨S1024x16, .f32⟩
  | .hbm, ⟨48, _⟩ => ⟨S1024x1000, .f32⟩
  | _, _ => ⟨S1024x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_c_4 : Ref sig .tc := ⟨.hbm, 21, rfl⟩
abbrev main_call0_v14 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_c : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_1 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]
-- ==== KernelIdeal.lean ====
abbrev S1024x64 : Shape := ⟨2, ![1024, 64]⟩
abbrev S100000x64 : Shape := ⟨2, ![100000, 64]⟩
abbrev S100000 : Shape := ⟨1, ![100000]⟩
abbrev S_ : Shape := ⟨0, ![]⟩
abbrev S1024 : Shape := ⟨1, ![1024]⟩
abbrev S1024x1 : Shape := ⟨2, ![1024, 1]⟩
abbrev S100352x64 : Shape := ⟨2, ![100352, 64]⟩
abbrev S1 : Shape := ⟨1, ![1]⟩
abbrev S1024x16 : Shape := ⟨2, ![1024, 16]⟩
abbrev S2048x64 : Shape := ⟨2, ![2048, 64]⟩
abbrev S1024x2048 : Shape := ⟨2, ![1024, 2048]⟩
abbrev S1024x32 : Shape := ⟨2, ![1024, 32]⟩
abbrev S1x1024x1 : Shape := ⟨3, ![1, 1024, 1]⟩
abbrev S1x1x1 : Shape := ⟨3, ![1, 1, 1]⟩
abbrev S1024x1024 : Shape := ⟨2, ![1024, 1024]⟩
abbrev S32x16 : Shape := ⟨2, ![32, 16]⟩
abbrev S16 : Shape := ⟨1, ![16]⟩
abbrev S1x16 : Shape := ⟨2, ![1, 16]⟩
abbrev S1x1024 : Shape := ⟨2, ![1, 1024]⟩
abbrev S1024x1000 : Shape := ⟨2, ![1024, 1000]⟩

abbrev nBuf : Table → Nat
  | .hbm => 18
  | .local .tc .vmem => 9
  | .local .scVector .vmem => 3
  | _ => 0

abbrev bufTy : (tb : Table) → Fin (nBuf tb) → BufTy
  | .hbm, ⟨0, _⟩ => ⟨S1024x64, .f32⟩
  | .hbm, ⟨1, _⟩ => ⟨S100000x64, .f32⟩
  | .hbm, ⟨2, _⟩ => ⟨S100000, .i32⟩
  | .hbm, ⟨3, _⟩ => ⟨S1024x64, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S1024x64, .f32⟩
  | .hbm, ⟨9, _⟩ => ⟨S1024x64, .f32⟩
  | .hbm, ⟨10, _⟩ => ⟨S_, .f32⟩
  | .hbm, ⟨11, _⟩ => ⟨S100352x64, .f32⟩
  | .hbm, ⟨12, _⟩ => ⟨S_, .i32⟩
  | .hbm, ⟨13, _⟩ => ⟨S1, .i32⟩
  | .hbm, ⟨14, _⟩ => ⟨S100352x64, .f32⟩
  | .hbm, ⟨15, _⟩ => ⟨S1024x16, .i32⟩
  | .hbm, ⟨16, _⟩ => ⟨S1024x1024, .f32⟩
  | .hbm, ⟨17, _⟩ => ⟨S1024x1000, .f32⟩
  | .local .tc .vmem, ⟨0, _⟩ => ⟨S1024x64, .f32⟩
  | .local .tc .vmem, ⟨1, _⟩ => ⟨S2048x64, .f32⟩
  | .local .tc .vmem, ⟨2, _⟩ => ⟨S2048x64, .f32⟩
  | .local .tc .vmem, ⟨3, _⟩ => ⟨S1024x16, .i32⟩
  | .local .tc .vmem, ⟨4, _⟩ => ⟨S1024x2048, .f32⟩
  | .local .tc .vmem, ⟨5, _⟩ => ⟨S1024x32, .f32⟩
  | .local .tc .vmem, ⟨6, _⟩ => ⟨S1024x32, .i32⟩
  | .local .tc .vmem, ⟨7, _⟩ => ⟨S1024x16, .f32⟩
  | .local .tc .vmem, ⟨8, _⟩ => ⟨S1024x16, .i32⟩
  | .local .scVector .vmem, ⟨0, _⟩ => ⟨S100000, .i32⟩
  | .local .scVector .vmem, ⟨1, _⟩ => ⟨S32x16, .i32⟩
  | .local .scVector .vmem, ⟨2, _⟩ => ⟨S1024, .f32⟩
  | _, _ => ⟨S1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v6_scv : Ref sig .scVector := ⟨.hbm, 15, rfl⟩
abbrev main_arg2_scv : Ref sig .scVector := ⟨.hbm, 2, rfl⟩
abbrev main_v7_scv : Ref sig .scVector := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem1_1 : DmaSem sig := 2
abbrev cc0_sem2_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 49], ![false, false]⟩

@[reducible] def k0_t1_loop : Scf.Loop 32 :=
  let c0_i32_21 : BitVec 32 := 0#32
  let c10_i32 : BitVec 32 := 10#32
  let v39 : BitVec 32 := Scalar.addi c0_i32_21 c10_i32
  let c1_i32 : BitVec 32 := 1#32
  ⟨c0_i32_21, v39, c1_i32⟩
def k0_cond5 (i : grid0.Coords) : BitVec 1 :=
  let arg1 : BitVec 32 := BitVec.ofNat 32 (i 1).val
  let c48_i32_14 : BitVec 32 := 48#32
  let v28 : BitVec 1 := Scalar.cmpi .eq arg1 c48_i32_14
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_8_r1 : BitVec 32 := 0#32
  ![v2.toNat, 0]
@[reducible] def k1_t1_loop : Scf.Loop 32 :=
  let c0_i32_1 : BitVec 32 := 0#32
  let c64_i32 : BitVec 32 := 64#32
  let v5 : BitVec 32 := Scalar.addi c0_i32_1 c64_i32
  let c1_i32 : BitVec 32 := 1#32
  ⟨c0_i32_1, v5, c1_i32⟩
def k1_off2 (k1_t1 : Fin k1_t1_loop.trips) : Fin 1 → Nat :=
  let c0_i32_1 : BitVec 32 := 0#32
  let c1_i32 : BitVec 32 := 1#32
  let arg8 : BitVec 32 := Scf.iv c0_i32_1 c1_i32 k1_t1
  let c16_i32 : BitVec 32 := 16#32
  let v7 : BitVec 32 := Scalar.muli arg8 c16_i32
  let v8 : Index := Scalar.indexCast v7
  ![v8.toNat]
@[reducible] def k1_t2_loop : Scf.Loop 32 :=
  let c0_i32_4 : BitVec 32 := 0#32
  let c32_i32_5 : BitVec 32 := 32#32
  let v6 : BitVec 32 := Scalar.addi c0_i32_4 c32_i32_5
  let c1_i32_6 : BitVec 32 := 1#32
  ⟨c0_i32_4, v6, c1_i32_6⟩
def k1_off3 (k1_t2 : Fin k1_t2_loop.trips) : Fin 2 → Nat :=
  let c0_i32_4 : BitVec 32 := 0#32
  let c1_i32_6 : BitVec 32 := 1#32
  let arg8 : BitVec 32 := Scf.iv c0_i32_4 c1_i32_6 k1_t2
  let v7 : Index := Scalar.indexCast arg8
  let c0 : Index := 0#32
  ![v7.toNat, 0]

def k1_chk1 (v8 : IVec S16 32) : Prop :=
  (∀ a x, ((![v8] : Fin 1 → IVec S16 32) a x).toNat < S100000.size a)
theorem k1_idx1_inb : ∀ (v8 : IVec S16 32) (k1_hw1 : k1_chk1 v8), ∀ a x, ((![v8] : Fin 1 → IVec S16 32) a x).toNat < S100000.size a := fun v8 k1_hw1 => k1_hw1
def k1_off4 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_4 : BitVec 32 := 0#32
  let c1_i32_6 : BitVec 32 := 1#32
  let arg8 : BitVec 32 := Scf.iv c0_i32_4 c1_i32_6 k1_t2
  let v10 : BitVec 32 := Scalar.addi v2 arg8
  let c0_i32_8_r2 : BitVec 32 := 0#32
  ![v10.toNat, 0]

def k1_chk2 (v9 : IVec S16 32) : Prop :=
  (∀ a x, ((![v9] : Fin 1 → IVec S16 32) a x).toNat < S1024.size a) ∧
  (∀ a x, ((![v9] : Fin 1 → IVec S16 32) a x).toNat < S1024.size a)
theorem k1_idx2_inb : ∀ (v9 : IVec S16 32) (k1_hw2 : k1_chk2 v9), ∀ a x, ((![v9] : Fin 1 → IVec S16 32) a x).toNat < S1024.size a := fun v9 k1_hw2 => k1_hw2.1
theorem k1_idx3_inb : ∀ (v9 : IVec S16 32) (k1_hw2 : k1_chk2 v9), ∀ a x, ((![v9] : Fin 1 → IVec S16 32) a x).toNat < S1024.size a := fun v9 k1_hw2 => k1_hw2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x64 : Shape := ⟨2, ![1024, 64]⟩
abbrev S100000x64 : Shape := ⟨2, ![100000, 64]⟩
abbrev S100000 : Shape := ⟨1, ![100000]⟩
abbrev S_ : Shape := ⟨0, ![]⟩
abbrev S1024 : Shape := ⟨1, ![1024]⟩
abbrev S1024x1 : Shape := ⟨2, ![1024, 1]⟩
abbrev S64x100000 : Shape := ⟨2, ![64, 100000]⟩
abbrev S1024x100000 : Shape := ⟨2, ![1024, 100000]⟩
abbrev S1024x100000x1 : Shape := ⟨3, ![1024, 100000, 1]⟩
abbrev S1 : Shape := ⟨1, ![1]⟩
abbrev S1x1x1 : Shape := ⟨3, ![1, 1, 1]⟩
abbrev S1024x10 : Shape := ⟨2, ![1024, 10]⟩
abbrev S1024x1000 : Shape := ⟨2, ![1024, 1000]⟩
abbrev S1024x10x1 : Shape := ⟨3, ![1024, 10, 1]⟩
abbrev S1024x10x2 : Shape := ⟨3, ![1024, 10, 2]⟩

abbrev nBuf : Space → Nat
  | .hbm => 64
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S100000, .i32⟩
  | .hbm, ⟨3, _⟩ => ⟨S1024x64, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S1024x64, .f32⟩
  | .hbm, ⟨9, _⟩ => ⟨S1024x64, .f32⟩
  | .hbm, ⟨10, _⟩ => ⟨S64x100000, .f32⟩
  | .hbm, ⟨11, _⟩ => ⟨S1024x100000, .f32⟩
  | .hbm, ⟨12, _⟩ => ⟨S1024x100000, .f32⟩
  | .hbm, ⟨13, _⟩ => ⟨S1024x100000, .i32⟩
  | .hbm, ⟨14, _⟩ => ⟨S1024x100000, .f32⟩
  | .hbm, ⟨15, _⟩ => ⟨S1024x100000, .i32⟩
  | .hbm, ⟨16, _⟩ => ⟨S_, .i32⟩
  | .hbm, ⟨17, _⟩ => ⟨S1024x100000, .i32⟩
  | .hbm, ⟨18, _⟩ => ⟨S1024x100000, .i1⟩
  | .hbm, ⟨19, _⟩ => ⟨S_, .i32⟩
  | .hbm, ⟨20, _⟩ => ⟨S1024x100000, .i32⟩
  | .hbm, ⟨21, _⟩ => ⟨S1024x100000, .i32⟩
  | .hbm, ⟨22, _⟩ => ⟨S1024x100000, .i32⟩
  | .hbm, ⟨23, _⟩ => ⟨S1024x100000x1, .i32⟩
  | .hbm, ⟨24, _⟩ => ⟨S1, .i32⟩
  | .hbm, ⟨25, _⟩ => ⟨S_, .i32⟩
  | .hbm, ⟨26, _⟩ => ⟨S1024x100000x1, .i32⟩
  | .hbm, ⟨27, _⟩ => ⟨S1024x100000x1, .i1⟩
  | .hbm, ⟨28, _⟩ => ⟨S1x1x1, .i32⟩
  | .hbm, ⟨29, _⟩ => ⟨S1024x100000x1, .i32⟩
  | .hbm, ⟨30, _⟩ => ⟨S1024x100000x1, .i1⟩
  | .hbm, ⟨31, _⟩ => ⟨S1024x100000x1, .i1⟩
  | .hbm, ⟨32, _⟩ => ⟨S_, .i1⟩
  | .hbm, ⟨33, _⟩ => ⟨S1024x100000, .i1⟩
  | .hbm, ⟨34, _⟩ => ⟨S1024x100000, .i32⟩
  | .hbm, ⟨35, _⟩ => ⟨S_, .i32⟩
  | .hbm, ⟨36, _⟩ => ⟨S1024x100000, .i32⟩
  | .hbm, ⟨37, _⟩ => ⟨S1024x100000, .i32⟩
  | .hbm, ⟨38, _⟩ => ⟨S1024x10, .i32⟩
  | .hbm, ⟨39, _⟩ => ⟨S1024, .i32⟩
  | .hbm, ⟨40, _⟩ => ⟨S1024x1, .i32⟩
  | .hbm, ⟨41, _⟩ => ⟨S1024x10, .i32⟩
  | .hbm, ⟨42, _⟩ => ⟨S_, .f32⟩
  | .hbm, ⟨43, _⟩ => ⟨S1024x1000, .f32⟩
  | .hbm, ⟨44, _⟩ => ⟨S_, .i32⟩
  | .hbm, ⟨45, _⟩ => ⟨S1024x10, .i32⟩
  | .hbm, ⟨46, _⟩ => ⟨S1024x10, .i1⟩
  | .hbm, ⟨47, _⟩ => ⟨S_, .i32⟩
  | .hbm, ⟨48, _⟩ => ⟨S1024x10, .i32⟩
  | .hbm, ⟨49, _⟩ => ⟨S1024x10, .i32⟩
  | .hbm, ⟨50, _⟩ => ⟨S1024x10, .i32⟩
  | .hbm, ⟨51, _⟩ => ⟨S_, .i32⟩
  | .hbm, ⟨52, _⟩ => ⟨S1024x10, .i32⟩
  | .hbm, ⟨53, _⟩ => ⟨S1024x10, .i1⟩
  | .hbm, ⟨54, _⟩ => ⟨S_, .i32⟩
  | .hbm, ⟨55, _⟩ => ⟨S1024x10, .i32⟩
  | .hbm, ⟨56, _⟩ => ⟨S1024x10, .i32⟩
  | .hbm, ⟨57, _⟩ => ⟨S1024x10, .i32⟩
  | .hbm, ⟨58, _⟩ => ⟨S1024x10x1, .i32⟩
  | .hbm, ⟨59, _⟩ => ⟨S1024x10x1, .i32⟩
  | .hbm, ⟨60, _⟩ => ⟨S1024x10x2, .i32⟩
  | .hbm, ⟨61, _⟩ => ⟨S_, .f32⟩
  | .hbm, ⟨62, _⟩ => ⟨S1024x10, .f32⟩
  | .hbm, ⟨63, _⟩ => ⟨S1024x1000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_v1_0 : Ref sig .tc := ⟨.hbm, 14, rfl⟩
abbrev main_v6 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_c_0 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_c_1 : Ref sig .tc := ⟨.hbm, 24, rfl⟩
abbrev main_call2_c_2 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_3 : Ref sig .tc := ⟨.hbm, 32, rfl⟩
abbrev main_call2_v12 : Ref sig .tc := ⟨.hbm, 33, rfl⟩
abbrev main_call2_v13 : Ref sig .tc := ⟨.hbm, 34, rfl⟩
abbrev main_call2_c_4 : Ref sig .tc := ⟨.hbm, 35, rfl⟩
abbrev main_call2_v14 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst : Ref sig .tc := ⟨.hbm, 42, rfl⟩
abbrev main_v12 : Ref sig .tc := ⟨.hbm, 43, rfl⟩
abbrev main_c : Ref sig .tc := ⟨.hbm, 44, rfl⟩
abbrev main_v13 : Ref sig .tc := ⟨.hbm, 45, rfl⟩
abbrev main_v14 : Ref sig .tc := ⟨.hbm, 46, rfl⟩
abbrev main_c_0 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_c_1 : Ref sig .tc := ⟨.hbm, 51, rfl⟩
abbrev main_v18 : Ref sig .tc := ⟨.hbm, 52, rfl⟩
abbrev main_v19 : Ref sig .tc := ⟨.hbm, 53, rfl⟩
abbrev main_c_2 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_3 : Ref sig .tc := ⟨.hbm, 61, rfl⟩
abbrev main_v26 : Ref sig .tc := ⟨.hbm, 62, rfl⟩
abbrev main_v27 : Ref sig .tc := ⟨.hbm, 63, rfl⟩

abbrev nD : Nat := 1
abbrev τ : Topo := Topo.v7x

variable {F : FTy → Type} [FloatOps F]
-- ==== Proof.Lanes.lean ====
/-
  Facts about the operations of a label scatter that do not mention any program: storing one constant at the places the
  lanes name, and the index a squeezed row gets.
-/
module

public import Idealize.ShloMosaic.Lib.Pipeline.Value
public import Idealize.ShloMosaic.Lib.ValueIdxCore

@[expose] public section

noncomputable section

namespace Cert.Proof.Lanes

open Idealize.ShloMosaic Idealize.ShloMosaic.ValueIdx

variable {F : FTy → Type} [FloatOps F]

open Classical in
/-- Storing `c` over the lanes of a list, one after the other, leaves `c` exactly where one of them points. -/
theorem fold_fill {α ι κ : Type} (P : κ → ι → Prop) [∀ k j, Decidable (P k j)] (c : α) (l : List κ) (f : ι → α) (j : ι) :
    l.foldl (fun g k => fun j => if P k j then c else g j) f j = if ∃ k ∈ l, P k j then c else f j := by
  induction l generalizing f with
  | nil => simp
  | cons a l ih =>
    rw [List.foldl_cons, ih]
    by_cases h : ∃ k ∈ l, P k j
    · rw [if_pos h, if_pos (by obtain ⟨k, hk, hP⟩ := h; exact ⟨k, List.mem_cons_of_mem _ hk, hP⟩)]
    · rw [if_neg h]
      by_cases ha : P a j
      · rw [if_pos ha, if_pos ⟨a, List.mem_cons_self, ha⟩]
      · rw [if_neg ha, if_neg]
        rintro ⟨k, hk, hP⟩
        rcases List.mem_cons.mp hk with rfl | hk
        · exact ha hP
        · exact h ⟨k, hk, hP⟩

open Classical in
/-- An unmasked indexed store of one constant: the constant where some lane points, the old contents elsewhere. -/
theorem storeIdx_const {s : Shape} {e : EltTy} {d : Fin 1 → Nat} (f : Vec F s e) (idxs : Fin s.rank → IVec ⟨1, d⟩ 32) (c : Elt F e)
    (h : ∀ a x, (idxs a x).toNat < s.size a) (j : s.Idx) :
    storeIdx f idxs (fun _ => c) (fun _ => 1#1) false h j
      = if ∃ k : Fin (d 0), ∀ a, (j a).val = (idxs a (Shape.ofLane k)).toNat then c else f j := by
  have hstep : storeIdx f idxs (fun _ => c) (fun _ => 1#1) false h
      = (List.finRange (d 0)).foldl (fun g k => fun j => if ∀ a, (j a).val = (idxs a (Shape.ofLane k)).toNat then c else g j) f := by
    unfold storeIdx
    congr 1
    funext g k j
    simp [idxAt]
  rw [hstep]
  refine (fold_fill (fun k (j : s.Idx) => ∀ a, (j a).val = (idxs a (Shape.ofLane k)).toNat) c _ f j).trans ?_
  simp

/-- The index of a one-row block that its row, with the unit axis dropped, has at `j`. -/
theorem reshape_row {n : Nat} (h : (⟨1, ![n]⟩ : Shape).numel = (⟨2, ![1, n]⟩ : Shape).numel) (j : (⟨1, ![n]⟩ : Shape).Idx) :
    Shape.reshapeEquiv h j = ix2 0 (j 0) := by
  have e := shapeCast_dropUnit_apply (n := 1) ![n] (fun i : (⟨2, ![1, n]⟩ : Shape).Idx => i) h j
  refine Eq.trans e ?_
  funext a
  match a with
  | 0 => rfl
  | 1 => rfl

end Cert.Proof.Lanes

end
-- ==== Proof.Tile.lean ====
/-
  One tile's task of the label scatter, at a symbolic SparseCore and tile. Tile number `w` owns rows `32 * w` to
  `32 * w + 31` of the result. It copies the labels and its 32 rows of indices into its own memory, zeroes a row of 1024,
  and then for each of its rows stores ones at the row's labels, copies the row out, and stores zeros at the same places.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Lanes
public import proofs.«01_k».proof.Proof.Gen.ScatterIdeal
public import proofs.«01_k».proof.Proof.Gen.ScatterIdeal.Skeleton

@[expose] public section

noncomputable section

namespace Cert.Proof.Labels

open Cert.ScatterIdeal Cert.ScatterIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

-- the kernel's memrefs, spelt as the program passes them
local notation "iV" => (Memref.whole Cert.ScatterIdeal.main_arg0_scv : Memref Cert.ScatterIdeal.sig Kind.scVector Space.hbm Cert.ScatterIdeal.S1024x16 EltTy.i32)
local notation "yV" => (Memref.whole Cert.ScatterIdeal.main_arg1_scv : Memref Cert.ScatterIdeal.sig Kind.scVector Space.hbm Cert.ScatterIdeal.S100000 EltTy.i32)
local notation "oV" => (Memref.whole Cert.ScatterIdeal.main_v0_scv : Memref Cert.ScatterIdeal.sig Kind.scVector Space.hbm Cert.ScatterIdeal.S1024x1024 EltTy.f32)
local notation "sY" => (Memref.whole Cert.ScatterIdeal.cc0_scratch0 : Memref Cert.ScatterIdeal.sig Kind.scVector Space.vmem Cert.ScatterIdeal.S100000 EltTy.i32)
local notation "sI" => (Memref.whole Cert.ScatterIdeal.cc0_scratch1 : Memref Cert.ScatterIdeal.sig Kind.scVector Space.vmem Cert.ScatterIdeal.S32x16 EltTy.i32)
local notation "sR" => (Memref.whole Cert.ScatterIdeal.cc0_scratch2 : Memref Cert.ScatterIdeal.sig Kind.scVector Space.vmem Cert.ScatterIdeal.S1024 EltTy.f32)

/-- The indices, the labels and the padded result as locations of device `d`. -/
abbrev iLoc (d : Dev nD) : Loc nD τ sig := (SparseCore.T d).loc main_arg0
abbrev yLoc (d : Dev nD) : Loc nD τ sig := (SparseCore.T d).loc main_arg1
abbrev oLoc (d : Dev nD) : Loc nD τ sig := (SparseCore.T d).loc main_v0

variable [FloatOps F]

/-! ## What the kernel computes -/

/-- The label at place `n`. -/
def lab (yv : S100000.Idx → BitVec 32) (n : Nat) : Nat := if h : n < 100000 then (yv (ix1 ⟨n, h⟩)).toNat else 0

open Classical in
/-- The padded result: one at the labels the row's sixteen indices name, zero elsewhere. -/
def oneHot (ix : S1024x16.Idx → BitVec 32) (yv : S100000.Idx → BitVec 32) : S1024x1024.Idx → F .f32 :=
  fun x => if ∃ l : Fin 16, (x 1).val = lab yv (ix (ix2 (x 0) l)).toNat then Scalar.ofBits .f32 0x3F800000#32 else Scalar.ofBits .f32 0x00000000#32

/-- Every index names a label, and every label a column of the padded result. -/
def InRange (ix : S1024x16.Idx → BitVec 32) (yv : S100000.Idx → BitVec 32) : Prop :=
  (∀ x, (ix x).toNat < 100000) ∧ ∀ x, (yv x).toNat < 1024

theorem lab_lt {ix : S1024x16.Idx → BitVec 32} {yv : S100000.Idx → BitVec 32} (hr : InRange ix yv) (n : Nat) : lab yv n < 1024 := by
  unfold lab
  split
  · exact hr.2 _
  · omega

section Tile

variable (d : Dev nD) (L : grid0.Coords)

abbrev cV (L : grid0.Coords) : Fin τ.nSC := (L 0).castLE hcore0
abbrev jV (L : grid0.Coords) : Fin τ.nSub := (L 1).castLE hsub0

/-- The tile's number, and the rows it owns. -/
abbrev wid (L : grid0.Coords) : Nat := 2 * (L 1).val + (L 0).val

omit [FloatOps F] in
theorem wid_lt : wid L < 32 := by
  have h0 : (L 0).val < 2 := (L 0).isLt
  have h1 : (L 1).val < 16 := (L 1).isLt
  unfold wid; omega

/-- The rows of the result that tile `w` owns. -/
def blk (w : Nat) : Finset S1024x1024.Idx := Finset.univ.filter fun x => (x 0).val / 32 = w

omit [FloatOps F] in
theorem mem_blk {w : Nat} {x : S1024x1024.Idx} : x ∈ blk w ↔ (x 0).val / 32 = w := by simp [blk]

/-- The tile's rows of indices, and row `t` of the tile's part of the result, as the kernel slices them. -/
abbrev iRows (L : grid0.Coords) : Memref sig .scVector .hbm S32x16 .i32 :=
  (iV).slice (Rect.unit (s := S1024x16) (k0_off1 L) S32x16.size (k0_off1_inb L)) (fun _ => rfl)
abbrev oRow (L : grid0.Coords) (t : Fin k0_t2_loop.trips) : Memref sig .scVector .hbm S1024 .f32 :=
  ((oV).slice (Rect.unit (s := S1024x1024) (k0_off4 L t) S1x1024.size (k0_off4_inb L t)) (fun _ => rfl)).squeeze S1024 squeezes_S1x1024_S1024

omit [FloatOps F] in
theorem trips1 : k0_t1_loop.trips = 64 := by decide +kernel
omit [FloatOps F] in
theorem trips2 : k0_t2_loop.trips = 32 := by decide +kernel

omit [FloatOps F] in
theorem trip_lt (t : Fin k0_t2_loop.trips) : t.val < 32 := lt_of_lt_of_eq t.isLt trips2

omit [FloatOps F] in
theorem row_lt (t : Fin k0_t2_loop.trips) : 32 * wid L + t.val < 1024 := by
  have h := wid_lt L
  have ht := trip_lt t
  omega

omit [FloatOps F] in
/-- Where row `t`'s element `j` sits in the result. -/
theorem oRow_emb (t : Fin k0_t2_loop.trips) (j : S1024.Idx) :
    (oRow L t).view.emb j = (ix2 ⟨32 * wid L + t.val, row_lt L t⟩ (j 0) : S1024x1024.Idx) := by
  show (Rect.unit (s := S1024x1024) (k0_off4 L t) S1x1024.size (k0_off4_inb L t)).emb (Shape.reshapeEquiv squeezes_S1x1024_S1024.numel_eq j) = _
  rw [Lanes.reshape_row]
  funext a
  apply Fin.ext
  refine (Rect.emb_apply _ _ _).trans ?_
  match a with
  | 0 => simp [k0_off4_eq, wid]; omega
  | 1 => simp [k0_off4_eq]

omit [FloatOps F] in
theorem mem_oRow (t : Fin k0_t2_loop.trips) (x : S1024x1024.Idx) :
    x ∈ (oRow L t).view.set ↔ (x 0).val = 32 * wid L + t.val := by
  constructor
  · intro h
    obtain ⟨j, -, rfl⟩ := Finset.mem_map.mp h
    rw [oRow_emb]
  · intro h
    have e : x = (oRow L t).view.emb (ix1 (x 1) : S1024.Idx) := by
      rw [oRow_emb]
      funext a
      match a with
      | 0 => exact Fin.ext h
      | 1 => rfl
    rw [e]
    exact View.emb_mem_set _ _

omit [FloatOps F] in
theorem oRow_sub (t : Fin k0_t2_loop.trips) : (oRow L t).view.set ⊆ blk (wid L) := by
  intro x hx
  have h := (mem_oRow L t x).mp hx
  have ht := trip_lt t
  rw [mem_blk]; omega

omit [FloatOps F] in
/-- Where element `(k, l)` of the tile's rows of indices sits among all of them. -/
theorem iRows_emb (j : S32x16.Idx) (h : 32 * wid L + (j 0).val < 1024) :
    (iRows L).view.emb j = (ix2 ⟨32 * wid L + (j 0).val, h⟩ (j 1) : S1024x16.Idx) := by
  show (Rect.unit (s := S1024x16) (k0_off1 L) S32x16.size (k0_off1_inb L)).emb j = _
  funext a
  apply Fin.ext
  refine (Rect.emb_apply _ _ _).trans ?_
  match a with
  | 0 => simp [k0_off1_eq, wid]; omega
  | 1 => simp [k0_off1_eq]

/-! ## The tile's own memory and counters -/

abbrev cA (d : Dev nD) (L : grid0.Coords) : GSem nD τ sig := (V d (cV L) (jV L), .dma cc0_scoped0.sem)
abbrev cB (d : Dev nD) (L : grid0.Coords) : GSem nD τ sig := (V d (cV L) (jV L), .dma cc0_scoped1.sem)
abbrev cC (d : Dev nD) (L : grid0.Coords) : GSem nD τ sig := (V d (cV L) (jV L), .dma cc0_scoped2.sem)

omit [FloatOps F] in
theorem ownSems_tile :
    (ownSems0 (V d (cV L) (jV L)) : sProp 𝕄)
      = iprop(semVal (cA d L) 0 ∗ semVal (cB d L) 0 ∗ semVal (cC d L) 0
          ∗ bigSep ((((ownCells (V d (cV L) (jV L))).erase (cA d L)).erase (cB d L)).erase (cC d L)) fun g => semVal g 0) := by
  have hA : cA d L ∈ ownCells (V d (cV L) (jV L)) := (mem_ownCells (g := cA d L)).mpr ⟨rfl, by
    show (SemLoc.dma cc0_scoped0.sem : SemLoc sig).isScoped .scVector = true; decide⟩
  have hB : cB d L ∈ ownCells (V d (cV L) (jV L)) := (mem_ownCells (g := cB d L)).mpr ⟨rfl, by
    show (SemLoc.dma cc0_scoped1.sem : SemLoc sig).isScoped .scVector = true; decide⟩
  have hC : cC d L ∈ ownCells (V d (cV L) (jV L)) := (mem_ownCells (g := cC d L)).mpr ⟨rfl, by
    show (SemLoc.dma cc0_scoped2.sem : SemLoc sig).isScoped .scVector = true; decide⟩
  have hBA : cB d L ≠ cA d L := by simp [cA, cB]; decide
  have hCA : cC d L ≠ cA d L := by simp [cA, cC]; decide
  have hCB : cC d L ≠ cB d L := by simp [cB, cC]; decide
  unfold SparseCore.Cfg.ownSems0
  rw [SparseCore.bigSep_erase' hA, SparseCore.bigSep_erase' (Finset.mem_erase.mpr ⟨hBA, hB⟩),
    SparseCore.bigSep_erase' (Finset.mem_erase.mpr ⟨hCB, Finset.mem_erase.mpr ⟨hCA, hC⟩⟩)]

omit [FloatOps F] in
theorem ownBufs_tile :
    (ownBufs (V d (cV L) (jV L)) : sProp 𝕄)
      = iprop((∃ f, (sY).view.loc (V d (cV L) (jV L)) ↦{fullShare} f) ∗ (∃ f, (sI).view.loc (V d (cV L) (jV L)) ↦{fullShare} f)
          ∗ (∃ f, (sR).view.loc (V d (cV L) (jV L)) ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have h0 := SparseCore.Cfg.mem_ownRefs_of_owner (p := Proc.scVector (cV L) (jV L)) (b := (Proc.scVector (cV L) (jV L)).devRef cc0_scratch0) rfl
  have h1 := SparseCore.Cfg.mem_ownRefs_of_owner (p := Proc.scVector (cV L) (jV L)) (b := (Proc.scVector (cV L) (jV L)).devRef cc0_scratch1) rfl
  have h2 := SparseCore.Cfg.mem_ownRefs_of_owner (p := Proc.scVector (cV L) (jV L)) (b := (Proc.scVector (cV L) (jV L)).devRef cc0_scratch2) rfl
  have n10 : (Proc.scVector (cV L) (jV L)).devRef cc0_scratch1 ≠ (Proc.scVector (cV L) (jV L)).devRef cc0_scratch0 :=
    fun e => absurd (Proc.devRef_injective _ e) (show (cc0_scratch1 : Ref sig .scVector) ≠ cc0_scratch0 by decide)
  have n20 : (Proc.scVector (cV L) (jV L)).devRef cc0_scratch2 ≠ (Proc.scVector (cV L) (jV L)).devRef cc0_scratch0 :=
    fun e => absurd (Proc.devRef_injective _ e) (show (cc0_scratch2 : Ref sig .scVector) ≠ cc0_scratch0 by decide)
  have n21 : (Proc.scVector (cV L) (jV L)).devRef cc0_scratch2 ≠ (Proc.scVector (cV L) (jV L)).devRef cc0_scratch1 :=
    fun e => absurd (Proc.devRef_injective _ e) (show (cc0_scratch2 : Ref sig .scVector) ≠ cc0_scratch1 by decide)
  unfold SparseCore.Cfg.ownBufs
  refine (SparseCore.bigSep_erase' h0).trans ?_
  rw [SparseCore.bigSep_erase' (Finset.mem_erase.mpr ⟨n10, h1⟩),
    SparseCore.bigSep_erase' (Finset.mem_erase.mpr ⟨n21, Finset.mem_erase.mpr ⟨n20, h2⟩⟩)]

/-! ## The task -/

variable (ix : S1024x16.Idx → BitVec 32) (yv : S100000.Idx → BitVec 32)

/-- What the task is handed: read shares of the indices and the labels, and its rows of the result. -/
abbrev iPts (d : Dev nD) (w : Nat) : sProp 𝕄 := iLoc d ↦{Transfers.shareTokN fullShare w} ix
abbrev yPts (d : Dev nD) (w : Nat) : sProp 𝕄 := yLoc d ↦{Transfers.shareTokN fullShare w} yv
abbrev oPts (d : Dev nD) (w : Nat) (f : S1024x1024.Idx → F .f32) : sProp 𝕄 := oLoc d ↦[blk w]{fullShare} f

/-- The row of zeros filled up to element `16 * k`. -/
def zeroed (k : Nat) (f : S1024.Idx → F .f32) : Prop := ∀ j, (j 0).val < 16 * k → f j = Scalar.ofBits .f32 0x00000000#32

open Classical in
/-- Row `t` of the tile's part of the result. -/
def hotRow (r : Fin 1024) : S1024.Idx → F .f32 :=
  fun j => if ∃ l : Fin 16, (j 0).val = lab yv (ix (ix2 r l)).toNat then Scalar.ofBits .f32 0x3F800000#32 else Scalar.ofBits .f32 0x00000000#32

omit [FloatOps F] in
/-- The lane's index of a vector of sixteen. -/
theorem ofLane_eq (l : Fin 16) : (Shape.ofLane (d := ![16]) l : S16.Idx) = ix1 l := by
  funext a
  match a with
  | 0 => rfl

/-- Storing ones at a row's labels over zeros makes that row's one-hot row. -/
theorem store_ones (r : Fin 1024) (v9 : IVec S16 32) (hv : ∀ l : Fin 16, (v9 (ix1 l)).toNat = lab yv (ix (ix2 r l)).toNat)
    (h : ∀ a x, ((![v9] : Fin 1 → IVec S16 32) a x).toNat < S1024.size a) :
    storeIdx (F := F) (e := .f32) (fun _ => Scalar.ofBits .f32 0x00000000#32) ![v9] (k0_pay2 (F := F)) (fun _ => 1#1) false h = hotRow (F := F) ix yv r := by
  classical
  funext j
  refine (Lanes.storeIdx_const _ _ _ h j).trans ?_
  unfold hotRow
  refine if_congr (exists_congr fun l => ?_) rfl rfl
  rw [← hv l]
  exact ⟨fun e => (e 0).trans (congrArg (fun x => (v9 x).toNat) (ofLane_eq l)), fun e a => match a with
    | 0 => e.trans (congrArg (fun x => (v9 x).toNat) (ofLane_eq l)).symm⟩

/-- Storing zeros at the same labels brings the row of zeros back. -/
theorem store_zeros (r : Fin 1024) (v9 : IVec S16 32) (hv : ∀ l : Fin 16, (v9 (ix1 l)).toNat = lab yv (ix (ix2 r l)).toNat)
    (h : ∀ a x, ((![v9] : Fin 1 → IVec S16 32) a x).toNat < S1024.size a) :
    storeIdx (F := F) (e := .f32) (hotRow (F := F) ix yv r) ![v9] (k0_pay1 (F := F)) (fun _ => 1#1) false h = fun _ => Scalar.ofBits .f32 0x00000000#32 := by
  classical
  funext j
  refine (Lanes.storeIdx_const _ _ _ h j).trans ?_
  split
  · rfl
  · rename_i hn
    unfold hotRow
    rw [if_neg]
    rintro ⟨l, hl⟩
    rw [← hv l] at hl
    exact hn ⟨l, fun a => match a with
      | 0 => hl.trans (congrArg (fun x => (v9 x).toNat) (ofLane_eq l)).symm⟩

/-- One step of zeroing the row. -/
theorem zeroed_succ (k : Fin k0_t1_loop.trips) (f : S1024.Idx → F .f32) (hf : zeroed k.val f) :
    zeroed (k.val + 1) ((sR).view.writes (Elt F) f [⟨Rect.unit (s := S1024) (k0_off2 k) S16.size (k0_off2_inb k), k0_pay1 (F := F)⟩]) := by
  intro j hj
  rw [View.writes_singleton]
  by_cases h : 16 * k.val ≤ (j 0).val
  · have e : j = ((sR).view.slice (Rect.unit (s := S1024) (k0_off2 k) S16.size (k0_off2_inb k))).emb (ix1 ⟨(j 0).val - 16 * k.val, by omega⟩ : S16.Idx) := by
      funext a
      match a with
      | 0 =>
        apply Fin.ext
        refine Eq.trans ?_ (Rect.emb_apply _ _ _).symm
        simp only [k0_off2_eq, Rect.unit]
        show (j 0).val = 16 * k.val + 1 * ((j 0).val - 16 * k.val)
        omega
    rw [e]
    exact (View.write_emb_of_mem _ _ (Finset.mem_univ _)).trans rfl
  · rw [View.write_of_not_mem]
    · exact hf j (by omega)
    · intro hm
      obtain ⟨x, -, hx⟩ := Finset.mem_map.mp hm
      apply h
      rw [← hx]
      refine le_of_le_of_eq ?_ (Rect.emb_apply _ _ _).symm
      simp [k0_off2_eq]

def inv1 (k : Nat) (_ : PUnit) : sProp 𝕄 := iprop(∃ f : S1024.Idx → F .f32, ⌜zeroed k f⌝ ∗ ((sR).view.loc (V d (cV L) (jV L)) ↦{fullShare} f))

omit [FloatOps F] in
theorem tileRow_lt (j : S32x16.Idx) : 32 * wid L + (j 0).val < 1024 := by
  have h := wid_lt L
  have hj : (j 0).val < 32 := (j 0).isLt
  omega

/-- Before row `k`: the labels and the tile's indices in place, the row all zero, the rows before `k` written. -/
def inv2 (gY : S100000.Idx → BitVec 32) (gI : S32x16.Idx → BitVec 32) (O : CellTallies nD τ sig (HIx 1)) (k : Nat) (_ : PUnit) : sProp 𝕄 :=
  iprop(Transfers.MayWaits (V d (cV L) (jV L)) (default : HIx 1) O
    ∗ ((sY).view.loc (V d (cV L) (jV L)) ↦{fullShare} gY)
    ∗ ((sI).view.loc (V d (cV L) (jV L)) ↦{fullShare} gI)
    ∗ ((sR).view.loc (V d (cV L) (jV L)) ↦{fullShare} (fun _ => Scalar.ofBits .f32 0x00000000#32 : S1024.Idx → F .f32))
    ∗ (∃ f : S1024x1024.Idx → F .f32, ⌜∀ x, (x 0).val / 32 = wid L → (x 0).val < 32 * wid L + k → f x = oneHot ix yv x⌝ ∗ oPts d (wid L) f)
    ∗ semVal (cC d L) 0
    ∗ ∃ W', owes (V d (cV L) (jV L)) O W')

/-- The row held whole, as the indexed store holds it. -/
theorem row_access (f : S1024.Idx → F .f32) :
    (((sR).access (.whole S1024)).loc (V d (cV L) (jV L)) ↦[((sR).access (.whole S1024)).set]{fullShare} f : sProp 𝕄)
      = ((sR).view.loc (V d (cV L) (jV L)) ↦{fullShare} f) := by
  have e : ((sR).access (.whole S1024)).set = Finset.univ := Finset.eq_univ_iff_forall.mpr fun x =>
    Finset.mem_map.mpr ⟨x, Finset.mem_univ _, Rect.emb_whole_apply S1024 x⟩
  rw [e]

/-- Writing the row whole leaves the values written. -/
theorem row_write (f g : S1024.Idx → F .f32) : ((sR).access (.whole S1024)).write (Elt F) f g Finset.univ = g := by
  funext x
  have e := View.write_emb_of_mem (v := (sR).access (.whole S1024)) (Val := Elt F) f g (Finset.mem_univ x)
  have hx : ((sR).access (.whole S1024)).emb x = x := Rect.emb_whole_apply S1024 x
  rw [hx] at e
  exact e

/-- The row after the ones are stored. -/
theorem row_ones (r : Fin 1024) (v9 : IVec S16 32) (hv : ∀ l : Fin 16, (v9 (ix1 l)).toNat = lab yv (ix (ix2 r l)).toNat)
    (h : ∀ a x, ((![v9] : Fin 1 → IVec S16 32) a x).toNat < S1024.size a) :
    (((sR).access (.whole S1024)).loc (V d (cV L) (jV L)) ↦[((sR).access (.whole S1024)).set]{fullShare}
        ((sR).access (.whole S1024)).write (Elt F) (fun _ => Scalar.ofBits .f32 0x00000000#32 : S1024.Idx → F .f32)
          (storeIdx (((sR).access (.whole S1024)).read (Elt F) (fun _ => Scalar.ofBits .f32 0x00000000#32 : S1024.Idx → F .f32)) ![v9] (k0_pay2 (F := F)) (fun _ => 1#1) false h) Finset.univ : sProp 𝕄)
      = ((sR).view.loc (V d (cV L) (jV L)) ↦{fullShare} hotRow (F := F) ix yv r) := by
  rw [← row_access]
  congr 1
  exact (row_write _ _).trans (store_ones ix yv r v9 hv h)

/-- The row after the zeros are stored at the same places. -/
theorem row_zeros (r : Fin 1024) (v9 : IVec S16 32) (hv : ∀ l : Fin 16, (v9 (ix1 l)).toNat = lab yv (ix (ix2 r l)).toNat)
    (h : ∀ a x, ((![v9] : Fin 1 → IVec S16 32) a x).toNat < S1024.size a) :
    (((sR).access (.whole S1024)).loc (V d (cV L) (jV L)) ↦[((sR).access (.whole S1024)).set]{fullShare}
        ((sR).access (.whole S1024)).write (Elt F) (hotRow (F := F) ix yv r)
          (storeIdx (((sR).access (.whole S1024)).read (Elt F) (hotRow (F := F) ix yv r)) ![v9] (k0_pay1 (F := F)) (fun _ => 1#1) false h) Finset.univ : sProp 𝕄)
      = ((sR).view.loc (V d (cV L) (jV L)) ↦{fullShare} (fun _ => Scalar.ofBits .f32 0x00000000#32 : S1024.Idx → F .f32)) := by
  rw [← row_access]
  congr 1
  have e : ((sR).access (.whole S1024)).read (Elt F) (hotRow (F := F) ix yv r) = hotRow (F := F) ix yv r :=
    funext fun x => congrArg (hotRow (F := F) ix yv r) (Rect.emb_whole_apply S1024 x)
  rw [e]
  exact (row_write _ _).trans (store_zeros ix yv r v9 hv h)

/-- The result with row `t` of the tile's part written. -/
def withRow (L : grid0.Coords) (t : Nat) (f : S1024x1024.Idx → F .f32) : S1024x1024.Idx → F .f32 :=
  fun x => if (x 0).val = 32 * wid L + t then oneHot ix yv x else f x

theorem rows_succ (L : grid0.Coords) (t : Fin k0_t2_loop.trips) (f : S1024x1024.Idx → F .f32)
    (hf : ∀ x, (x 0).val / 32 = wid L → (x 0).val < 32 * wid L + t.val → f x = oneHot ix yv x) :
    ∀ x, (x 0).val / 32 = wid L → (x 0).val < 32 * wid L + (t.val + 1) → withRow (F := F) ix yv L t.val f x = oneHot ix yv x := by
  intro x h1 h2
  unfold withRow
  split
  · rfl
  · exact hf x h1 (by omega)

/-- The row copied out is the result's row. -/
theorem row_out (t : Fin k0_t2_loop.trips) (f : S1024x1024.Idx → F .f32) (g : S1024.Idx → F .f32)
    (hg : g = hotRow (F := F) ix yv ⟨32 * wid L + t.val, row_lt L t⟩) :
    ((oRow L t).view.loc (V d (cV L) (jV L)) ↦[(oRow L t).view.set]{fullShare}
        (oRow L t).view.writes (Elt F) f [⟨Rect.whole S1024, g⟩] : sProp 𝕄)
      = (oLoc d ↦[(oRow L t).view.set]{fullShare} withRow (F := F) ix yv L t.val f) := by
  refine pointsTo_congr fun x hx => ?_
  have hx0 := (mem_oRow L t x).mp hx
  obtain ⟨j, -, rfl⟩ := Finset.mem_map.mp hx
  have e1 : withRow (F := F) ix yv L t.val f ((oRow L t).view.emb j) = hotRow (F := F) ix yv ⟨32 * wid L + t.val, row_lt L t⟩ j := by
    unfold withRow
    rw [if_pos hx0, oRow_emb]
    rfl
  refine Eq.trans ?_ e1.symm
  rw [View.writes_singleton]
  have h := View.write_emb_of_mem (v := (oRow L t).view.slice (Rect.whole S1024)) (Val := Elt F) f g (Finset.mem_univ j)
  have hj : ((oRow L t).view.slice (Rect.whole S1024)).emb j = (oRow L t).view.emb j := congrArg (oRow L t).view.emb (Rect.emb_whole_apply S1024 j)
  rw [hj] at h
  rw [← hg]
  exact h

theorem rest_out (t : Fin k0_t2_loop.trips) (f : S1024x1024.Idx → F .f32) :
    (oLoc d ↦[blk (wid L) \ (oRow L t).view.set]{fullShare} f : sProp 𝕄)
      = (oLoc d ↦[blk (wid L) \ (oRow L t).view.set]{fullShare} withRow (F := F) ix yv L t.val f) := by
  refine pointsTo_congr fun x hx => ?_
  have hx0 := mt (mem_oRow L t x).mpr (Finset.mem_sdiff.mp hx).2
  unfold withRow
  rw [if_neg hx0]

theorem tile_body (hF : (K (F := F)).Facts) (hr : InRange ix yv) (O : CellTallies nD τ sig (HIx 1)) (W : Waits sig (HIx 1)) (hO : ∀ g, O g none = 0) :
    iprop(levAts (K (F := F)).L (K (F := F)).lev ∗ emp
        ∗ (iPts (F := F) ix d (wid L) ∗ yPts (F := F) yv d (wid L) ∗ ∃ f, oPts (F := F) d (wid L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_scatter_kernel L iV (Memref.isWhole_whole _) yV (Memref.isWhole_whole _) oV (Memref.isWhole_whole _)
            sY (Memref.isWhole_whole _) sI (Memref.isWhole_whole _) sR (Memref.isWhole_whole _) cc0_scoped0 cc0_scoped1 cc0_scoped2)
          fun _ => iprop((iPts (F := F) ix d (wid L) ∗ yPts (F := F) yv d (wid L) ∗ oPts d (wid L) (oneHot ix yv))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc0_scatter_kernel_eq_skeleton]; unfold cc0_scatter_kernel_skel
  rw [(K (F := F)).scopedBufs_V hF d (cV L) (jV L), SparseCore.Cfg.scopedSems0_V (Val := Elt F) d (cV L) (jV L), ownSems_tile, ownBufs_tile]
  iintro ⟨#Hlv, -, ⟨Hi, Hy, ⟨%fo, Ho⟩⟩, ⟨⟨%f0, Hs0⟩, ⟨%f1, Hs1⟩, ⟨%f2, Hs2⟩, Hbufs⟩, ⟨HA, HB, HC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iPts (F := F) ix d (wid L) : sProp 𝕄) = ((iV).view.loc (V d (cV L) (jV L)) ↦{Transfers.shareTokN fullShare (wid L)} ix) from rfl)) $$ Hi
  ihave Hy' := (Entails.of_eq (show (yPts (F := F) yv d (wid L) : sProp 𝕄) = ((yV).view.loc (V d (cV L) (jV L)) ↦{Transfers.shareTokN fullShare (wid L)} yv) from rfl)) $$ Hy
  sl_exec
  sl_for (inv1 d L) $$ [Hs2]
  case region =>
    intro k _
    unfold inv1
    iintro ⟨%f, %hf, Hs⟩
    sl_exec
    sl_step
    iexists _; isplitr
    swap; · iexact Hs
    ipureintro; exact zeroed_succ k f hf
  · unfold inv1
    iexists f2; isplitr
    · ipureintro; intro j hj; omega
    · iexact Hs2
  iintro %_ HI
  unfold inv1
  icases HI with ⟨%f, %hf, Hs2⟩
  have hz : f = (fun _ => Scalar.ofBits .f32 0x00000000#32 : S1024.Idx → F .f32) := by
    funext j
    have hj : (j 0).val < 1024 := (j 0).isLt
    exact hf j (lt_of_lt_of_eq hj (by rw [show Scf.trips k0_t1_loop.lb k0_t1_loop.ub k0_t1_loop.st = 64 from trips1]))
  subst hz
  sl_exec
  have hY : View.write (Elt F) (sY).view f0 (tile_body.sl.dma0 (F := F) yv) Finset.univ = yv :=
    funext fun x => (View.write_emb_of_mem (v := (sY).view) f0 _ (Finset.mem_univ x)).trans rfl
  have hI : View.write (Elt F) (sI).view f1 (tile_body.sl.dma0_1 (F := F) L ix) Finset.univ
      = fun j : S32x16.Idx => ix (ix2 ⟨32 * wid L + (j 0).val, tileRow_lt L j⟩ (j 1)) :=
    funext fun x => (View.write_emb_of_mem (v := (sI).view) f1 _ (Finset.mem_univ x)).trans (congrArg ix (iRows_emb L x (tileRow_lt L x)))
  sl_for (inv2 d L ix yv yv (fun j => ix (ix2 ⟨32 * wid L + (j 0).val, tileRow_lt L j⟩ (j 1))) O) $$ [Hmw Hs0 Hs1 Hs2 Ho HC HO]
  case region =>
    intro k _
    unfold inv2
    iintro ⟨Hmw, Hs0, Hs1, Hs2, ⟨%f, %hf, Ho⟩, HC, ⟨%W', HO⟩⟩
    sl_exec
    have hv8 : ∀ l : Fin 16, tile_body.sl.v8 (F := F) L ix k (ix1 l) = ix (ix2 ⟨32 * wid L + k.val, row_lt L k⟩ l) := by
      intro l
      show ix (ix2 ⟨32 * wid L + (((Rect.unit (s := S32x16) (k0_off3 k) S1x16.size (k0_off3_inb k)).emb (Shape.reshapeEquiv shapeCasts_S1x16_S16 (ix1 l))) 0).val, _⟩
        (((Rect.unit (s := S32x16) (k0_off3 k) S1x16.size (k0_off3_inb k)).emb (Shape.reshapeEquiv shapeCasts_S1x16_S16 (ix1 l))) 1)) = _
      refine congrArg ix (funext fun a => Fin.ext ?_)
      rw [Lanes.reshape_row]
      match a with
      | 0 =>
        refine (congrArg (32 * wid L + ·) (Rect.emb_apply _ _ _)).trans ?_
        simp [k0_off3_eq]
      | 1 =>
        refine (Rect.emb_apply _ _ _).trans ?_
        simp [k0_off3_eq]
    generalize tile_body.sl.v8 (F := F) L ix k = v8 at hv8 ⊢
    have hc1 : k0_chk1 v8 := by
      intro a x
      match a with
      | 0 =>
        rw [eq_ix1 x]
        exact lt_of_eq_of_lt (congrArg BitVec.toNat (hv8 (x 0))) (hr.1 _)
    rw [wp_assume_of _ _ _ _ hc1]
    iapply (SparseCore.wp_vectorLoadIdx 𝒱₀ (V d (cV L) (jV L)) none Set.univ (base := sY) (S := Finset.univ) (q := fullShare) (Finset.subset_univ _)) $$ Hs0; iintro Hs0
    have hv9 : ∀ l : Fin 16, (loadIdx (((sY).access (.whole S100000)).read (Elt F) yv) ![v8] (k0_idx1_inb v8 hc1) (ix1 l)).toNat
        = lab yv (ix (ix2 ⟨32 * wid L + k.val, row_lt L k⟩ l)).toNat := by
      intro l
      have hl : (v8 (ix1 l)).toNat < 100000 := lt_of_eq_of_lt (congrArg BitVec.toNat (hv8 l)) (hr.1 _)
      have e : lab yv (ix (ix2 ⟨32 * wid L + k.val, row_lt L k⟩ l)).toNat = (yv (ix1 ⟨(v8 (ix1 l)).toNat, hl⟩)).toNat := by
        rw [← hv8 l]; unfold lab; rw [dif_pos hl]
      rw [e]
      refine congrArg (fun z => (yv z).toNat) (funext fun a => ?_)
      match a with
      | 0 =>
        have h0 := congrFun (Rect.emb_whole_apply S100000 (idxAt ![v8] (k0_idx1_inb v8 hc1) (ix1 l))) 0
        exact h0.trans rfl
    generalize loadIdx (((sY).access (.whole S100000)).read (Elt F) yv) ![v8] (k0_idx1_inb v8 hc1) = v9 at hv9 ⊢
    have hc2 : k0_chk2 v9 := by
      have h : ∀ a x, ((![v9] : Fin 1 → IVec S16 32) a x).toNat < S1024.size a := by
        intro a x
        match a with
        | 0 =>
          rw [eq_ix1 x]
          exact lt_of_eq_of_lt (hv9 (x 0)) (lab_lt hr _)
      exact ⟨h, h⟩
    rw [Prog.bind_lift, wp_assume_of _ _ _ _ hc2]
    ihave Hs2' := (Entails.of_eq (row_access (F := F) d L (fun _ => Scalar.ofBits .f32 0x00000000#32)).symm) $$ Hs2
    iapply (SparseCore.wp_vectorStoreIdx 𝒱₀ (V d (cV L) (jV L)) none Set.univ (base := sR)) $$ Hs2'; iintro Hs2'
    ihave Hs2 := (Entails.of_eq (row_ones (F := F) d L ix yv ⟨32 * wid L + k.val, row_lt L k⟩ v9 hv9 hc2.1)) $$ Hs2'
    ihave Ho' := (pointsTo_split_subset (oRow_sub L k)).1 $$ Ho
    icases Ho' with ⟨Hrow, Hrest⟩
    ihave Hrow' := (Entails.of_eq (show (oLoc d ↦[(oRow L k).view.set]{fullShare} f : sProp 𝕄)
      = ((oRow L k).view.loc (V d (cV L) (jV L)) ↦[(oRow L k).view.set]{fullShare} f) from rfl)) $$ Hrow
    sl_exec
    ihave Hs2' := (Entails.of_eq (row_access (F := F) d L (hotRow (F := F) ix yv ⟨32 * wid L + k.val, row_lt L k⟩)).symm) $$ Hs2
    iapply (SparseCore.wp_vectorStoreIdx 𝒱₀ (V d (cV L) (jV L)) none Set.univ (base := sR)) $$ Hs2'; iintro Hs2'
    ihave Hs2 := (Entails.of_eq (row_zeros (F := F) d L ix yv ⟨32 * wid L + k.val, row_lt L k⟩ v9 hv9 hc2.2)) $$ Hs2'
    sl_exec
    sl_step
    ihave Hrow := (Entails.of_eq (row_out (F := F) d L ix yv k f (tile_body.sl.dma0_2 (F := F) L ix yv k) rfl)) $$ Hrow'
    ihave Hrest' := (Entails.of_eq (rest_out (F := F) d L ix yv k f)) $$ Hrest
    ihave Ho := (pointsTo_split_subset (ℓ := oLoc d) (q := fullShare) (f := withRow (F := F) ix yv L k.val f) (oRow_sub L k)).2 $$ [Hrow Hrest']
    · isplitl [Hrow] <;> iassumption
    isplitl [Hmw]; · iexact Hmw
    isplitl [Hs0]; · iexact Hs0
    isplitl [Hs1]; · iexact Hs1
    isplitl [Hs2]; · iexact Hs2
    isplitl [Ho]
    · iexists _; isplitr
      swap; · iexact Ho
      ipureintro; exact rows_succ ix yv L k f hf
    isplitl [HC]; · iexact HC
    iexists _; iexact HO
  · unfold inv2
    isplitl [Hmw]; · iexact Hmw
    isplitl [Hs0]
    · iapply (Entails.of_eq (congrArg (fun g => ((sY).view.loc (V d (cV L) (jV L)) ↦{fullShare} g : sProp 𝕄)) hY)); iexact Hs0
    isplitl [Hs1]
    · iapply (Entails.of_eq (congrArg (fun g => ((sI).view.loc (V d (cV L) (jV L)) ↦{fullShare} g : sProp 𝕄)) hI)); iexact Hs1
    isplitl [Hs2]; · iexact Hs2
    isplitl [Ho]
    · iexists fo; isplitr
      · ipureintro; intro x h1 h2; omega
      · iexact Ho
    isplitl [HC]; · iexact HC
    iexists _; iexact HO
  iintro %_ HI
  unfold inv2
  icases HI with ⟨-, Hs0, Hs1, Hs2, ⟨%f, %hf, Ho⟩, HC, ⟨%W', HO⟩⟩
  sl_exec
  sl_step
  isplitl [Hi' Hy' Ho]
  · isplitl [Hi']; · iexact Hi'
    isplitl [Hy']; · iexact Hy'
    iapply (Entails.of_eq (pointsTo_congr (fun x hx => hf x (mem_blk.mp hx) (by
      have hx' := mem_blk.mp hx
      have ht : Scf.trips k0_t2_loop.lb k0_t2_loop.ub k0_t2_loop.st = 32 := trips2
      rw [ht]; omega)))); iexact Ho
  isplitl [Hs0 Hs1 Hs2 Hbufs]
  · isplitl [Hs0]; · iexists _; iexact Hs0
    isplitl [Hs1]; · iexists _; iexact Hs1
    isplitl [Hs2]; · iexists _; iexact Hs2
    iexact Hbufs
  isplitl [HA HB HC Hsems]
  · isplitl [HA]; · iexact HA
    isplitl [HB]; · iexact HB
    isplitl [HC]; · iexact HC
    iexact Hsems
  iexists W'; isplitr
  · ipureintro; intro p _
    rcases p.2 with _ | q
    · exact .inr (.inl rfl)
    · exact .inr (.inr (congrArg some (Subsingleton.elim q 0)))
  · iexact HO

end Tile

end Cert.Proof.Labels

end
-- ==== Proof.Launch.lean ====
/-
  The launch of the label scatter: its two SparseCores' thirty-two tiles each take read shares of the indices and the
  labels and thirty-two rows of the padded result, and bring them back with the rows written; @main then cuts the padded
  columns away. The run's result is `sliced (oneHot …)` of the arguments, at any float instance.
-/
module

public import proofs.«01_k».proof.Proof.Tile
public import Idealize.ShloMosaic.Lib.SparseCore.Launch

@[expose] public section

noncomputable section

namespace Cert.Proof.Labels

open Cert.ScatterIdeal Cert.ScatterIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

variable (m : (ℓ : Loc nD τ sig) → Buf (Elt F) ℓ) (ρ : Dev nD → PrngReg)

/-- The launch memory's indices and labels. -/
abbrev ixOf (d : Dev nD) : S1024x16.Idx → BitVec 32 := m (iLoc d)
abbrev yvOf (d : Dev nD) : S100000.Idx → BitVec 32 := m (yLoc d)

/-! ## What the handshakes carry -/

abbrev tileIn (d : Dev nD) (w : Nat) : sProp 𝕄 := iprop(iPts (F := F) (ixOf m d) d w ∗ yPts (F := F) (yvOf m d) d w ∗ ∃ f, oPts (F := F) d w f)
abbrev tileOut (d : Dev nD) (w : Nat) : sProp 𝕄 := iprop(iPts (F := F) (ixOf m d) d w ∗ yPts (F := F) (yvOf m d) d w ∗ oPts (F := F) d w (oneHot (ixOf m d) (yvOf m d)))

/-- Tile `i` of SparseCore `c` is number `2 * i + c`; a SparseCore is handed what its tiles are. -/
def P : (K (F := F)).Pay (nD := nD) (Val := Elt F) (Name := ℕ) (U := UU) where
  st := fun q d c => match q with | 0 => bigSep (Finset.univ : Finset (Fin 16)) fun i => tileIn m d (2 * i.val + c.val)
  dn := fun q d c => match q with | 0 => bigSep (Finset.univ : Finset (Fin 16)) fun i => tileOut m d (2 * i.val + c.val)
  go := fun q d c i => match q with | 0 => tileIn m d (2 * i.val + c.val)
  td := fun q d c i => match q with | 0 => tileOut m d (2 * i.val + c.val)
  x := fun _ _ => iprop(emp)

instance P_storable : (P (F := F) m).IsStorable where
  st q d c := match q with
    | 0 => (inferInstance : BI.Storable (upEmb : UEmb _ 𝕄) (bigSep (Finset.univ : Finset (Fin 16)) fun i => tileIn m d (2 * i.val + c.val)))
  dn q d c := match q with
    | 0 => (inferInstance : BI.Storable (upEmb : UEmb _ 𝕄) (bigSep (Finset.univ : Finset (Fin 16)) fun i => tileOut m d (2 * i.val + c.val)))
  go q d c i := match q with
    | 0 => (inferInstance : BI.Storable (upEmb : UEmb _ 𝕄) (tileIn m d (2 * i.val + c.val)))
  td q d c i := match q with
    | 0 => (inferInstance : BI.Storable (upEmb : UEmb _ 𝕄) (tileOut m d (2 * i.val + c.val)))

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_scatter_kernel (coordsV c s)
          (Memref.whole main_arg0_scv) (Memref.isWhole_whole _) (Memref.whole main_arg1_scv) (Memref.isWhole_whole _)
          (Memref.whole main_v0_scv) (Memref.isWhole_whole _) (Memref.whole cc0_scratch0) (Memref.isWhole_whole _)
          (Memref.whole cc0_scratch1) (Memref.isWhole_whole _) (Memref.whole cc0_scratch2) (Memref.isWhole_whole _)
          cc0_scoped0 cc0_scoped1 cc0_scoped2) ⟨⟩ c s := rfl

theorem tileObl (hF : (K (F := F)).Facts) (hr : ∀ d, InRange (ixOf m d) (yvOf m d)) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (ixOf m d) (yvOf m d) hF (hr d) O W hO

/-- A SparseCore's operands are its tiles'. -/
theorem vecSplit : (K (F := F)).VecSplit' (P m) 0 := by
  intro d c
  show (bigSep (Finset.univ : Finset (Fin 16)) fun i => tileIn m d (2 * i.val + c.val)) ⊢ |={Set.univ}=> iprop(
      (bigSep (Finset.univ : Finset (Fin 16)) fun i => tileIn m d (2 * i.val + c.val))
      ∗ ((bigSep (Finset.univ : Finset (Fin 16)) fun i => tileOut m d (2 * i.val + c.val))
          -∗ (bigSep (Finset.univ : Finset (Fin 16)) fun i => tileOut m d (2 * i.val + c.val))))
  iintro H; imodintro
  isplitl [H]; · iexact H
  iintro H; iexact H

/-! ## The launch element: the handshakes' rounds, nothing of the kernel's own -/

def u₀ : UU := (initOf (K (F := F)).hsCells (K (F := F)).hsToks, 1)

omit [FloatOps F] in
theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emps]; iempintro
  unfold P; dsimp only
  rw [show (bigSep Finset.univ fun _ : Thread nD τ => bigSep Finset.univ fun _ : Fin 1 => (iprop(emp) : sProp 𝕄)) = iprop(emp) from by
    rw [bigSep_congr fun _ _ => bigSep_emps _, bigSep_emps]]
  iempintro

/-! ## The operands split among the thirty-two tiles, and joined -/

omit [FloatOps F] in
/-- The tiles of the two SparseCores, numbered. -/
theorem bigSep_tiles (Φ : Nat → sProp 𝕄) :
    (bigSep (Finset.univ : Finset (Fin 2)) fun c => bigSep (Finset.univ : Finset (Fin 16)) fun i => Φ (2 * i.val + c.val))
      = bigSep (Finset.univ : Finset (Fin 32)) fun w => Φ w.val := by
  rw [bigSep_univ_comm, bigSep_univ_equiv (finProdFinEquiv : Fin 16 × Fin 2 ≃ Fin (16 * 2)) (fun w : Fin 32 => Φ w.val), bigSep_univ_prod]
  refine bigSep_congr fun i _ => bigSep_congr fun c _ => congrArg Φ ?_
  show 2 * i.val + c.val = c.val + 2 * i.val
  omega

theorem st0_eq (d : Dev nD) : (bigSep Finset.univ fun c : Fin ((K (F := F)).nCore 0) => (P m).st 0 d c) = bigSep (Finset.univ : Finset (Fin 32)) fun w => tileIn m d w.val :=
  bigSep_tiles (fun w => tileIn m d w)
theorem dn0_eq (d : Dev nD) : (bigSep Finset.univ fun c : Fin ((K (F := F)).nCore 0) => (P m).dn 0 d c) = bigSep (Finset.univ : Finset (Fin 32)) fun w => tileOut m d w.val :=
  bigSep_tiles (fun w => tileOut m d w)

omit [FloatOps F] in
theorem blk_disjoint : ∀ i ∈ (Finset.univ : Finset (Fin 32)), ∀ j ∈ (Finset.univ : Finset (Fin 32)), i ≠ j → Disjoint (blk i.val) (blk j.val) := by
  intro i _ j _ h
  refine Finset.disjoint_left.mpr fun x hi hj => h (Fin.ext ?_)
  rw [← mem_blk.mp hi, ← mem_blk.mp hj]
omit [FloatOps F] in
theorem blk_cover : (Finset.univ : Finset (Fin 32)).biUnion (fun w => blk w.val) = Finset.univ := by
  refine Finset.eq_univ_iff_forall.mpr fun x => Finset.mem_biUnion.mpr ?_
  have h : (x 0).val < 1024 := (x 0).isLt
  exact ⟨⟨(x 0).val / 32, by omega⟩, Finset.mem_univ _, mem_blk.mpr rfl⟩

omit [FloatOps F] in
theorem oPts_tiles (d : Dev nD) (f : S1024x1024.Idx → F .f32) :
    (oLoc d ↦{fullShare} f : sProp 𝕄) = bigSep (Finset.univ : Finset (Fin 32)) fun w => oPts (F := F) d w.val f := by
  unfold oPts
  rw [← pointsTo_biUnion Finset.univ (ℓ := oLoc d) (fun w : Fin 32 => blk w.val) blk_disjoint, blk_cover]

/-- What stays with @main while the tiles read: the rest of the arguments' shares. -/
abbrev kept (d : Dev nD) : sProp 𝕄 :=
  iprop((iLoc d ↦{Transfers.shareDrop fullShare 32} ixOf m d) ∗ (yLoc d ↦{Transfers.shareDrop fullShare 32} yvOf m d))

theorem deal (d : Dev nD) (f : S1024x1024.Idx → F .f32) :
    iprop((iLoc d ↦{fullShare} ixOf m d) ∗ (yLoc d ↦{fullShare} yvOf m d) ∗ (oLoc d ↦{fullShare} f))
      ⊢ (iprop(kept m d ∗ bigSep (Finset.univ : Finset (Fin 32)) fun w => tileIn m d w.val) : sProp 𝕄) := by
  iintro ⟨Hi, Hy, Ho⟩
  ihave Hi' := (Transfers.pointsTo_toks_split fullShare 32) $$ Hi
  ihave Hy' := (Transfers.pointsTo_toks_split fullShare 32) $$ Hy
  icases Hi' with ⟨Hi0, Hi⟩
  icases Hy' with ⟨Hy0, Hy⟩
  isplitl [Hi0 Hy0]
  · isplitl [Hi0] <;> iassumption
  rw [bigSep_sep', bigSep_sep']
  isplitl [Hi]; · iexact Hi
  isplitl [Hy]; · iexact Hy
  ihave Ho' := (Entails.of_eq (oPts_tiles d f)) $$ Ho
  have hex : (bigSep (Finset.univ : Finset (Fin 32)) fun w => oPts (F := F) d w.val f : sProp 𝕄)
      ⊢ bigSep (Finset.univ : Finset (Fin 32)) fun w => iprop(∃ f, oPts (F := F) d w.val f) :=
    bigSep_mono fun w _ => exists_intro (Φ := fun f : S1024x1024.Idx → F .f32 => oPts (F := F) d w.val f) f
  iapply hex
  iexact Ho'

theorem gather (d : Dev nD) :
    (iprop(kept m d ∗ bigSep (Finset.univ : Finset (Fin 32)) fun w => tileOut m d w.val) : sProp 𝕄)
      ⊢ iprop((iLoc d ↦{fullShare} ixOf m d) ∗ (yLoc d ↦{fullShare} yvOf m d) ∗ (oLoc d ↦{fullShare} oneHot (ixOf m d) (yvOf m d))) := by
  rw [bigSep_sep', bigSep_sep']
  iintro ⟨⟨Hi0, Hy0⟩, Hi, Hy, Ho⟩
  isplitl [Hi0 Hi]
  · iapply (Transfers.pointsTo_toks_join fullShare 32)
    isplitl [Hi0] <;> iassumption
  isplitl [Hy0 Hy]
  · iapply (Transfers.pointsTo_toks_join fullShare 32)
    isplitl [Hy0] <;> iassumption
  iapply (Entails.of_eq (oPts_tiles d (oneHot (ixOf m d) (yvOf m d))).symm)
  iexact Ho

/-! ## @main -/

abbrev i' : DevRef τ sig := Proc.devRef .tc (main_arg0 : Ref sig .tc)
abbrev y' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
abbrev rLoc (d : Dev nD) : Loc nD τ sig := (SparseCore.T d).loc main_v1

/-- The thousand columns kept of the padded result. -/
def sliced (f : S1024x1024.Idx → F .f32) : S1024x1000.Idx → F .f32 := extractStridedSlice S1024x1000 ![0, 0] f slices_S1024x1024_S1024x1000_0_0

abbrev opSlice : HloOp τ sig (Elt F) :=
  StableHlo.unary main_v0 main_v1 ((extractStridedSlice S1024x1000 ![0, 0] · slices_S1024x1024_S1024x1000_0_0) : (⟨S1024x1024, .f32⟩ : BufTy).Contents (Elt F) → (⟨S1024x1000, .f32⟩ : BufTy).Contents (Elt F))

abbrev S2 : Finset (DevRef τ sig) := {o', r'}

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (yLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The valuation the slice reads: the padded result as the tiles left it. -/
def V1 (d : Dev nD) : Valuation τ sig (Elt F) := Function.update (fun b => m (d, b)) o' (oneHot (F := F) (ixOf m d) (yvOf m d))

theorem V1_o (d : Dev nD) : V1 m d o' = oneHot (F := F) (ixOf m d) (yvOf m d) := Function.update_self _ _ _
theorem V1_r (d : Dev nD) : V1 m d r' = m (rLoc d) := Function.update_of_ne (show r' ≠ o' by decide) _ _

theorem hSlice : (opSlice (F := F)).bufs ⊆ S2 := show ({o', r'} : Finset (DevRef τ sig)) ⊆ S2 by decide

theorem result_r (d : Dev nD) : (opSlice (F := F)).result (V1 m d) r' = sliced (oneHot (F := F) (ixOf m d) (yvOf m d)) := by
  rw [← V1_o m d]
  rfl

/-- What @main leaves: the arguments as they were, the result. -/
abbrev FIN (d : Dev nD) : sProp 𝕄 :=
  iprop((iLoc d ↦{fullShare} ixOf m d) ∗ (yLoc d ↦{fullShare} yvOf m d) ∗ (rLoc d ↦{fullShare} sliced (oneHot (F := F) (ixOf m d) (yvOf m d))))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hy, Ho, Hr⟩, Hts, -⟩, -⟩
  ihave Hd := (deal m d (m (oLoc d))) $$ [Hi Hy Ho]
  · isplitl [Hi]; · iexact Hi
    isplitl [Hy] <;> iassumption
  icases Hd with ⟨Hk, Hin⟩
  iapply ((K (F := F)).wp_run (D (F := F)) 𝒱 (EH := EH) (P := P m) κ d 0) $$ [Hst Hin Hk Hr Hb Hts]
  isplitr; · iexact Hctx
  isplitl [Hst]; · iexact Hst
  isplitl [Hin]
  · rw [st0_eq]; iexact Hin
  iintro ⟨Hst, Hdn⟩
  ihave Hdn' := (Entails.of_eq (dn0_eq m d)) $$ Hdn
  ihave Hg := (gather m d) $$ [Hk Hdn']
  · isplitl [Hk] <;> iassumption
  icases Hg with ⟨Hi, Hy, Ho⟩
  iapply (wp_hlo_within 𝒱 (SparseCore.T d) none Set.univ (op := opSlice) (S := S2) hSlice (V := V1 m d)) $$ [Hb Ho Hr]
  · isplitl [Hb]; · iexact Hb
    rw [held_S2, V1_o, V1_r]
    isplitl [Ho] <;> iassumption
  iintro ⟨Hb, Hheld⟩
  ihave Hh := (Entails.of_eq (held_S2 (F := F) d _)) $$ Hheld
  icases Hh with ⟨-, Hr⟩
  rw [wp_ret]; imodintro; imodintro
  isplitl [Hst]; · iexact Hst
  isplitr [Hb Hts]
  · isplitl [Hi]; · iexact Hi
    isplitl [Hy]; · iexact Hy
    iapply (Entails.of_eq (congrArg (fun g => (rLoc d ↦{fullShare} g : sProp 𝕄)) (result_r m d)))
    iexact Hr
  isplitl [Hb] <;> iassumption

/-- What a final state shows of @main's leavings. -/
def fq (d : Dev nD) (s' : Phys nD τ sig (Elt F)) : Prop :=
  s'.mem.mem (iLoc d) = ixOf m d ∧ s'.mem.mem (yLoc d) = yvOf m d ∧ s'.mem.mem (rLoc d) = sliced (oneHot (F := F) (ixOf m d) (yvOf m d))

theorem hfin (d : Dev nD) (s' : Phys nD τ sig (Elt F)) : iprop(FIN m d ∗ SI s') ⊢ (⌜fq m d s'⌝ : sProp 𝕄) := by
  iintro ⟨⟨Hi, Hy, Hr⟩, HSI⟩
  ihave H := (persistent_entails_right (SI_pointsTo_agree (st := s') (ℓ := iLoc d) (I := Finset.univ) (q := fullShare) (f := ixOf m d))) $$ [HSI Hi]
  · isplitl [HSI] <;> iassumption
  icases H with ⟨%h1, HSI, -⟩
  ihave H := (persistent_entails_right (SI_pointsTo_agree (st := s') (ℓ := yLoc d) (I := Finset.univ) (q := fullShare) (f := yvOf m d))) $$ [HSI Hy]
  · isplitl [HSI] <;> iassumption
  icases H with ⟨%h2, HSI, -⟩
  ihave H := (SI_pointsTo_agree (st := s') (ℓ := rLoc d) (I := Finset.univ) (q := fullShare) (f := sliced (oneHot (F := F) (ixOf m d) (yvOf m d)))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- What the run ends with, on every device: the arguments unchanged, the one-hot result; every counter at zero. -/
def QC : PUnit × MemSt nD τ sig (Elt F) → Prop := fun r =>
  (∀ c : Dev nD, r.2.mem (iLoc c) = ixOf m c ∧ r.2.mem (yLoc c) = yvOf m c ∧ r.2.mem (rLoc c) = sliced (oneHot (F := F) (ixOf m c) (yvOf m c)))
    ∧ r.2.sem = fun _ => 0

theorem run_main [∀ e, Nonempty (Elt F e)] (hr : ∀ d, InRange (ixOf m d) (yvOf m d)) :
    θ_run (Cert.ScatterIdeal.defs (F := F)) (Cert.ScatterIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hr)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Labels

end
-- ==== Proof.Range.lean ====
/-
  What the precondition says of the words: where the range test of the indices and labels is all ones, every index read
  as a natural number is below 100000 and every label below 1000.
-/
module

public import proofs.«01_k».proof.Defs
public import proofs.«01_k».proof.Proof.Gen.Pre_labels_in_range
public import Idealize.ShloMosaic.Lib.ReduceAll
public import Idealize.ShloMosaic.Lib.ValueIdx

@[expose] public section

noncomputable section

namespace Cert.Proof.Range

open Idealize.ShloMosaic

/-- A word that is at least 0 and below `b`, both read signed, is below `b` read as a natural number. -/
theorem lt_of_cmp (x b : BitVec 32) (hb : b.toNat < 2 ^ 31) (h0 : IntOp.cmpi .sge x 0#32 = 1#1) (h1 : IntOp.cmpi .slt x b = 1#1) :
    x.toNat < b.toNat := by
  rw [IntOp.cmpi_sge] at h0
  rw [IntOp.cmpi_slt] at h1
  have h00 : (0#32).toInt = 0 := by decide
  rw [h00] at h0
  rw [BitVec.toInt_eq_toNat_cond] at h0
  rw [BitVec.toInt_eq_toNat_cond, BitVec.toInt_eq_toNat_cond] at h1
  have hx := x.isLt
  split at h0 <;> split at h1 <;> omega

/-- A word below 2 ^ 31 read signed is itself. -/
theorem toInt_small (x : BitVec 32) (h : x.toNat < 2 ^ 31) : x.toInt = (x.toNat : Int) := by
  rw [BitVec.toInt_eq_toNat_cond, if_pos (by omega)]

/-- The precondition read back. -/
theorem of_pre {F : FTy → Type} [FloatOps F] [Cert.Pre_labels_in_range.Facts] (ix : IVec Cert.Pre_labels_in_range.S1024x16 32) (yv : IVec Cert.Pre_labels_in_range.S100000 32)
    (h : Cert.Pre_labels_in_range.fn (F := F) ix yv = fun _ => 1#1) : (∀ x, (ix x).toNat < 100000) ∧ ∀ x, (yv x).toNat < 1000 := by
  have e := congrFun h (fun k => k.elim0)
  obtain ⟨e1, e2⟩ := IntOp.andi_eq_one.1 e
  haveI : Subsingleton Cert.Pre_labels_in_range.S_.Idx := ⟨fun a b => funext fun k => k.elim0⟩
  refine ⟨fun x => ?_, fun x => ?_⟩
  · obtain ⟨a, b⟩ := IntOp.andi_eq_one.1 (Host.reduce_andi_all _ _ _ _ _ e1 x)
    exact lt_of_cmp _ 100000#32 (by decide) a b
  · obtain ⟨a, b⟩ := IntOp.andi_eq_one.1 (Host.reduce_andi_all _ _ _ _ _ e2 x)
    exact lt_of_cmp _ 1000#32 (by decide) a b

end Cert.Proof.Range

end
-- ==== Proof.RefValue.lean ====
/-
  The value of the plain label scatter: under the range condition, entry `(r, c)` is one where one of row `r`'s sixteen
  indices has label `c`, and zero elsewhere. Wrapping a negative index, and masking one out of range, do nothing to
  indices in range; the writers of one entry all write the same one, so their order does not matter.
-/
module

public import proofs.«01_k».proof.Proof.Launch
public import proofs.«01_k».proof.Proof.Range
public import proofs.«01_k».proof.Proof.Gen.ScatterReferenceIdeal.Run
public import Idealize.ShloMosaic.Lib.ReduceAll
public import Idealize.ShloMosaic.Lib.ValueIdx
public import Idealize.ShloMosaic.Lib.Routing.OpsPair
public import Idealize.ShloMosaic.Lib.Routing.OpsSet
public import Idealize.ShloMosaic.Lib.Pointwise

@[expose] public section

noncomputable section

namespace Cert.Proof.RefValue

open Cert.ScatterReferenceIdeal Cert.ScatterReferenceIdeal.Gen
open Idealize.ShloMosaic hiding ix1 ix2 ix3 eq_ix1 eq_ix2 eq_ix3
open Idealize.ShloMosaic.TcCoe Idealize.ShloMosaic.ValueIdx Idealize.ShloMosaic.Routing

variable {F : FTy → Type} [FloatOps F]

/-- A negative index counted from the end. -/
def wrap (n : BitVec 32) (x : IVec S1024x16 32) : IVec S1024x16 32 :=
  select (cmpi .slt x (broadcastInDim S1024x16 ![] bcast_S_S1024x16 (constantI S_ 32 0#32)))
    (addi x (broadcastInDim S1024x16 ![] bcast_S_S1024x16 (constantI S_ 32 n))) x

/-- The table of indices with a last axis of one index word. -/
def col (x : IVec S1024x16 32) : IVec S1024x16x1 32 := broadcastInDim S1024x16x1 ![0, 1] bcast_S1024x16_S1024x16x1_0_1 x

/-- The labels at the indices, the smallest word where an index is out of range. -/
def taken (y : IVec S100000 32) (x : IVec S1024x16 32) : IVec S1024x16 32 :=
  select (Host.reduce IntOp.andi (andi (cmpi .sge (col x) (broadcastInDim S1024x16x1 ![] bcast_S_S1024x16x1 (constantI S_ 32 0#32)))
      (cmpi .sle (col x) (broadcastInDim S1024x16x1 ![0, 1, 2] bcast_S1x1x1_S1024x16x1_0_1_2 (broadcastInDim S1x1x1 ![2] bcast_S1_S1x1x1_2 (constantI S1 32 99999#32)))))
      (constantI S_ 1 1#1) reducesTo_S1024x16x1_S1024x16_d2 h_S_)
    (Host.gather gather_S100000_S1024x16x1_S1024x16_n_0_n_n_0_2_1 y (col x)) (broadcastInDim S1024x16 ![] bcast_S_S1024x16 (constantI S_ 32 2147483648#32))

/-- The number of its row at every place. -/
def rowNo : IVec S1024x16 32 := broadcastInDim S1024x16 ![0, 1] bcast_S1024x1_S1024x16_0_1 (broadcastInDim S1024x1 ![0] bcast_S1024_S1024x1_0 (iotaInDim S1024 32 0))

/-- The places written: row and label. -/
def places (ix : IVec S1024x16 32) (y : IVec S100000 32) : IVec S1024x16x2 32 :=
  concatenate S1024x16x2 2 [⟨S1024x16x1, col (wrap 1024#32 rowNo)⟩, ⟨S1024x16x1, col (wrap 1000#32 (taken y (wrap 100000#32 ix)))⟩]
    concatenates_S1024x16x1_S1024x16x1_S1024x16x2_d2

/-- The scatter of ones. -/
def out (ix : IVec S1024x16 32) (y : IVec S100000 32) : FVec F S1024x1000 .f32 :=
  Host.scatter scatter_S1024x1000_S1024x16x2_S1024x16_n_01_01_2 (fun _ b => b) (broadcastInDim S1024x1000 ![] bcast_S_S1024x1000 (constant S_ .f32 0x00000000#32))
    (places ix y) (broadcastInDim S1024x16 ![] bcast_S_S1024x16 (constant S_ .f32 0x3F800000#32))

theorem res_eq (m : (ℓ : Loc nD τ sig) → Buf (Elt F) ℓ) (c : Dev nD) :
    Cert.ScatterReferenceIdeal.Value.res_out0 m c = out (F := F) (m ((c.tc : Thread nD τ).loc main_arg0)) (m ((c.tc : Thread nD τ).loc main_arg1)) := by
  unfold Cert.ScatterReferenceIdeal.Value.res_out0 Cert.ScatterReferenceIdeal.Value.res_main_v19
  rfl

theorem wrap_eq (n : BitVec 32) (x : IVec S1024x16 32) (h : ∀ i, (x i).toNat < 2 ^ 31) : wrap n x = x :=
  funext fun i => wrap_of_lt (x i) (x i + n) (h i)

theorem col_apply (x : IVec S1024x16 32) (j : S1024x16x1.Idx) (i : S1024x16.Idx) (h0 : (i 0).val = (j 0).val) (h1 : (i 1).val = (j 1).val) : col x j = x i := by
  unfold col
  refine broadcastInDim_apply _ _ _ _ i fun q => ?_
  match q with
  | ⟨0, _⟩ => exact h0
  | ⟨1, _⟩ => exact h1

theorem rowNo_apply (i : S1024x16.Idx) : rowNo i = BitVec.ofNat 32 (i 0).val := rfl

theorem taken_apply (y : IVec S100000 32) (x : IVec S1024x16 32) (h : ∀ i, (x i).toNat < 100000) (i : S1024x16.Idx) :
    taken y x i = y (ix1 ⟨(x i).toNat, h _⟩) := by
  have hc : ∀ j, (col x j).toNat < 100000 := fun j => h _
  have hg : Host.gather gather_S100000_S1024x16x1_S1024x16_n_0_n_n_0_2_1 y (col x) i = y (ix1 ⟨(x i).toNat, h _⟩) := by
    refine (gather_take_apply (N := 100000) (R := 1024) (C := 16) (by decide) _ y (col x) i).trans ?_
    refine congrArg y (congrArg ix1 (Fin.ext ?_))
    have e : col x (takeIdx i) = x i := col_apply x _ _ rfl rfl
    have hx := h i
    show min (col x (takeIdx i)).toInt.toNat (100000 - 1) = (x i).toNat
    rw [e, Range.toInt_small _ (by omega)]
    omega
  unfold taken
  show Scalar.select _ _ _ = _
  rw [Host.reduce_andi_one _ _ _ _ _ rfl fun j => ?_]
  · exact hg
  · have hx := hc j
    refine IntOp.andi_eq_one.2 ⟨?_, ?_⟩
    · show IntOp.cmpi .sge (col x j) 0#32 = 1#1
      have h0 : (0#32).toInt = 0 := by decide
      rw [IntOp.cmpi_sge, h0, Range.toInt_small _ (by omega)]
      omega
    · show IntOp.cmpi .sle (col x j) 99999#32 = 1#1
      have h0 : (99999#32).toInt = 99999 := by decide
      rw [IntOp.cmpi_sle, Range.toInt_small _ (by omega), h0]
      omega

theorem places_row (ix : IVec S1024x16 32) (y : IVec S100000 32) (a : Fin 1024) (b : Fin 16) :
    places ix y (ix3 a b 0) = wrap 1024#32 rowNo (ix2 a b) := by
  unfold places
  rw [concatenate_pair_apply]
  exact (dif_pos (by exact Nat.one_pos)).trans (col_apply _ _ _ rfl rfl)

theorem places_label (ix : IVec S1024x16 32) (y : IVec S100000 32) (a : Fin 1024) (b : Fin 16) :
    places ix y (ix3 a b 1) = wrap 1000#32 (taken y (wrap 100000#32 ix)) (ix2 a b) := by
  unfold places
  rw [concatenate_pair_apply]
  exact (dif_neg (by exact Nat.lt_irrefl 1)).trans (col_apply _ _ _ rfl rfl)

/-- Update `(a, b)` lands at `(r, c)` exactly when `a` is the row and `c` the label of index `(a, b)`. -/
theorem lands (ix : IVec S1024x16 32) (y : IVec S100000 32) (hi : ∀ x, (ix x).toNat < 100000) (hy : ∀ x, (y x).toNat < 1000)
    (a : Fin 1024) (b : Fin 16) (r : Fin 1024) (c : Fin 1000) :
    scatter_S1024x1000_S1024x16x2_S1024x16_n_01_01_2.resultIdx? (ix2 a b) (places ix y) = some (ix2 r c)
      ↔ a = r ∧ Labels.lab y (ix (ix2 a b)).toNat = c.val := by
  have hw : wrap 100000#32 ix = ix := wrap_eq _ _ fun i => lt_trans (hi i) (by decide)
  have ht : ∀ i, taken y ix i = y (ix1 ⟨(ix i).toNat, hi _⟩) := taken_apply y ix hi
  have ht' : ∀ i, (taken y ix i).toNat < 2 ^ 31 := fun i => by
    rw [ht]; exact lt_trans (hy _) (by decide)
  have hr : ∀ i, (rowNo i).toNat < 2 ^ 31 := fun i => by
    rw [rowNo_apply, BitVec.toNat_ofNat]
    exact lt_of_le_of_lt (Nat.mod_le _ _) (lt_trans (i 0).isLt (by decide))
  refine (scatter_lands2 (R := 1024) (C := 1000) (A := 1024) (B := 16) scatter_S1024x1000_S1024x16x2_S1024x16_n_01_01_2 rfl rfl rfl (places ix y) a b r c).trans ?_
  rw [places_row, places_label, hw, wrap_eq _ _ hr, wrap_eq _ _ ht', ht, rowNo_apply]
  have hl : Labels.lab y (ix (ix2 a b)).toNat = (y (ix1 ⟨(ix (ix2 a b)).toNat, hi _⟩)).toNat := by
    unfold Labels.lab
    rw [dif_pos (hi _)]
  rw [hl]
  have h1 := hy (ix1 ⟨(ix (ix2 a b)).toNat, hi _⟩)
  have h2 := a.isLt
  have e1 : (BitVec.ofNat 32 a.val).toInt = (a.val : Int) := by
    have e0 : (BitVec.ofNat 32 a.val).toNat = a.val := by rw [BitVec.toNat_ofNat, Nat.mod_eq_of_lt (by omega)]
    rw [Range.toInt_small _ (by omega), e0]
  have e2 : (y (ix1 ⟨(ix (ix2 a b)).toNat, hi _⟩)).toInt = ((y (ix1 ⟨(ix (ix2 a b)).toNat, hi _⟩)).toNat : Int) := Range.toInt_small _ (by omega)
  rw [e1, e2, Fin.ext_iff]
  omega

/-- The plain scatter is the one-hot array without its padding columns. -/
theorem out_eq (ix : IVec S1024x16 32) (y : IVec S100000 32) (hi : ∀ x, (ix x).toNat < 100000) (hy : ∀ x, (y x).toNat < 1000) :
    out (F := F) ix y = Labels.sliced (Labels.oneHot (F := F) ix y) := by
  classical
  funext x
  obtain ⟨r, c, rfl⟩ : ∃ (r : Fin 1024) (c : Fin 1000), x = ix2 r c := ⟨x 0, x 1, eq_ix2 x⟩
  have hs : Labels.sliced (Labels.oneHot (F := F) ix y) (ix2 r c)
      = if ∃ l : Fin 16, c.val = Labels.lab y (ix (ix2 r l)).toNat then Scalar.ofBits .f32 0x3F800000#32 else Scalar.ofBits .f32 0x00000000#32 := by
    unfold Labels.sliced
    rw [extractStridedSlice_apply _ _ _ _ (ix2 r ⟨c.val, by omega⟩ : Cert.ScatterIdeal.S1024x1024.Idx) (fun a => by
      match a with
      | ⟨0, _⟩ => exact (Nat.zero_add _).symm
      | ⟨1, _⟩ => exact (Nat.zero_add _).symm)]
    rfl
  rw [hs]
  unfold out
  by_cases h : ∃ l : Fin 16, c.val = Labels.lab y (ix (ix2 r l)).toNat
  · rw [if_pos h]
    obtain ⟨l, hl⟩ := h
    exact scatter_set_hit _ _ _ _ _ _ (fun _ _ => rfl) (ix2 r l) ((lands ix y hi hy r l r c).2 ⟨rfl, hl.symm⟩)
  · rw [if_neg h]
    refine (scatter_set_miss _ _ _ _ _ fun k hk => h ?_).trans rfl
    rw [eq_ix2 k] at hk
    obtain ⟨e, hl⟩ := (lands ix y hi hy _ _ r c).1 hk
    exact ⟨k 1, by rw [← e]; exact hl.symm⟩

end Cert.Proof.RefValue

end
-- ==== Proof.WTile.lean ====
/-
  One tile's task of the label scatter, at a symbolic SparseCore and tile. Tile number `w` owns rows `32 * w` to
  `32 * w + 31` of the result. It copies the labels and its 32 rows of indices into its own memory, zeroes a row of 1024,
  and then for each of its rows stores ones at the row's labels, copies the row out, and stores zeros at the same places.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Lanes
public import proofs.«01_k».proof.Proof.Gen.KernelIdeal
public import proofs.«01_k».proof.Proof.Gen.KernelIdeal.Skeleton

@[expose] public section

noncomputable section

namespace Cert.Proof.Whole

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig (Λ₀ F) (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.nat
abbrev 𝒱 : Variants := 𝒱₀.lift
abbrev v₀ : 𝒱.V := Sum.inl none

/-- The handshakes' rounds beside the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

-- the kernel's memrefs, spelt as the program passes them
local notation "iV" => (Memref.whole Cert.KernelIdeal.main_v6_scv : Memref Cert.KernelIdeal.sig Kind.scVector Space.hbm Cert.KernelIdeal.S1024x16 EltTy.i32)
local notation "yV" => (Memref.whole Cert.KernelIdeal.main_arg2_scv : Memref Cert.KernelIdeal.sig Kind.scVector Space.hbm Cert.KernelIdeal.S100000 EltTy.i32)
local notation "oV" => (Memref.whole Cert.KernelIdeal.main_v7_scv : Memref Cert.KernelIdeal.sig Kind.scVector Space.hbm Cert.KernelIdeal.S1024x1024 EltTy.f32)
local notation "sY" => (Memref.whole Cert.KernelIdeal.cc1_scratch0 : Memref Cert.KernelIdeal.sig Kind.scVector Space.vmem Cert.KernelIdeal.S100000 EltTy.i32)
local notation "sI" => (Memref.whole Cert.KernelIdeal.cc1_scratch1 : Memref Cert.KernelIdeal.sig Kind.scVector Space.vmem Cert.KernelIdeal.S32x16 EltTy.i32)
local notation "sR" => (Memref.whole Cert.KernelIdeal.cc1_scratch2 : Memref Cert.KernelIdeal.sig Kind.scVector Space.vmem Cert.KernelIdeal.S1024 EltTy.f32)

/-- The indices, the labels and the padded result as locations of device `d`. -/
abbrev iLoc (d : Dev nD) : Loc nD τ sig := (SparseCore.T d).loc main_v6
abbrev yLoc (d : Dev nD) : Loc nD τ sig := (SparseCore.T d).loc main_arg2
abbrev oLoc (d : Dev nD) : Loc nD τ sig := (SparseCore.T d).loc main_v7

variable [FloatOps F]

/-! ## What the kernel computes -/

/-- The label at place `n`. -/
def lab (yv : S100000.Idx → BitVec 32) (n : Nat) : Nat := if h : n < 100000 then (yv (ix1 ⟨n, h⟩)).toNat else 0

open Classical in
/-- The padded result: one at the labels the row's sixteen indices name, zero elsewhere. -/
def oneHot (ix : S1024x16.Idx → BitVec 32) (yv : S100000.Idx → BitVec 32) : S1024x1024.Idx → F .f32 :=
  fun x => if ∃ l : Fin 16, (x 1).val = lab yv (ix (ix2 (x 0) l)).toNat then Scalar.ofBits .f32 0x3F800000#32 else Scalar.ofBits .f32 0x00000000#32

/-- Every index names a label, and every label a column of the padded result. -/
def InRange (ix : S1024x16.Idx → BitVec 32) (yv : S100000.Idx → BitVec 32) : Prop :=
  (∀ x, (ix x).toNat < 100000) ∧ ∀ x, (yv x).toNat < 1024

theorem lab_lt {ix : S1024x16.Idx → BitVec 32} {yv : S100000.Idx → BitVec 32} (hr : InRange ix yv) (n : Nat) : lab yv n < 1024 := by
  unfold lab
  split
  · exact hr.2 _
  · omega

section Tile

variable (d : Dev nD) (L : grid1.Coords)

abbrev cV (L : grid1.Coords) : Fin τ.nSC := (L 0).castLE hcore1
abbrev jV (L : grid1.Coords) : Fin τ.nSub := (L 1).castLE hsub1

/-- The tile's number, and the rows it owns. -/
abbrev wid (L : grid1.Coords) : Nat := 2 * (L 1).val + (L 0).val

omit [FloatOps F] in
theorem wid_lt : wid L < 32 := by
  have h0 : (L 0).val < 2 := (L 0).isLt
  have h1 : (L 1).val < 16 := (L 1).isLt
  unfold wid; omega

/-- The rows of the result that tile `w` owns. -/
def blk (w : Nat) : Finset S1024x1024.Idx := Finset.univ.filter fun x => (x 0).val / 32 = w

omit [FloatOps F] in
theorem mem_blk {w : Nat} {x : S1024x1024.Idx} : x ∈ blk w ↔ (x 0).val / 32 = w := by simp [blk]

/-- The tile's rows of indices, and row `t` of the tile's part of the result, as the kernel slices them. -/
abbrev iRows (L : grid1.Coords) : Memref sig .scVector .hbm S32x16 .i32 :=
  (iV).slice (Rect.unit (s := S1024x16) (k1_off1 L) S32x16.size (k1_off1_inb L)) (fun _ => rfl)
abbrev oRow (L : grid1.Coords) (t : Fin k1_t2_loop.trips) : Memref sig .scVector .hbm S1024 .f32 :=
  ((oV).slice (Rect.unit (s := S1024x1024) (k1_off4 L t) S1x1024.size (k1_off4_inb L t)) (fun _ => rfl)).squeeze S1024 squeezes_S1x1024_S1024

omit [FloatOps F] in
theorem trips1 : k1_t1_loop.trips = 64 := by decide +kernel
omit [FloatOps F] in
theorem trips2 : k1_t2_loop.trips = 32 := by decide +kernel

omit [FloatOps F] in
theorem trip_lt (t : Fin k1_t2_loop.trips) : t.val < 32 := lt_of_lt_of_eq t.isLt trips2

omit [FloatOps F] in
theorem row_lt (t : Fin k1_t2_loop.trips) : 32 * wid L + t.val < 1024 := by
  have h := wid_lt L
  have ht := trip_lt t
  omega

omit [FloatOps F] in
/-- Where row `t`'s element `j` sits in the result. -/
theorem oRow_emb (t : Fin k1_t2_loop.trips) (j : S1024.Idx) :
    (oRow L t).view.emb j = (ix2 ⟨32 * wid L + t.val, row_lt L t⟩ (j 0) : S1024x1024.Idx) := by
  show (Rect.unit (s := S1024x1024) (k1_off4 L t) S1x1024.size (k1_off4_inb L t)).emb (Shape.reshapeEquiv squeezes_S1x1024_S1024.numel_eq j) = _
  rw [Lanes.reshape_row]
  funext a
  apply Fin.ext
  refine (Rect.emb_apply _ _ _).trans ?_
  match a with
  | 0 => simp [k1_off4_eq, wid]; omega
  | 1 => simp [k1_off4_eq]

omit [FloatOps F] in
theorem mem_oRow (t : Fin k1_t2_loop.trips) (x : S1024x1024.Idx) :
    x ∈ (oRow L t).view.set ↔ (x 0).val = 32 * wid L + t.val := by
  constructor
  · intro h
    obtain ⟨j, -, rfl⟩ := Finset.mem_map.mp h
    rw [oRow_emb]
  · intro h
    have e : x = (oRow L t).view.emb (ix1 (x 1) : S1024.Idx) := by
      rw [oRow_emb]
      funext a
      match a with
      | 0 => exact Fin.ext h
      | 1 => rfl
    rw [e]
    exact View.emb_mem_set _ _

omit [FloatOps F] in
theorem oRow_sub (t : Fin k1_t2_loop.trips) : (oRow L t).view.set ⊆ blk (wid L) := by
  intro x hx
  have h := (mem_oRow L t x).mp hx
  have ht := trip_lt t
  rw [mem_blk]; omega

omit [FloatOps F] in
/-- Where element `(k, l)` of the tile's rows of indices sits among all of them. -/
theorem iRows_emb (j : S32x16.Idx) (h : 32 * wid L + (j 0).val < 1024) :
    (iRows L).view.emb j = (ix2 ⟨32 * wid L + (j 0).val, h⟩ (j 1) : S1024x16.Idx) := by
  show (Rect.unit (s := S1024x16) (k1_off1 L) S32x16.size (k1_off1_inb L)).emb j = _
  funext a
  apply Fin.ext
  refine (Rect.emb_apply _ _ _).trans ?_
  match a with
  | 0 => simp [k1_off1_eq, wid]; omega
  | 1 => simp [k1_off1_eq]

/-! ## The tile's own memory and counters -/

abbrev cA (d : Dev nD) (L : grid1.Coords) : GSem nD τ sig := (V d (cV L) (jV L), .dma cc1_scoped0.sem)
abbrev cB (d : Dev nD) (L : grid1.Coords) : GSem nD τ sig := (V d (cV L) (jV L), .dma cc1_scoped1.sem)
abbrev cC (d : Dev nD) (L : grid1.Coords) : GSem nD τ sig := (V d (cV L) (jV L), .dma cc1_scoped2.sem)

omit [FloatOps F] in
theorem ownSems_tile :
    (ownSems0 (V d (cV L) (jV L)) : sProp 𝕄)
      = iprop(semVal (cA d L) 0 ∗ semVal (cB d L) 0 ∗ semVal (cC d L) 0
          ∗ bigSep ((((ownCells (V d (cV L) (jV L))).erase (cA d L)).erase (cB d L)).erase (cC d L)) fun g => semVal g 0) := by
  have hA : cA d L ∈ ownCells (V d (cV L) (jV L)) := (mem_ownCells (g := cA d L)).mpr ⟨rfl, by
    show (SemLoc.dma cc1_scoped0.sem : SemLoc sig).isScoped .scVector = true; decide⟩
  have hB : cB d L ∈ ownCells (V d (cV L) (jV L)) := (mem_ownCells (g := cB d L)).mpr ⟨rfl, by
    show (SemLoc.dma cc1_scoped1.sem : SemLoc sig).isScoped .scVector = true; decide⟩
  have hC : cC d L ∈ ownCells (V d (cV L) (jV L)) := (mem_ownCells (g := cC d L)).mpr ⟨rfl, by
    show (SemLoc.dma cc1_scoped2.sem : SemLoc sig).isScoped .scVector = true; decide⟩
  have hBA : cB d L ≠ cA d L := by simp [cA, cB]; decide
  have hCA : cC d L ≠ cA d L := by simp [cA, cC]; decide
  have hCB : cC d L ≠ cB d L := by simp [cB, cC]; decide
  unfold SparseCore.Cfg.ownSems0
  rw [SparseCore.bigSep_erase' hA, SparseCore.bigSep_erase' (Finset.mem_erase.mpr ⟨hBA, hB⟩),
    SparseCore.bigSep_erase' (Finset.mem_erase.mpr ⟨hCB, Finset.mem_erase.mpr ⟨hCA, hC⟩⟩)]

omit [FloatOps F] in
theorem ownBufs_tile :
    (ownBufs (V d (cV L) (jV L)) : sProp 𝕄)
      = iprop((∃ f, (sY).view.loc (V d (cV L) (jV L)) ↦{fullShare} f) ∗ (∃ f, (sI).view.loc (V d (cV L) (jV L)) ↦{fullShare} f)
          ∗ (∃ f, (sR).view.loc (V d (cV L) (jV L)) ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have h0 := SparseCore.Cfg.mem_ownRefs_of_owner (p := Proc.scVector (cV L) (jV L)) (b := (Proc.scVector (cV L) (jV L)).devRef cc1_scratch0) rfl
  have h1 := SparseCore.Cfg.mem_ownRefs_of_owner (p := Proc.scVector (cV L) (jV L)) (b := (Proc.scVector (cV L) (jV L)).devRef cc1_scratch1) rfl
  have h2 := SparseCore.Cfg.mem_ownRefs_of_owner (p := Proc.scVector (cV L) (jV L)) (b := (Proc.scVector (cV L) (jV L)).devRef cc1_scratch2) rfl
  have n10 : (Proc.scVector (cV L) (jV L)).devRef cc1_scratch1 ≠ (Proc.scVector (cV L) (jV L)).devRef cc1_scratch0 :=
    fun e => absurd (Proc.devRef_injective _ e) (show (cc1_scratch1 : Ref sig .scVector) ≠ cc1_scratch0 by decide)
  have n20 : (Proc.scVector (cV L) (jV L)).devRef cc1_scratch2 ≠ (Proc.scVector (cV L) (jV L)).devRef cc1_scratch0 :=
    fun e => absurd (Proc.devRef_injective _ e) (show (cc1_scratch2 : Ref sig .scVector) ≠ cc1_scratch0 by decide)
  have n21 : (Proc.scVector (cV L) (jV L)).devRef cc1_scratch2 ≠ (Proc.scVector (cV L) (jV L)).devRef cc1_scratch1 :=
    fun e => absurd (Proc.devRef_injective _ e) (show (cc1_scratch2 : Ref sig .scVector) ≠ cc1_scratch1 by decide)
  unfold SparseCore.Cfg.ownBufs
  refine (SparseCore.bigSep_erase' h0).trans ?_
  rw [SparseCore.bigSep_erase' (Finset.mem_erase.mpr ⟨n10, h1⟩),
    SparseCore.bigSep_erase' (Finset.mem_erase.mpr ⟨n21, Finset.mem_erase.mpr ⟨n20, h2⟩⟩)]

/-! ## The task -/

variable (ix : S1024x16.Idx → BitVec 32) (yv : S100000.Idx → BitVec 32)

/-- What the task is handed: read shares of the indices and the labels, and its rows of the result. -/
abbrev iPts (d : Dev nD) (w : Nat) : sProp 𝕄 := iLoc d ↦{Transfers.shareTokN fullShare w} ix
abbrev yPts (d : Dev nD) (w : Nat) : sProp 𝕄 := yLoc d ↦{Transfers.shareTokN fullShare w} yv
abbrev oPts (d : Dev nD) (w : Nat) (f : S1024x1024.Idx → F .f32) : sProp 𝕄 := oLoc d ↦[blk w]{fullShare} f

/-- The row of zeros filled up to element `16 * k`. -/
def zeroed (k : Nat) (f : S1024.Idx → F .f32) : Prop := ∀ j, (j 0).val < 16 * k → f j = Scalar.ofBits .f32 0x00000000#32

open Classical in
/-- Row `t` of the tile's part of the result. -/
def hotRow (r : Fin 1024) : S1024.Idx → F .f32 :=
  fun j => if ∃ l : Fin 16, (j 0).val = lab yv (ix (ix2 r l)).toNat then Scalar.ofBits .f32 0x3F800000#32 else Scalar.ofBits .f32 0x00000000#32

omit [FloatOps F] in
/-- The lane's index of a vector of sixteen. -/
theorem ofLane_eq (l : Fin 16) : (Shape.ofLane (d := ![16]) l : S16.Idx) = ix1 l := by
  funext a
  match a with
  | 0 => rfl

/-- Storing ones at a row's labels over zeros makes that row's one-hot row. -/
theorem store_ones (r : Fin 1024) (v9 : IVec S16 32) (hv : ∀ l : Fin 16, (v9 (ix1 l)).toNat = lab yv (ix (ix2 r l)).toNat)
    (h : ∀ a x, ((![v9] : Fin 1 → IVec S16 32) a x).toNat < S1024.size a) :
    storeIdx (F := F) (e := .f32) (fun _ => Scalar.ofBits .f32 0x00000000#32) ![v9] (k1_pay2 (F := F)) (fun _ => 1#1) false h = hotRow (F := F) ix yv r := by
  classical
  funext j
  refine (Lanes.storeIdx_const _ _ _ h j).trans ?_
  unfold hotRow
  refine if_congr (exists_congr fun l => ?_) rfl rfl
  rw [← hv l]
  exact ⟨fun e => (e 0).trans (congrArg (fun x => (v9 x).toNat) (ofLane_eq l)), fun e a => match a with
    | 0 => e.trans (congrArg (fun x => (v9 x).toNat) (ofLane_eq l)).symm⟩

/-- Storing zeros at the same labels brings the row of zeros back. -/
theorem store_zeros (r : Fin 1024) (v9 : IVec S16 32) (hv : ∀ l : Fin 16, (v9 (ix1 l)).toNat = lab yv (ix (ix2 r l)).toNat)
    (h : ∀ a x, ((![v9] : Fin 1 → IVec S16 32) a x).toNat < S1024.size a) :
    storeIdx (F := F) (e := .f32) (hotRow (F := F) ix yv r) ![v9] (k1_pay1 (F := F)) (fun _ => 1#1) false h = fun _ => Scalar.ofBits .f32 0x00000000#32 := by
  classical
  funext j
  refine (Lanes.storeIdx_const _ _ _ h j).trans ?_
  split
  · rfl
  · rename_i hn
    unfold hotRow
    rw [if_neg]
    rintro ⟨l, hl⟩
    rw [← hv l] at hl
    exact hn ⟨l, fun a => match a with
      | 0 => hl.trans (congrArg (fun x => (v9 x).toNat) (ofLane_eq l)).symm⟩

/-- One step of zeroing the row. -/
theorem zeroed_succ (k : Fin k1_t1_loop.trips) (f : S1024.Idx → F .f32) (hf : zeroed k.val f) :
    zeroed (k.val + 1) ((sR).view.writes (Elt F) f [⟨Rect.unit (s := S1024) (k1_off2 k) S16.size (k1_off2_inb k), k1_pay1 (F := F)⟩]) := by
  intro j hj
  rw [View.writes_singleton]
  by_cases h : 16 * k.val ≤ (j 0).val
  · have e : j = ((sR).view.slice (Rect.unit (s := S1024) (k1_off2 k) S16.size (k1_off2_inb k))).emb (ix1 ⟨(j 0).val - 16 * k.val, by omega⟩ : S16.Idx) := by
      funext a
      match a with
      | 0 =>
        apply Fin.ext
        refine Eq.trans ?_ (Rect.emb_apply _ _ _).symm
        simp only [k1_off2_eq, Rect.unit]
        show (j 0).val = 16 * k.val + 1 * ((j 0).val - 16 * k.val)
        omega
    rw [e]
    exact (View.write_emb_of_mem _ _ (Finset.mem_univ _)).trans rfl
  · rw [View.write_of_not_mem]
    · exact hf j (by omega)
    · intro hm
      obtain ⟨x, -, hx⟩ := Finset.mem_map.mp hm
      apply h
      rw [← hx]
      refine le_of_le_of_eq ?_ (Rect.emb_apply _ _ _).symm
      simp [k1_off2_eq]

def inv1 (k : Nat) (_ : PUnit) : sProp 𝕄 := iprop(∃ f : S1024.Idx → F .f32, ⌜zeroed k f⌝ ∗ ((sR).view.loc (V d (cV L) (jV L)) ↦{fullShare} f))

omit [FloatOps F] in
theorem tileRow_lt (j : S32x16.Idx) : 32 * wid L + (j 0).val < 1024 := by
  have h := wid_lt L
  have hj : (j 0).val < 32 := (j 0).isLt
  omega

/-- Before row `k`: the labels and the tile's indices in place, the row all zero, the rows before `k` written. -/
def inv2 (gY : S100000.Idx → BitVec 32) (gI : S32x16.Idx → BitVec 32) (O : CellTallies nD τ sig (HIx 1)) (k : Nat) (_ : PUnit) : sProp 𝕄 :=
  iprop(Transfers.MayWaits (V d (cV L) (jV L)) (default : HIx 1) O
    ∗ ((sY).view.loc (V d (cV L) (jV L)) ↦{fullShare} gY)
    ∗ ((sI).view.loc (V d (cV L) (jV L)) ↦{fullShare} gI)
    ∗ ((sR).view.loc (V d (cV L) (jV L)) ↦{fullShare} (fun _ => Scalar.ofBits .f32 0x00000000#32 : S1024.Idx → F .f32))
    ∗ (∃ f : S1024x1024.Idx → F .f32, ⌜∀ x, (x 0).val / 32 = wid L → (x 0).val < 32 * wid L + k → f x = oneHot ix yv x⌝ ∗ oPts d (wid L) f)
    ∗ semVal (cC d L) 0
    ∗ ∃ W', owes (V d (cV L) (jV L)) O W')

/-- The row held whole, as the indexed store holds it. -/
theorem row_access (f : S1024.Idx → F .f32) :
    (((sR).access (.whole S1024)).loc (V d (cV L) (jV L)) ↦[((sR).access (.whole S1024)).set]{fullShare} f : sProp 𝕄)
      = ((sR).view.loc (V d (cV L) (jV L)) ↦{fullShare} f) := by
  have e : ((sR).access (.whole S1024)).set = Finset.univ := Finset.eq_univ_iff_forall.mpr fun x =>
    Finset.mem_map.mpr ⟨x, Finset.mem_univ _, Rect.emb_whole_apply S1024 x⟩
  rw [e]

/-- Writing the row whole leaves the values written. -/
theorem row_write (f g : S1024.Idx → F .f32) : ((sR).access (.whole S1024)).write (Elt F) f g Finset.univ = g := by
  funext x
  have e := View.write_emb_of_mem (v := (sR).access (.whole S1024)) (Val := Elt F) f g (Finset.mem_univ x)
  have hx : ((sR).access (.whole S1024)).emb x = x := Rect.emb_whole_apply S1024 x
  rw [hx] at e
  exact e

/-- The row after the ones are stored. -/
theorem row_ones (r : Fin 1024) (v9 : IVec S16 32) (hv : ∀ l : Fin 16, (v9 (ix1 l)).toNat = lab yv (ix (ix2 r l)).toNat)
    (h : ∀ a x, ((![v9] : Fin 1 → IVec S16 32) a x).toNat < S1024.size a) :
    (((sR).access (.whole S1024)).loc (V d (cV L) (jV L)) ↦[((sR).access (.whole S1024)).set]{fullShare}
        ((sR).access (.whole S1024)).write (Elt F) (fun _ => Scalar.ofBits .f32 0x00000000#32 : S1024.Idx → F .f32)
          (storeIdx (((sR).access (.whole S1024)).read (Elt F) (fun _ => Scalar.ofBits .f32 0x00000000#32 : S1024.Idx → F .f32)) ![v9] (k1_pay2 (F := F)) (fun _ => 1#1) false h) Finset.univ : sProp 𝕄)
      = ((sR).view.loc (V d (cV L) (jV L)) ↦{fullShare} hotRow (F := F) ix yv r) := by
  rw [← row_access]
  congr 1
  exact (row_write _ _).trans (store_ones ix yv r v9 hv h)

/-- The row after the zeros are stored at the same places. -/
theorem row_zeros (r : Fin 1024) (v9 : IVec S16 32) (hv : ∀ l : Fin 16, (v9 (ix1 l)).toNat = lab yv (ix (ix2 r l)).toNat)
    (h : ∀ a x, ((![v9] : Fin 1 → IVec S16 32) a x).toNat < S1024.size a) :
    (((sR).access (.whole S1024)).loc (V d (cV L) (jV L)) ↦[((sR).access (.whole S1024)).set]{fullShare}
        ((sR).access (.whole S1024)).write (Elt F) (hotRow (F := F) ix yv r)
          (storeIdx (((sR).access (.whole S1024)).read (Elt F) (hotRow (F := F) ix yv r)) ![v9] (k1_pay1 (F := F)) (fun _ => 1#1) false h) Finset.univ : sProp 𝕄)
      = ((sR).view.loc (V d (cV L) (jV L)) ↦{fullShare} (fun _ => Scalar.ofBits .f32 0x00000000#32 : S1024.Idx → F .f32)) := by
  rw [← row_access]
  congr 1
  have e : ((sR).access (.whole S1024)).read (Elt F) (hotRow (F := F) ix yv r) = hotRow (F := F) ix yv r :=
    funext fun x => congrArg (hotRow (F := F) ix yv r) (Rect.emb_whole_apply S1024 x)
  rw [e]
  exact (row_write _ _).trans (store_zeros ix yv r v9 hv h)

/-- The result with row `t` of the tile's part written. -/
def withRow (L : grid1.Coords) (t : Nat) (f : S1024x1024.Idx → F .f32) : S1024x1024.Idx → F .f32 :=
  fun x => if (x 0).val = 32 * wid L + t then oneHot ix yv x else f x

theorem rows_succ (L : grid1.Coords) (t : Fin k1_t2_loop.trips) (f : S1024x1024.Idx → F .f32)
    (hf : ∀ x, (x 0).val / 32 = wid L → (x 0).val < 32 * wid L + t.val → f x = oneHot ix yv x) :
    ∀ x, (x 0).val / 32 = wid L → (x 0).val < 32 * wid L + (t.val + 1) → withRow (F := F) ix yv L t.val f x = oneHot ix yv x := by
  intro x h1 h2
  unfold withRow
  split
  · rfl
  · exact hf x h1 (by omega)

/-- The row copied out is the result's row. -/
theorem row_out (t : Fin k1_t2_loop.trips) (f : S1024x1024.Idx → F .f32) (g : S1024.Idx → F .f32)
    (hg : g = hotRow (F := F) ix yv ⟨32 * wid L + t.val, row_lt L t⟩) :
    ((oRow L t).view.loc (V d (cV L) (jV L)) ↦[(oRow L t).view.set]{fullShare}
        (oRow L t).view.writes (Elt F) f [⟨Rect.whole S1024, g⟩] : sProp 𝕄)
      = (oLoc d ↦[(oRow L t).view.set]{fullShare} withRow (F := F) ix yv L t.val f) := by
  refine pointsTo_congr fun x hx => ?_
  have hx0 := (mem_oRow L t x).mp hx
  obtain ⟨j, -, rfl⟩ := Finset.mem_map.mp hx
  have e1 : withRow (F := F) ix yv L t.val f ((oRow L t).view.emb j) = hotRow (F := F) ix yv ⟨32 * wid L + t.val, row_lt L t⟩ j := by
    unfold withRow
    rw [if_pos hx0, oRow_emb]
    rfl
  refine Eq.trans ?_ e1.symm
  rw [View.writes_singleton]
  have h := View.write_emb_of_mem (v := (oRow L t).view.slice (Rect.whole S1024)) (Val := Elt F) f g (Finset.mem_univ j)
  have hj : ((oRow L t).view.slice (Rect.whole S1024)).emb j = (oRow L t).view.emb j := congrArg (oRow L t).view.emb (Rect.emb_whole_apply S1024 j)
  rw [hj] at h
  rw [← hg]
  exact h

theorem rest_out (t : Fin k1_t2_loop.trips) (f : S1024x1024.Idx → F .f32) :
    (oLoc d ↦[blk (wid L) \ (oRow L t).view.set]{fullShare} f : sProp 𝕄)
      = (oLoc d ↦[blk (wid L) \ (oRow L t).view.set]{fullShare} withRow (F := F) ix yv L t.val f) := by
  refine pointsTo_congr fun x hx => ?_
  have hx0 := mt (mem_oRow L t x).mpr (Finset.mem_sdiff.mp hx).2
  unfold withRow
  rw [if_neg hx0]

theorem tile_body (hF : (K (F := F)).Facts) (hr : InRange ix yv) (O : CellTallies nD τ sig (HIx 1)) (W : Waits sig (HIx 1)) (hO : ∀ g, O g none = 0) :
    iprop(levAts (K (F := F)).L (K (F := F)).lev ∗ emp
        ∗ (iPts (F := F) ix d (wid L) ∗ yPts (F := F) yv d (wid L) ∗ ∃ f, oPts (F := F) d (wid L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_scatter_kernel L iV (Memref.isWhole_whole _) yV (Memref.isWhole_whole _) oV (Memref.isWhole_whole _)
            sY (Memref.isWhole_whole _) sI (Memref.isWhole_whole _) sR (Memref.isWhole_whole _) cc1_scoped0 cc1_scoped1 cc1_scoped2)
          fun _ => iprop((iPts (F := F) ix d (wid L) ∗ yPts (F := F) yv d (wid L) ∗ oPts d (wid L) (oneHot ix yv))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc1_scatter_kernel_eq_skeleton]; unfold cc1_scatter_kernel_skel
  rw [(K (F := F)).scopedBufs_V hF d (cV L) (jV L), SparseCore.Cfg.scopedSems0_V (Val := Elt F) d (cV L) (jV L), ownSems_tile, ownBufs_tile]
  iintro ⟨#Hlv, -, ⟨Hi, Hy, ⟨%fo, Ho⟩⟩, ⟨⟨%f0, Hs0⟩, ⟨%f1, Hs1⟩, ⟨%f2, Hs2⟩, Hbufs⟩, ⟨HA, HB, HC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iPts (F := F) ix d (wid L) : sProp 𝕄) = ((iV).view.loc (V d (cV L) (jV L)) ↦{Transfers.shareTokN fullShare (wid L)} ix) from rfl)) $$ Hi
  ihave Hy' := (Entails.of_eq (show (yPts (F := F) yv d (wid L) : sProp 𝕄) = ((yV).view.loc (V d (cV L) (jV L)) ↦{Transfers.shareTokN fullShare (wid L)} yv) from rfl)) $$ Hy
  sl_exec
  sl_for (inv1 d L) $$ [Hs2]
  case region =>
    intro k _
    unfold inv1
    iintro ⟨%f, %hf, Hs⟩
    sl_exec
    sl_step
    iexists _; isplitr
    swap; · iexact Hs
    ipureintro; exact zeroed_succ k f hf
  · unfold inv1
    iexists f2; isplitr
    · ipureintro; intro j hj; omega
    · iexact Hs2
  iintro %_ HI
  unfold inv1
  icases HI with ⟨%f, %hf, Hs2⟩
  have hz : f = (fun _ => Scalar.ofBits .f32 0x00000000#32 : S1024.Idx → F .f32) := by
    funext j
    have hj : (j 0).val < 1024 := (j 0).isLt
    exact hf j (lt_of_lt_of_eq hj (by rw [show Scf.trips k1_t1_loop.lb k1_t1_loop.ub k1_t1_loop.st = 64 from trips1]))
  subst hz
  sl_exec
  have hY : View.write (Elt F) (sY).view f0 (tile_body.sl.dma0 (F := F) yv) Finset.univ = yv :=
    funext fun x => (View.write_emb_of_mem (v := (sY).view) f0 _ (Finset.mem_univ x)).trans rfl
  have hI : View.write (Elt F) (sI).view f1 (tile_body.sl.dma0_1 (F := F) L ix) Finset.univ
      = fun j : S32x16.Idx => ix (ix2 ⟨32 * wid L + (j 0).val, tileRow_lt L j⟩ (j 1)) :=
    funext fun x => (View.write_emb_of_mem (v := (sI).view) f1 _ (Finset.mem_univ x)).trans (congrArg ix (iRows_emb L x (tileRow_lt L x)))
  sl_for (inv2 d L ix yv yv (fun j => ix (ix2 ⟨32 * wid L + (j 0).val, tileRow_lt L j⟩ (j 1))) O) $$ [Hmw Hs0 Hs1 Hs2 Ho HC HO]
  case region =>
    intro k _
    unfold inv2
    iintro ⟨Hmw, Hs0, Hs1, Hs2, ⟨%f, %hf, Ho⟩, HC, ⟨%W', HO⟩⟩
    sl_exec
    have hv8 : ∀ l : Fin 16, tile_body.sl.v8 (F := F) L ix k (ix1 l) = ix (ix2 ⟨32 * wid L + k.val, row_lt L k⟩ l) := by
      intro l
      show ix (ix2 ⟨32 * wid L + (((Rect.unit (s := S32x16) (k1_off3 k) S1x16.size (k1_off3_inb k)).emb (Shape.reshapeEquiv shapeCasts_S1x16_S16 (ix1 l))) 0).val, _⟩
        (((Rect.unit (s := S32x16) (k1_off3 k) S1x16.size (k1_off3_inb k)).emb (Shape.reshapeEquiv shapeCasts_S1x16_S16 (ix1 l))) 1)) = _
      refine congrArg ix (funext fun a => Fin.ext ?_)
      rw [Lanes.reshape_row]
      match a with
      | 0 =>
        refine (congrArg (32 * wid L + ·) (Rect.emb_apply _ _ _)).trans ?_
        simp [k1_off3_eq]
      | 1 =>
        refine (Rect.emb_apply _ _ _).trans ?_
        simp [k1_off3_eq]
    generalize tile_body.sl.v8 (F := F) L ix k = v8 at hv8 ⊢
    have hc1 : k1_chk1 v8 := by
      intro a x
      match a with
      | 0 =>
        rw [eq_ix1 x]
        exact lt_of_eq_of_lt (congrArg BitVec.toNat (hv8 (x 0))) (hr.1 _)
    rw [wp_assume_of _ _ _ _ hc1]
    iapply (SparseCore.wp_vectorLoadIdx 𝒱₀ (V d (cV L) (jV L)) none Set.univ (base := sY) (S := Finset.univ) (q := fullShare) (Finset.subset_univ _)) $$ Hs0; iintro Hs0
    have hv9 : ∀ l : Fin 16, (loadIdx (((sY).access (.whole S100000)).read (Elt F) yv) ![v8] (k1_idx1_inb v8 hc1) (ix1 l)).toNat
        = lab yv (ix (ix2 ⟨32 * wid L + k.val, row_lt L k⟩ l)).toNat := by
      intro l
      have hl : (v8 (ix1 l)).toNat < 100000 := lt_of_eq_of_lt (congrArg BitVec.toNat (hv8 l)) (hr.1 _)
      have e : lab yv (ix (ix2 ⟨32 * wid L + k.val, row_lt L k⟩ l)).toNat = (yv (ix1 ⟨(v8 (ix1 l)).toNat, hl⟩)).toNat := by
        rw [← hv8 l]; unfold lab; rw [dif_pos hl]
      rw [e]
      refine congrArg (fun z => (yv z).toNat) (funext fun a => ?_)
      match a with
      | 0 =>
        have h0 := congrFun (Rect.emb_whole_apply S100000 (idxAt ![v8] (k1_idx1_inb v8 hc1) (ix1 l))) 0
        exact h0.trans rfl
    generalize loadIdx (((sY).access (.whole S100000)).read (Elt F) yv) ![v8] (k1_idx1_inb v8 hc1) = v9 at hv9 ⊢
    have hc2 : k1_chk2 v9 := by
      have h : ∀ a x, ((![v9] : Fin 1 → IVec S16 32) a x).toNat < S1024.size a := by
        intro a x
        match a with
        | 0 =>
          rw [eq_ix1 x]
          exact lt_of_eq_of_lt (hv9 (x 0)) (lab_lt hr _)
      exact ⟨h, h⟩
    rw [Prog.bind_lift, wp_assume_of _ _ _ _ hc2]
    ihave Hs2' := (Entails.of_eq (row_access (F := F) d L (fun _ => Scalar.ofBits .f32 0x00000000#32)).symm) $$ Hs2
    iapply (SparseCore.wp_vectorStoreIdx 𝒱₀ (V d (cV L) (jV L)) none Set.univ (base := sR)) $$ Hs2'; iintro Hs2'
    ihave Hs2 := (Entails.of_eq (row_ones (F := F) d L ix yv ⟨32 * wid L + k.val, row_lt L k⟩ v9 hv9 hc2.1)) $$ Hs2'
    ihave Ho' := (pointsTo_split_subset (oRow_sub L k)).1 $$ Ho
    icases Ho' with ⟨Hrow, Hrest⟩
    ihave Hrow' := (Entails.of_eq (show (oLoc d ↦[(oRow L k).view.set]{fullShare} f : sProp 𝕄)
      = ((oRow L k).view.loc (V d (cV L) (jV L)) ↦[(oRow L k).view.set]{fullShare} f) from rfl)) $$ Hrow
    sl_exec
    ihave Hs2' := (Entails.of_eq (row_access (F := F) d L (hotRow (F := F) ix yv ⟨32 * wid L + k.val, row_lt L k⟩)).symm) $$ Hs2
    iapply (SparseCore.wp_vectorStoreIdx 𝒱₀ (V d (cV L) (jV L)) none Set.univ (base := sR)) $$ Hs2'; iintro Hs2'
    ihave Hs2 := (Entails.of_eq (row_zeros (F := F) d L ix yv ⟨32 * wid L + k.val, row_lt L k⟩ v9 hv9 hc2.2)) $$ Hs2'
    sl_exec
    sl_step
    ihave Hrow := (Entails.of_eq (row_out (F := F) d L ix yv k f (tile_body.sl.dma0_2 (F := F) L ix yv k) rfl)) $$ Hrow'
    ihave Hrest' := (Entails.of_eq (rest_out (F := F) d L ix yv k f)) $$ Hrest
    ihave Ho := (pointsTo_split_subset (ℓ := oLoc d) (q := fullShare) (f := withRow (F := F) ix yv L k.val f) (oRow_sub L k)).2 $$ [Hrow Hrest']
    · isplitl [Hrow] <;> iassumption
    isplitl [Hmw]; · iexact Hmw
    isplitl [Hs0]; · iexact Hs0
    isplitl [Hs1]; · iexact Hs1
    isplitl [Hs2]; · iexact Hs2
    isplitl [Ho]
    · iexists _; isplitr
      swap; · iexact Ho
      ipureintro; exact rows_succ ix yv L k f hf
    isplitl [HC]; · iexact HC
    iexists _; iexact HO
  · unfold inv2
    isplitl [Hmw]; · iexact Hmw
    isplitl [Hs0]
    · iapply (Entails.of_eq (congrArg (fun g => ((sY).view.loc (V d (cV L) (jV L)) ↦{fullShare} g : sProp 𝕄)) hY)); iexact Hs0
    isplitl [Hs1]
    · iapply (Entails.of_eq (congrArg (fun g => ((sI).view.loc (V d (cV L) (jV L)) ↦{fullShare} g : sProp 𝕄)) hI)); iexact Hs1
    isplitl [Hs2]; · iexact Hs2
    isplitl [Ho]
    · iexists fo; isplitr
      · ipureintro; intro x h1 h2; omega
      · iexact Ho
    isplitl [HC]; · iexact HC
    iexists _; iexact HO
  iintro %_ HI
  unfold inv2
  icases HI with ⟨-, Hs0, Hs1, Hs2, ⟨%f, %hf, Ho⟩, HC, ⟨%W', HO⟩⟩
  sl_exec
  sl_step
  isplitl [Hi' Hy' Ho]
  · isplitl [Hi']; · iexact Hi'
    isplitl [Hy']; · iexact Hy'
    iapply (Entails.of_eq (pointsTo_congr (fun x hx => hf x (mem_blk.mp hx) (by
      have hx' := mem_blk.mp hx
      have ht : Scf.trips k1_t2_loop.lb k1_t2_loop.ub k1_t2_loop.st = 32 := trips2
      rw [ht]; omega)))); iexact Ho
  isplitl [Hs0 Hs1 Hs2 Hbufs]
  · isplitl [Hs0]; · iexists _; iexact Hs0
    isplitl [Hs1]; · iexists _; iexact Hs1
    isplitl [Hs2]; · iexists _; iexact Hs2
    iexact Hbufs
  isplitl [HA HB HC Hsems]
  · isplitl [HA]; · iexact HA
    isplitl [HB]; · iexact HB
    isplitl [HC]; · iexact HC
    iexact Hsems
  iexists W'; isplitr
  · ipureintro; intro p _
    rcases p.2 with _ | q
    · exact .inr (.inl rfl)
    · exact .inr (.inr (congrArg some (Subsingleton.elim q 0)))
  · iexact HO

end Tile

end Cert.Proof.Whole

end
-- ==== Proof.Pick.lean ====
/-
  THE NEAREST COLUMNS OF A ROW, one after the other. A row of similarities is a function `s` of the column's number; a column
  comes before another if its similarity is larger, or the same and its number smaller (`bef`). `pick s C` is the first column
  of a finite set `C`, `drop s C n` what is left after `n` picks, `nth s C n` the pick after them and `taken s C n` the `n`
  columns picked. `nth_eq_of_subset`: if each column of `D` that `C` lacks has more than `n` columns of `C` before it, the
  two sets have the same `n`-th column.
-/
module

public import Mathlib.Data.EReal.Basic
public import Mathlib.Data.Finset.Card
public import Mathlib.Data.Finset.Max
public import Mathlib.Order.Interval.Finset.Nat

@[expose] public section

noncomputable section

namespace Cert.Proof.Pick

variable (s : ℕ → EReal)

/-- Column `i` comes before column `j`. -/
def bef (i j : ℕ) : Prop := s j < s i ∨ (s j = s i ∧ i < j)

theorem bef_irrefl (i : ℕ) : ¬ bef s i i := by
  rintro (h | ⟨-, h⟩)
  · exact lt_irrefl _ h
  · exact lt_irrefl _ h

theorem bef_trans {i j k : ℕ} (h : bef s i j) (h' : bef s j k) : bef s i k := by
  rcases h with h | ⟨e, h⟩ <;> rcases h' with h' | ⟨e', h'⟩
  · exact .inl (h'.trans h)
  · exact .inl (e' ▸ h)
  · exact .inl (e ▸ h')
  · exact .inr ⟨e'.trans e, h.trans h'⟩

theorem bef_total {i j : ℕ} (h : i ≠ j) : bef s i j ∨ bef s j i := by
  rcases lt_trichotomy (s i) (s j) with h' | h' | h'
  · exact .inr (.inl h')
  · rcases Nat.lt_or_gt_of_ne h with h | h
    · exact .inl (.inr ⟨h'.symm, h⟩)
    · exact .inr (.inr ⟨h', h⟩)
  · exact .inl (.inl h')

theorem bef_asymm {i j : ℕ} (h : bef s i j) : ¬ bef s j i := fun h' => bef_irrefl s i (bef_trans s h h')

/-- A set with a column has a first one. -/
theorem exists_first (C : Finset ℕ) (hC : C.Nonempty) : ∃ j ∈ C, ∀ i ∈ C, i ≠ j → bef s j i := by
  induction hC using Finset.Nonempty.cons_induction with
  | singleton a => exact ⟨a, Finset.mem_singleton_self a, fun i hi hne => absurd (Finset.mem_singleton.mp hi) hne⟩
  | cons a C ha _ ih =>
    obtain ⟨j, hj, hall⟩ := ih
    have haj : a ≠ j := fun e => ha (e ▸ hj)
    rcases bef_total s haj with h | h
    · refine ⟨a, Finset.mem_cons_self a C, fun i hi hne => ?_⟩
      rcases Finset.mem_cons.mp hi with rfl | hi
      · exact absurd rfl hne
      · by_cases e : i = j
        · exact e ▸ h
        · exact bef_trans s h (hall i hi e)
    · refine ⟨j, Finset.mem_cons.mpr (.inr hj), fun i hi hne => ?_⟩
      rcases Finset.mem_cons.mp hi with rfl | hi
      · exact h
      · exact hall i hi hne

open Classical in
/-- The first column of a set (any number if it has none). -/
def pick (C : Finset ℕ) : ℕ := if h : C.Nonempty then (exists_first s C h).choose else 0

theorem pick_mem {C : Finset ℕ} (h : C.Nonempty) : pick s C ∈ C := by
  unfold pick; rw [dif_pos h]; exact (exists_first s C h).choose_spec.1

theorem pick_bef {C : Finset ℕ} {i : ℕ} (hi : i ∈ C) (hne : i ≠ pick s C) : bef s (pick s C) i := by
  have h : C.Nonempty := ⟨i, hi⟩
  unfold pick at hne ⊢; rw [dif_pos h] at hne ⊢
  exact (exists_first s C h).choose_spec.2 i hi hne

theorem pick_eq {C : Finset ℕ} {j : ℕ} (hj : j ∈ C) (h : ∀ i ∈ C, i ≠ j → bef s j i) : pick s C = j := by
  by_contra hne
  have h1 := pick_bef s hj fun e => hne e.symm
  exact bef_asymm s h1 (h _ (pick_mem s ⟨j, hj⟩) hne)

/-- The first column has the largest similarity, -/
theorem le_pick {C : Finset ℕ} {i : ℕ} (hi : i ∈ C) : s i ≤ s (pick s C) := by
  by_cases e : i = pick s C
  · exact e ▸ le_rfl
  · rcases pick_bef s hi e with h | ⟨h, -⟩
    · exact h.le
    · exact h.le

/-- and the smallest number among those of that similarity. -/
theorem pick_le {C : Finset ℕ} {i : ℕ} (hi : i ∈ C) (h : s i = s (pick s C)) : pick s C ≤ i := by
  by_cases e : i = pick s C
  · exact e ▸ le_rfl
  · rcases pick_bef s hi e with h' | ⟨-, h'⟩
    · exact absurd (h ▸ h') (lt_irrefl _)
    · exact h'.le

/-- What is left of a set after `n` picks. -/
def drop (C : Finset ℕ) : ℕ → Finset ℕ
  | 0 => C
  | n + 1 => (drop C n).erase (pick s (drop C n))

/-- The pick after `n` picks. -/
def nth (C : Finset ℕ) (n : ℕ) : ℕ := pick s (drop s C n)

/-- The columns that the first `n` picks take. -/
def taken (C : Finset ℕ) (n : ℕ) : Finset ℕ := C \ drop s C n

@[simp] theorem drop_zero (C : Finset ℕ) : drop s C 0 = C := rfl
theorem drop_succ (C : Finset ℕ) (n : ℕ) : drop s C (n + 1) = (drop s C n).erase (nth s C n) := rfl
@[simp] theorem taken_zero (C : Finset ℕ) : taken s C 0 = ∅ := by unfold taken; rw [drop_zero]; exact Finset.sdiff_self C

theorem drop_subset (C : Finset ℕ) (n : ℕ) : drop s C n ⊆ C := by
  induction n with
  | zero => exact Finset.Subset.refl C
  | succ n ih => exact (Finset.erase_subset _ _).trans ih

theorem drop_succ' (C : Finset ℕ) (n : ℕ) : drop s C (n + 1) = drop s (C.erase (pick s C)) n := by
  induction n with
  | zero => rfl
  | succ n ih => rw [drop_succ s C (n + 1), nth, ih]; rfl

theorem nth_succ' (C : Finset ℕ) (n : ℕ) : nth s C (n + 1) = nth s (C.erase (pick s C)) n := by
  rw [nth, drop_succ']; rfl

theorem drop_card {C : Finset ℕ} {n : ℕ} (h : n ≤ C.card) : (drop s C n).card = C.card - n := by
  induction n with
  | zero => rfl
  | succ n ih =>
    have := ih (by omega)
    have hne : (drop s C n).Nonempty := Finset.card_pos.mp (by omega)
    rw [drop_succ, Finset.card_erase_of_mem (show nth s C n ∈ drop s C n from pick_mem s hne), this]; omega

theorem drop_nonempty {C : Finset ℕ} {n : ℕ} (h : n < C.card) : (drop s C n).Nonempty :=
  Finset.card_pos.mp (by rw [drop_card s h.le]; omega)

theorem nth_mem_drop {C : Finset ℕ} {n : ℕ} (h : n < C.card) : nth s C n ∈ drop s C n := pick_mem s (drop_nonempty s h)
theorem nth_mem {C : Finset ℕ} {n : ℕ} (h : n < C.card) : nth s C n ∈ C := drop_subset s C n (nth_mem_drop s h)

/-- One more pick takes one more column. -/
theorem taken_succ {C : Finset ℕ} {n : ℕ} (h : n < C.card) : taken s C (n + 1) = insert (nth s C n) (taken s C n) := by
  ext x
  have hm := nth_mem s h
  simp only [taken, drop_succ, Finset.mem_sdiff, Finset.mem_erase, Finset.mem_insert, not_and, not_not]
  constructor
  · rintro ⟨hx, h'⟩
    by_cases e : x = nth s C n
    · exact .inl e
    · exact .inr ⟨hx, fun hd => h' e hd⟩
  · rintro (rfl | ⟨hx, h'⟩)
    · exact ⟨hm, fun hne => absurd rfl hne⟩
    · exact ⟨hx, fun _ hd => h' hd⟩

theorem taken_card {C : Finset ℕ} {n : ℕ} (h : n ≤ C.card) : (taken s C n).card = n := by
  unfold taken; rw [Finset.card_sdiff_of_subset (drop_subset s C n), drop_card s h]; omega

theorem taken_subset (C : Finset ℕ) (n : ℕ) : taken s C n ⊆ C := Finset.sdiff_subset

theorem mem_taken {C : Finset ℕ} {n x : ℕ} (h : n ≤ C.card) : x ∈ taken s C n ↔ ∃ u < n, x = nth s C u := by
  induction n with
  | zero => simp
  | succ n ih =>
    rw [taken_succ s h, Finset.mem_insert, ih (by omega)]
    constructor
    · rintro (rfl | ⟨u, hu, rfl⟩)
      · exact ⟨n, by omega, rfl⟩
      · exact ⟨u, by omega, rfl⟩
    · rintro ⟨u, hu, rfl⟩
      by_cases e : u = n
      · exact .inl (e ▸ rfl)
      · exact .inr ⟨u, by omega, rfl⟩

/-- What was picked comes before what is left. -/
theorem taken_bef {C : Finset ℕ} {n x d : ℕ} (hn : n ≤ C.card) (hx : x ∈ taken s C n) (hd : d ∈ drop s C n) : bef s x d := by
  induction n with
  | zero => rw [taken_zero] at hx; exact absurd hx (Finset.notMem_empty x)
  | succ n ih =>
    rw [taken_succ s hn] at hx
    have hd' := hd
    rw [drop_succ] at hd
    have hd2 := Finset.mem_of_mem_erase hd
    rcases Finset.mem_insert.mp hx with rfl | hx
    · exact pick_bef s hd2 (Finset.ne_of_mem_erase hd)
    · exact ih (by omega) hx hd2

/-- If each column of `D` that is not in `C` has more than `n` columns of `C` before it, the picks up to the `n`-th are the
    same. -/
theorem nth_eq_of_subset {C D : Finset ℕ} (n : ℕ) (hCD : C ⊆ D) (hD : D.Nonempty)
    (h : ∀ d ∈ D, d ∉ C → ∃ T ⊆ C, n < T.card ∧ ∀ x ∈ T, bef s x d) (hn : n < D.card) : nth s C n = nth s D n := by
  induction n generalizing C D with
  | zero =>
    have hp : pick s D ∈ C := by
      by_contra hc
      obtain ⟨T, hT, hcard, hb⟩ := h _ (pick_mem s hD) hc
      obtain ⟨x, hx⟩ := Finset.card_pos.mp hcard
      have hx' := hb x hx
      have hne : x ≠ pick s D := fun e => bef_irrefl s x (by rw [← e] at hx'; exact hx')
      exact bef_asymm s hx' (pick_bef s (hCD (hT hx)) hne)
    exact pick_eq s hp fun i hi hne => pick_bef s (hCD hi) hne
  | succ n ih =>
    have hp : pick s C = pick s D := by
      have hp : pick s D ∈ C := by
        by_contra hc
        obtain ⟨T, hT, hcard, hb⟩ := h _ (pick_mem s hD) hc
        obtain ⟨x, hx⟩ := Finset.card_pos.mp (Nat.lt_of_le_of_lt (Nat.zero_le _) hcard)
        have hx' := hb x hx
        have hne : x ≠ pick s D := fun e => bef_irrefl s x (by rw [← e] at hx'; exact hx')
        exact bef_asymm s hx' (pick_bef s (hCD (hT hx)) hne)
      exact pick_eq s hp fun i hi hne => pick_bef s (hCD hi) hne
    have hcardD : (D.erase (pick s D)).card = D.card - 1 := Finset.card_erase_of_mem (pick_mem s hD)
    rw [nth_succ', nth_succ', hp]
    refine ih (Finset.erase_subset_erase _ hCD) (Finset.card_pos.mp (by omega)) (fun d hd hdc => ?_) (by omega)
    have hdD := Finset.mem_of_mem_erase hd
    have hdne := Finset.ne_of_mem_erase hd
    have hdC : d ∉ C := fun hc => hdc (Finset.mem_erase.mpr ⟨hdne, hc⟩)
    obtain ⟨T, hT, hcard, hb⟩ := h d hdD hdC
    refine ⟨T.erase (pick s D), Finset.erase_subset_erase _ hT, ?_, fun x hx => hb x (Finset.mem_of_mem_erase hx)⟩
    have := Finset.pred_card_le_card_erase (s := T) (a := pick s D)
    omega

/-- THE MERGE: the ten first columns of `A` and the first `t` of a block `B` after it suffice for the ten first of both, if
    `t` is ten, or if what is left of the block has no similarity above the tenth of `A`. -/
theorem nth_merge {A B : Finset ℕ} {t : ℕ} (htB : t ≤ B.card) (hAB : ∀ a ∈ A, ∀ b ∈ B, a < b)
    (hA : 10 ≤ A.card ∨ A = ∅) (hstop : t = 10 ∨ (10 ≤ A.card ∧ ∀ b ∈ drop s B t, s b ≤ s (nth s A 9)))
    {n : ℕ} (hn : n < 10) (hcard : 10 ≤ (A ∪ B).card) :
    nth s (taken s A 10 ∪ taken s B t) n = nth s (A ∪ B) n := by
  refine nth_eq_of_subset s n (Finset.union_subset_union (taken_subset s A 10) (taken_subset s B t))
    (Finset.card_pos.mp (by omega)) (fun d hd hdc => ?_) (by omega)
  rw [Finset.mem_union, not_or] at hdc
  rcases Finset.mem_union.mp hd with hdA | hdB
  · rcases hA with hA | hA
    · have hdd : d ∈ drop s A 10 := by
        by_contra hc; exact hdc.1 (Finset.mem_sdiff.mpr ⟨hdA, hc⟩)
      exact ⟨taken s A 10, Finset.subset_union_left, by rw [taken_card s hA]; exact hn, fun x hx => taken_bef s hA hx hdd⟩
    · rw [hA] at hdA; exact absurd hdA (Finset.notMem_empty d)
  · have hdd : d ∈ drop s B t := by
      by_contra hc; exact hdc.2 (Finset.mem_sdiff.mpr ⟨hdB, hc⟩)
    rcases hstop with rfl | ⟨hA10, hle⟩
    · exact ⟨taken s B 10, Finset.subset_union_right, by rw [taken_card s htB]; exact hn, fun x hx => taken_bef s htB hx hdd⟩
    · refine ⟨taken s A 10, Finset.subset_union_left, by rw [taken_card s hA10]; exact hn, fun x hx => ?_⟩
      have h9 : nth s A 9 ∈ A := nth_mem s (by omega)
      have h9d : bef s (nth s A 9) d := by
        rcases (hle d hdd).lt_or_eq with h | h
        · exact .inl h
        · exact .inr ⟨h, hAB _ h9 d hdB⟩
      rw [taken_succ s (by omega : 9 < A.card)] at hx
      rcases Finset.mem_insert.mp hx with rfl | hx
      · exact h9d
      · exact bef_trans s (taken_bef s (by omega) hx (nth_mem_drop s (by omega))) h9d

/-- No pass over the block: the first ten stay. -/
theorem nth_stay {A B : Finset ℕ} (hAB : ∀ a ∈ A, ∀ b ∈ B, a < b) (hA : 10 ≤ A.card)
    (hstop : ∀ b ∈ B, s b ≤ s (nth s A 9)) {n : ℕ} (hn : n < 10) : nth s A n = nth s (A ∪ B) n := by
  have hU : A.card ≤ (A ∪ B).card := Finset.card_le_card Finset.subset_union_left
  refine nth_eq_of_subset s n Finset.subset_union_left (Finset.card_pos.mp (by omega)) (fun d hd hdc => ?_) (by omega)
  have hdB : d ∈ B := (Finset.mem_union.mp hd).resolve_left hdc
  refine ⟨taken s A 10, taken_subset s A 10, by rw [taken_card s hA]; exact hn, fun x hx => ?_⟩
  have h9 : nth s A 9 ∈ A := nth_mem s (by omega)
  have h9d : bef s (nth s A 9) d := by
    rcases (hstop d hdB).lt_or_eq with h | h
    · exact .inl h
    · exact .inr ⟨h, hAB _ h9 d hdB⟩
  rw [taken_succ s (by omega : 9 < A.card)] at hx
  rcases Finset.mem_insert.mp hx with rfl | hx
  · exact h9d
  · exact bef_trans s (taken_bef s (by omega) hx (nth_mem_drop s (by omega))) h9d

end Cert.Proof.Pick

end
-- ==== Proof.Cells.lean ====
/-
  ONE ROW OF CELLS. Cells with a value and a key hold a set of columns (`Holds`) when every cell whose value is not `-∞` has
  a column of the set as its key and that column's similarity as its value, and every column of the set has such a cell. The
  largest value is then the first column's similarity, the smallest key among the cells of that value the column itself, and
  putting `-∞` at the cells of that key takes the column away.
-/
module

public import proofs.«01_k».proof.Proof.Pick
public import proofs.«01_k».proof.Proof.Range
public import Idealize.ShloMosaic.PureOps.Ideal.Laws
public import Idealize.ShloMosaic.Lib.ValueIdx
public import Idealize.ShloMosaic.Lib.Pipeline.Value
public import Idealize.ShloMosaic.Lib.SortNet.Extract

@[expose] public section

noncomputable section

namespace Cert.Proof.Cells

open Idealize.ShloMosaic Idealize.ShloMosaic.ValueIdx
open Cert.Proof.Pick

/-- The cells hold the columns of `C`. -/
def Holds (s : ℕ → EReal) (C : Finset ℕ) {ι : Type} (v : ι → EReal) (k : ι → BitVec 32) : Prop :=
  (∀ l, v l ≠ ⊥ → (k l).toNat ∈ C ∧ v l = s (k l).toNat) ∧ ∀ j ∈ C, ∃ l, k l = BitVec.ofNat 32 j ∧ v l = s j

variable {s : ℕ → EReal} {C : Finset ℕ} {ι : Type} {v : ι → EReal} {k : ι → BitVec 32}

theorem toNat_col {j : ℕ} (h : j < 100000) : (BitVec.ofNat 32 j).toNat = j := by
  rw [BitVec.toNat_ofNat]; exact Nat.mod_eq_of_lt (by omega)

theorem toInt_col {j : ℕ} (h : j < 100000) : (BitVec.ofNat 32 j).toInt = j := by
  rw [BitVec.toInt_eq_toNat_of_lt (by rw [toNat_col h]; omega), toNat_col h]

theorem ofNat_toNat_eq {x : BitVec 32} {j : ℕ} (h : x.toNat = j) : x = BitVec.ofNat 32 j := by
  subst h; simp

theorem Holds.le (h : Holds s C v k) (l : ι) : v l ≤ s (pick s C) := by
  by_cases e : v l = ⊥
  · rw [e]; exact bot_le
  · obtain ⟨hm, hv⟩ := h.1 l e
    rw [hv]; exact le_pick s hm

theorem Holds.exists (h : Holds s C v k) (hC : C.Nonempty) : ∃ l, k l = BitVec.ofNat 32 (pick s C) ∧ v l = s (pick s C) :=
  h.2 _ (pick_mem s hC)

theorem Holds.key_ge (h : Holds s C v k) (hs : ∀ j ∈ C, s j ≠ ⊥) (hlt : ∀ j ∈ C, j < 100000) (hC : C.Nonempty) (l : ι)
    (e : v l = s (pick s C)) : pick s C ≤ (k l).toNat ∧ (k l).toNat < 100000 := by
  have hb : v l ≠ ⊥ := e ▸ hs _ (pick_mem s hC)
  obtain ⟨hm, hv⟩ := h.1 l hb
  exact ⟨pick_le s hm (hv ▸ e), hlt _ hm⟩

theorem Holds.erase (h : Holds s C v k) (hlt : ∀ j ∈ C, j < 100000) (hC : C.Nonempty) {v' : ι → EReal}
    (hv' : ∀ l, v' l = if k l = BitVec.ofNat 32 (pick s C) then ⊥ else v l) : Holds s (C.erase (pick s C)) v' k := by
  have hp := hlt _ (pick_mem s hC)
  constructor
  · intro l hl
    rw [hv'] at hl ⊢
    by_cases e : k l = BitVec.ofNat 32 (pick s C)
    · rw [if_pos e] at hl; exact absurd rfl hl
    · rw [if_neg e] at hl ⊢
      obtain ⟨hm, hv⟩ := h.1 l hl
      exact ⟨Finset.mem_erase.mpr ⟨fun hn => e (ofNat_toNat_eq hn), hm⟩, hv⟩
  · intro j hj
    obtain ⟨hne, hj⟩ := Finset.mem_erase.mp hj
    obtain ⟨l, hk, hv⟩ := h.2 j hj
    refine ⟨l, hk, ?_⟩
    rw [hv', if_neg, hv]
    intro e
    rw [hk] at e
    have := congrArg BitVec.toNat e
    rw [toNat_col (hlt j hj), toNat_col hp] at this
    exact hne this

theorem Holds.insert (h : Holds s C v k) {j : ℕ} (hj : j < 100000) (l₀ : ι) (hl₀ : v l₀ = ⊥) (hs : ∀ j ∈ C, s j ≠ ⊥) {v' : ι → EReal}
    {k' : ι → BitVec 32} (hv : v' l₀ = s j) (hk : k' l₀ = BitVec.ofNat 32 j) (hv' : ∀ l, l ≠ l₀ → v' l = v l)
    (hk' : ∀ l, l ≠ l₀ → k' l = k l) : Holds s (insert j C) v' k' := by
  classical
  constructor
  · intro l hl
    by_cases e : l = l₀
    · subst e; rw [hk, hv, toNat_col hj]; exact ⟨Finset.mem_insert_self _ _, rfl⟩
    · rw [hv' l e] at hl ⊢; rw [hk' l e]
      obtain ⟨hm, h'⟩ := h.1 l hl
      exact ⟨Finset.mem_insert_of_mem hm, h'⟩
  · intro i hi
    rcases Finset.mem_insert.mp hi with rfl | hi
    · exact ⟨l₀, hk, hv⟩
    · obtain ⟨l, h1, h2⟩ := h.2 i hi
      have e : l ≠ l₀ := fun e => hs i hi (by rw [← h2, e, hl₀])
      exact ⟨l, by rw [hk' l e, h1], by rw [hv' l e, h2]⟩

theorem holds_empty (hv : ∀ l, v l = ⊥) : Holds s ∅ v k :=
  ⟨fun l h => absurd (hv l) h, fun j hj => absurd hj (Finset.notMem_empty j)⟩

/-! ## The two reductions over a row -/

theorem fold_max {β : Type} (S : Finset β) (f : β → EReal) (m : EReal) (hle : ∀ i ∈ S, f i ≤ m) (hex : ∃ i ∈ S, f i = m) :
    S.fold max ⊥ f = m := by
  obtain ⟨i, hi, rfl⟩ := hex
  exact le_antisymm ((Finset.fold_max_le _).mpr ⟨bot_le, hle⟩) ((Finset.le_fold_max _).mpr (.inr ⟨i, hi, le_rfl⟩))

theorem fold_minsi {β : Type} [DecidableEq β] (S : Finset β) (f : β → BitVec 32) :
    (S.fold IntOp.minsi 2147483647#32 f).toInt = S.fold min (2147483647 : ℤ) fun i => (f i).toInt := by
  induction S using Finset.induction_on with
  | empty => rfl
  | insert a S ha ih => rw [Finset.fold_insert ha, Finset.fold_insert ha, SortNet.toInt_minsi, ih]

theorem fold_min {β : Type} [DecidableEq β] (S : Finset β) (f : β → BitVec 32) (m : BitVec 32) (hle : ∀ i ∈ S, m.toInt ≤ (f i).toInt)
    (hex : ∃ i ∈ S, f i = m) : S.fold IntOp.minsi 2147483647#32 f = m := by
  apply BitVec.eq_of_toInt_eq
  rw [fold_minsi]
  obtain ⟨i, hi, rfl⟩ := hex
  refine le_antisymm ((Finset.fold_min_le _).mpr (.inr ⟨i, hi, le_rfl⟩)) ((Finset.le_fold_min _).mpr ⟨?_, hle⟩)
  have := BitVec.toInt_lt (x := f i)
  norm_num at this; omega

abbrev SC1 : Shape := ⟨1, ![1024]⟩
abbrev SW (W : ℕ) : Shape := ⟨2, ![1024, W]⟩

theorem lift_eq {W : ℕ} (h : (SW W).Reduces [1] SC1) (r : Fin 1024) (l : Fin W) : h.lift (ix1 r) l = ix2 r l := by
  funext a
  match a with
  | ⟨0, _⟩ => rfl
  | ⟨1, _⟩ => rfl

theorem negInf : (FloatOps.ofBits .f32 0xFF800000#32 : Ideal .f32) = ⊥ := by
  show Ideal.ofBits .f32 0xFF800000#32 = ⊥
  simp [Ideal.ofBits, Ideal.ieee]

theorem rowMax {W : ℕ} (x : FVec Ideal (SW W) .f32) (h : (SW W).Reduces [1] SC1) (hφ : FKind.Formats .f32)
    (hacc : (0xFF800000#32 : BitVec 32) = FKind.maximumf.neutral .f32 hφ) (r : Fin 1024) (m : EReal) (hle : ∀ l, x (ix2 r l) ≤ m)
    (hex : ∃ l, x (ix2 r l) = m) : multiReduction .maximumf [1] SC1 x 0xFF800000#32 h hφ hacc (ix1 r) = m := by
  rw [Ideal.multiReduction_maximumf_single, negInf]
  refine fold_max _ _ m (fun l _ => ?_) ?_
  · exact (congrArg x (lift_eq h r l)).trans_le (hle l)
  · obtain ⟨l, hl⟩ := hex
    exact ⟨l, Finset.mem_univ _, (congrArg x (lift_eq h r l)).trans hl⟩

theorem rowMin {W : ℕ} (x : IVec (SW W) 32) (h : (SW W).Reduces [1] SC1)
    (hacc : (2147483647#32 : BitVec 32) = IKind.minsi.neutral) (r : Fin 1024) (m : BitVec 32) (hle : ∀ l, m.toInt ≤ (x (ix2 r l)).toInt)
    (hex : ∃ l, x (ix2 r l) = m) : multiReductionI .minsi [1] SC1 x 2147483647#32 h hacc (ix1 r) = m := by
  classical
  rw [multiReductionI_eq_fold, h.fold_filter_drop_single]
  show Finset.fold IntOp.minsi _ _ _ = _
  refine fold_min _ _ m (fun l _ => ?_) ?_
  · exact (hle l).trans_eq (congrArg (fun i => (x i).toInt) (lift_eq h r l)).symm
  · obtain ⟨l, hl⟩ := hex
    exact ⟨l, Finset.mem_univ _, (congrArg x (lift_eq h r l)).trans hl⟩

/-! ## Casts and broadcasts between a row's shapes -/

theorem col_cast {α : Type} (x : SC1.Idx → α) (h : SC1.ShapeCasts (SW 1)) (r : Fin 1024) : shapeCast (SW 1) x h (ix2 r 0) = x (ix1 r) :=
  shapeCast_apply x h _ _ (by
    rw [Shape.rowMajor_val_two, Shape.rowMajor_val_one]; show r.val = r.val * 1 + 0; omega)

theorem col_spread {α : Type} {W : ℕ} (x : (SW 1).Idx → α) (h : (SW 1).Broadcasts (SW W)) (r : Fin 1024) (l : Fin W) :
    broadcastTo (SW W) x h (ix2 r l) = x (ix2 r 0) :=
  broadcastTo_apply x h _ _ fun a => by
    match a with
    | ⟨0, _⟩ => rfl
    | ⟨1, _⟩ => rfl

end Cert.Proof.Cells

end
-- ==== Proof.Pays.lean ====
/-
  WHAT THE TOP-K KERNEL COMPUTES, row by row, on the extended reals: each value it stores or carries, read at a row's lane,
  over the columns that the row's cells hold (`Cells.Holds`).
-/
module

public import proofs.«01_k».proof.Proof.Cells
public import proofs.«01_k».proof.Proof.Gen.KernelIdeal.Skeleton
public import Idealize.ShloMosaic.Lib.IdealHost
public import Idealize.ShloMosaic.Lib.Pointwise

@[expose] public section

noncomputable section

namespace Cert.Proof.Pays

open Idealize.ShloMosaic hiding ix1 ix2 ix3 eq_ix1 eq_ix2 eq_ix3
open Idealize.ShloMosaic.ValueIdx
open Cert.KernelIdeal Cert.KernelIdeal.Gen
open Cert.Proof.Pick
open Cert.Proof.Cells (Holds)

variable {s : ℕ → EReal} {C : Finset ℕ}

/-- A lane's condition as a proposition. -/
theorem select_eq {α : Type} {w : ℕ} (a b : BitVec w) (x y : α) : Scalar.select (IntOp.cmpi .eq a b) x y = if a = b then x else y := by
  by_cases h : a = b
  · subst h; simp [Scalar.select, IntOp.cmpi]
  · have e : IntOp.cmpi .eq a b = 0#1 := by
      show BitVec.ofBool (a == b) = 0#1
      rw [show (a == b) = false from by simpa using h]; rfl
    rw [e, if_neg h]; rfl

theorem select_oeq {α : Type} (a b : EReal) (x y : α) :
    Scalar.select (FloatOps.cmpf (F := Ideal) (φ := .f32) .oeq a b) x y = if a = b then x else y := by
  show Scalar.select (Ideal.cmp .oeq a b) x y = _
  by_cases h : a = b
  · subst h; simp [Scalar.select, Ideal.cmp]
  · simp [Scalar.select, Ideal.cmp, h]

theorem scalar_negInf : (Scalar.ofBits .f32 0xFF800000#32 : Ideal .f32) = ⊥ := Cells.negInf

/-! ## A pass over the block -/

section Pass

variable {v6 : IVec S1024x2048 32} {m : FVec Ideal S1024x1 .f32} {x : Vec Ideal S1024x2048 .f32} {r : Fin 1024}

theorem pay2_apply (h : Holds s C (fun l : Fin 2048 => (x (ix2 r l) : EReal)) (fun l => v6 (ix2 r l))) (hs : ∀ j ∈ C, s j ≠ ⊥)
    (hlt : ∀ j ∈ C, j < 100000) (hC : C.Nonempty) (hm : m (ix2 r 0) = s (pick s C)) :
    k0_pay2 (F := Ideal) v6 m x (ix2 r 0) = BitVec.ofNat 32 (pick s C) := by
  unfold k0_pay2
  refine (Cells.col_cast _ _ r).trans (Cells.rowMin _ _ _ r _ (fun l => ?_) ?_)
  · rw [ValueIdx.select_apply, ValueIdx.cmpf_apply, Cells.col_spread, hm, select_oeq, Cells.toInt_col (hlt _ (pick_mem s hC))]
    split
    · next e =>
      obtain ⟨h1, h2⟩ := h.key_ge hs hlt hC l e
      exact (Int.ofNat_le.mpr h1).trans_eq (Range.toInt_small _ (lt_trans h2 (by decide))).symm
    · have := hlt _ (pick_mem s hC)
      show (_ : ℤ) ≤ (2147483647#32 : BitVec 32).toInt
      rw [show (2147483647#32 : BitVec 32).toInt = 2147483647 from rfl]; omega
  · obtain ⟨l, hk, hv⟩ := h.exists hC
    refine ⟨l, ?_⟩
    rw [ValueIdx.select_apply, ValueIdx.cmpf_apply, Cells.col_spread, hm, select_oeq, if_pos hv]; exact hk

theorem pay3_apply (l : Fin 2048) :
    k0_pay3 (F := Ideal) v6 m x (ix2 r l) = if v6 (ix2 r l) = k0_pay2 (F := Ideal) v6 m x (ix2 r 0) then ⊥ else x (ix2 r l) := by
  unfold k0_pay3
  show Scalar.select (IntOp.cmpi .eq (v6 (ix2 r l)) (broadcastTo S1024x2048 (k0_pay2 (F := Ideal) v6 m x) _ (ix2 r l))) (Scalar.ofBits .f32 0xFF800000#32 : Ideal .f32) (x (ix2 r l)) = _
  rw [Cells.col_spread, select_eq, scalar_negInf]

theorem pay3_holds (h : Holds s C (fun l : Fin 2048 => (x (ix2 r l) : EReal)) (fun l => v6 (ix2 r l))) (hs : ∀ j ∈ C, s j ≠ ⊥)
    (hlt : ∀ j ∈ C, j < 100000) (hC : C.Nonempty) (hm : m (ix2 r 0) = s (pick s C)) :
    Holds s (C.erase (pick s C)) (fun l : Fin 2048 => (k0_pay3 (F := Ideal) v6 m x (ix2 r l) : EReal)) (fun l => v6 (ix2 r l)) :=
  h.erase hlt hC fun l => by rw [pay3_apply, pay2_apply h hs hlt hC hm]

theorem pay4_eq : k0_pay4 (F := Ideal) v6 m x = k0_pay3 (F := Ideal) v6 m x := shapeCast_self _ _

theorem rmax_apply (y : FVec Ideal S1024x2048 .f32) (k : Fin 2048 → BitVec 32)
    (h : Holds s C (fun l : Fin 2048 => (y (ix2 r l) : EReal)) k) (hC : C.Nonempty) :
    shapeCast S1024x1 (multiReduction .maximumf [1] S1024 y 0xFF800000#32 reduces_S1024x2048_S1024 (.inl rfl) rfl) shapeCasts_S1024_S1024x1 (ix2 r 0)
      = s (pick s C) := by
  refine (Cells.col_cast _ _ r).trans (Cells.rowMax _ _ _ _ r _ (fun l => h.le l) ?_)
  obtain ⟨l, -, hv⟩ := h.exists hC
  exact ⟨l, hv⟩

theorem pay14_apply (k : Fin 2048 → BitVec 32) (h : Holds s C (fun l : Fin 2048 => (x (ix2 r l) : EReal)) k) (hC : C.Nonempty) :
    k0_pay14 (F := Ideal) x (ix2 r 0) = s (pick s C) := by
  unfold k0_pay14; exact rmax_apply x k h hC

theorem pay7_apply (h : Holds s C (fun l : Fin 2048 => (x (ix2 r l) : EReal)) (fun l => v6 (ix2 r l))) (hs : ∀ j ∈ C, s j ≠ ⊥)
    (hlt : ∀ j ∈ C, j < 100000) (hC : C.Nonempty) (hm : m (ix2 r 0) = s (pick s C)) (hC' : (C.erase (pick s C)).Nonempty) :
    k0_pay7 (F := Ideal) v6 m x (ix2 r 0) = s (pick s (C.erase (pick s C))) := by
  unfold k0_pay7; exact
  rmax_apply _ _ (pay3_holds h hs hlt hC hm) hC'

end Pass

/-! ## The candidates' lanes -/

/-- The lanes' numbers. -/
abbrev lanes : IVec S1024x32 32 := iota .tc S1024x32 32 [1] iota_S1024x32_d1_w32

theorem lanes_apply (r : Fin 1024) (l : Fin 32) : lanes (ix2 r l) = BitVec.ofNat 32 l.val := by
  unfold lanes
  rw [iota_apply]
  simp only [List.foldl]
  rw [Nat.zero_mul, Nat.zero_add]

theorem lane_eq (t : ℕ) (ht : t < 10) (l : Fin 32) : (BitVec.ofNat 32 l.val = Scalar.addi 16#32 (BitVec.ofNat 32 t)) ↔ l.val = 16 + t := by
  have : Scalar.addi 16#32 (BitVec.ofNat 32 t) = BitVec.ofNat 32 (16 + t) := by
    show 16#32 + BitVec.ofNat 32 t = _
    rw [BitVec.ofNat_add]
  rw [this]
  constructor
  · intro h
    have := congrArg BitVec.toNat h
    have h1 := l.isLt
    rw [BitVec.toNat_ofNat, BitVec.toNat_ofNat, Nat.mod_eq_of_lt (by omega), Nat.mod_eq_of_lt (by omega)] at this
    exact this
  · intro h; rw [h]

theorem pay5_apply (t : ℕ) (ht : t < 10) (m : FVec Ideal S1024x1 .f32) (cv : Vec Ideal S1024x32 .f32) (r : Fin 1024) (l : Fin 32) :
    k0_pay5 (F := Ideal) lanes (BitVec.ofNat 32 t) m cv (ix2 r l) = if l.val = 16 + t then m (ix2 r 0) else cv (ix2 r l) := by
  unfold k0_pay5
  rw [shapeCast_self, shapeCast_self]
  show Scalar.select (IntOp.cmpi .eq (lanes (ix2 r l)) (Scalar.addi 16#32 (BitVec.ofNat 32 t))) (broadcastTo S1024x32 m _ (ix2 r l)) (cv (ix2 r l)) = _
  rw [Cells.col_spread, select_eq, lanes_apply]
  simp only [lane_eq t ht]

theorem pay6_apply (t : ℕ) (ht : t < 10) (v6 : IVec S1024x2048 32) (m : FVec Ideal S1024x1 .f32) (x : Vec Ideal S1024x2048 .f32)
    (ci : Vec Ideal S1024x32 .i32) (r : Fin 1024) (l : Fin 32) :
    k0_pay6 (F := Ideal) v6 lanes (BitVec.ofNat 32 t) m x ci (ix2 r l)
      = if l.val = 16 + t then k0_pay2 (F := Ideal) v6 m x (ix2 r 0) else ci (ix2 r l) := by
  unfold k0_pay6
  rw [shapeCast_self, shapeCast_self]
  show Scalar.select (IntOp.cmpi .eq (lanes (ix2 r l)) (Scalar.addi 16#32 (BitVec.ofNat 32 t))) (broadcastTo S1024x32 (k0_pay2 (F := Ideal) v6 m x) _ (ix2 r l)) (ci (ix2 r l)) = _
  rw [Cells.col_spread, select_eq, lanes_apply]
  simp only [lane_eq t ht]

/-! ## The merge -/

section Merge

variable {cv : Vec Ideal S1024x32 .f32} {ci : Vec Ideal S1024x32 .i32} {r : Fin 1024}

theorem pay17_apply (k : Fin 32 → BitVec 32) (h : Holds s C (fun l : Fin 32 => (cv (ix2 r l) : EReal)) k) (hC : C.Nonempty) :
    k0_pay17 (F := Ideal) cv (ix2 r 0) = s (pick s C) := by
  unfold k0_pay17
  refine (Cells.col_cast _ _ r).trans (Cells.rowMax _ _ _ _ r _ (fun l => h.le l) ?_)
  obtain ⟨l, -, hv⟩ := h.exists hC
  exact ⟨l, hv⟩

theorem pay18_apply (h : Holds s C (fun l : Fin 32 => (cv (ix2 r l) : EReal)) (fun l => ci (ix2 r l))) (hs : ∀ j ∈ C, s j ≠ ⊥)
    (hlt : ∀ j ∈ C, j < 100000) (hC : C.Nonempty) : k0_pay18 (F := Ideal) cv ci (ix2 r 0) = BitVec.ofNat 32 (pick s C) := by
  have hm := pay17_apply _ h hC
  unfold k0_pay18
  refine (Cells.col_cast _ _ r).trans (Cells.rowMin _ _ _ r _ (fun l => ?_) ?_)
  · rw [ValueIdx.select_apply, ValueIdx.cmpf_apply, Cells.col_spread, hm, select_oeq, Cells.toInt_col (hlt _ (pick_mem s hC))]
    split
    · next e =>
      obtain ⟨h1, h2⟩ := h.key_ge hs hlt hC l e
      exact (Int.ofNat_le.mpr h1).trans_eq (Range.toInt_small _ (lt_trans h2 (by decide))).symm
    · have := hlt _ (pick_mem s hC)
      show (_ : ℤ) ≤ (2147483647#32 : BitVec 32).toInt
      rw [show (2147483647#32 : BitVec 32).toInt = 2147483647 from rfl]; omega
  · obtain ⟨l, hk, hv⟩ := h.exists hC
    refine ⟨l, ?_⟩
    rw [ValueIdx.select_apply, ValueIdx.cmpf_apply, Cells.col_spread, hm, select_oeq, if_pos hv]; exact hk

theorem pay19_holds (h : Holds s C (fun l : Fin 32 => (cv (ix2 r l) : EReal)) (fun l => ci (ix2 r l))) (hs : ∀ j ∈ C, s j ≠ ⊥)
    (hlt : ∀ j ∈ C, j < 100000) (hC : C.Nonempty) :
    Holds s (C.erase (pick s C)) (fun l : Fin 32 => (k0_pay19 (F := Ideal) cv ci (ix2 r l) : EReal)) (fun l => ci (ix2 r l)) := by
  refine h.erase hlt hC fun l => ?_
  rw [← pay18_apply h hs hlt hC]
  unfold k0_pay19
  rw [shapeCast_self]
  show Scalar.select (IntOp.cmpi .eq (ci (ix2 r l)) (broadcastTo S1024x32 (k0_pay18 (F := Ideal) cv ci) _ (ix2 r l))) (Scalar.ofBits .f32 0xFF800000#32 : Ideal .f32) (cv (ix2 r l)) = _
  rw [Cells.col_spread, select_eq, scalar_negInf]

theorem trips_eq : k0_t1_loop.trips = 10 := by decide

theorem lane16 (t : Fin k0_t1_loop.trips) (l : Fin 16) : (BitVec.ofNat 32 l.val = Scf.iv 0#32 1#32 t) ↔ l.val = t.val := by
  have h10 : t.val < 10 := trips_eq ▸ t.isLt
  have : Scf.iv 0#32 1#32 t = BitVec.ofNat 32 t.val := by
    simp [Scf.iv]
  rw [this]
  constructor
  · intro h
    have := congrArg BitVec.toNat h
    have h1 := l.isLt
    rw [BitVec.toNat_ofNat, BitVec.toNat_ofNat, Nat.mod_eq_of_lt (by omega), Nat.mod_eq_of_lt (by omega)] at this
    exact this
  · intro h; rw [h]

theorem iota16 (r : Fin 1024) (l : Fin 16) : iota .tc S1024x16 32 [1] iota_S1024x16_d1_w32 (ix2 r l) = BitVec.ofNat 32 l.val := by
  rw [iota_apply]
  simp only [List.foldl]
  rw [Nat.zero_mul, Nat.zero_add]

theorem pay20_apply (t : Fin k0_t1_loop.trips) (nv : Vec Ideal S1024x16 .f32) (l : Fin 16) :
    k0_pay20 (F := Ideal) t cv nv (ix2 r l) = if l.val = t.val then k0_pay17 (F := Ideal) cv (ix2 r 0) else nv (ix2 r l) := by
  unfold k0_pay20
  rw [shapeCast_self, shapeCast_self]
  show Scalar.select (IntOp.cmpi .eq (iota .tc S1024x16 32 [1] iota_S1024x16_d1_w32 (ix2 r l)) (Scf.iv 0#32 1#32 t)) (broadcastTo S1024x16 (k0_pay17 (F := Ideal) cv) _ (ix2 r l)) (nv (ix2 r l)) = _
  rw [Cells.col_spread, select_eq, iota16]
  simp only [lane16]

theorem pay21_apply (t : Fin k0_t1_loop.trips) (ni : Vec Ideal S1024x16 .i32) (l : Fin 16) :
    k0_pay21 (F := Ideal) t cv ci ni (ix2 r l) = if l.val = t.val then k0_pay18 (F := Ideal) cv ci (ix2 r 0) else ni (ix2 r l) := by
  unfold k0_pay21
  rw [shapeCast_self, shapeCast_self]
  show Scalar.select (IntOp.cmpi .eq (iota .tc S1024x16 32 [1] iota_S1024x16_d1_w32 (ix2 r l)) (Scf.iv 0#32 1#32 t)) (broadcastTo S1024x16 (k0_pay18 (F := Ideal) cv ci) _ (ix2 r l)) (ni (ix2 r l)) = _
  rw [Cells.col_spread, select_eq, iota16]
  simp only [lane16]

theorem pay22_low (nv : Vec Ideal S1024x16 .f32) (l : Fin 32) (h : l.val < 16) : k0_pay22 (F := Ideal) nv (ix2 r l) = nv (ix2 r ⟨l.val, h⟩) := by
  unfold k0_pay22
  rw [shapeCast_self, concatenate_pair_apply]
  exact (dif_pos (by exact h)).trans (congrArg nv (funext fun a => by match a with | ⟨0, _⟩ => rfl | ⟨1, _⟩ => rfl))

theorem pay22_high (nv : Vec Ideal S1024x16 .f32) (l : Fin 32) (h : 16 ≤ l.val) : k0_pay22 (F := Ideal) nv (ix2 r l) = ⊥ := by
  unfold k0_pay22
  rw [shapeCast_self, concatenate_pair_apply]
  exact (dif_neg (by exact Nat.not_lt.mpr h)).trans Cells.negInf

theorem pay23_low (ni : Vec Ideal S1024x16 .i32) (l : Fin 32) (h : l.val < 16) : k0_pay23 (F := Ideal) ni (ix2 r l) = ni (ix2 r ⟨l.val, h⟩) := by
  unfold k0_pay23
  rw [shapeCast_self, concatenate_pair_apply]
  exact (dif_pos (by exact h)).trans (congrArg ni (funext fun a => by match a with | ⟨0, _⟩ => rfl | ⟨1, _⟩ => rfl))

/-- The row of indices that the kernel returns: lane `l` below ten is `ni`'s, the others are lane 0's. -/
theorem pay24_apply (ni : Vec Ideal S1024x16 .i32) (l : Fin 16) :
    k0_pay24 (F := Ideal) ni (ix2 r l) = if l.val < 10 then ni (ix2 r l) else ni (ix2 r 0) := by
  unfold k0_pay24
  rw [shapeCast_self]
  show Scalar.select (IntOp.cmpi .slt (iota .tc S1024x16 32 [1] iota_S1024x16_d1_w32 (ix2 r l)) 10#32) (ni (ix2 r l)) (broadcastTo S1024x16 (extractStridedSlice S1024x1 ![0, 0] ni slices_S1024x16_o0_0_S1024x1) _ (ix2 r l)) = _
  rw [Cells.col_spread, iota16, extractStridedSlice_apply (k := ix2 r 0)]
  · revert l; intro l
    by_cases h : l.val < 10
    · rw [if_pos h]
      have : IntOp.cmpi .slt (BitVec.ofNat 32 l.val) 10#32 = 1#1 := by
        have hl := l.isLt
        generalize l.val = n at h hl
        interval_cases n <;> rfl
      rw [this]; rfl
    · rw [if_neg h]
      have : IntOp.cmpi .slt (BitVec.ofNat 32 l.val) 10#32 = 0#1 := by
        have hl := l.isLt
        generalize l.val = n at h hl
        interval_cases n <;> first | omega | rfl
      rw [this]; rfl
  · intro a
    match a with
    | ⟨0, _⟩ => exact (Nat.zero_add _).symm
    | ⟨1, _⟩ => rfl

end Merge

theorem pay8_apply (i : S1024x32.Idx) : k0_pay8 (F := Ideal) i = ⊥ := by
  unfold k0_pay8; rw [shapeCast_self]; exact Cells.negInf

theorem pay15_apply (i : S1024x16.Idx) : k0_pay15 (F := Ideal) i = ⊥ := by
  unfold k0_pay15; rw [shapeCast_self]; exact Cells.negInf

end Cert.Proof.Pays

end
-- ==== Proof.Sims.lean ====
/-
  THE SIMILARITIES OF ONE BLOCK: a grid point's block of columns, the function of the column that its products are, and the
  two scalar tests of the top-k kernel.
-/
module

public import proofs.«01_k».proof.Proof.Pays
public import Idealize.ShloMosaic.Lib.MatmulPlain

@[expose] public section

noncomputable section

namespace Cert.Proof.Sims

open Idealize.ShloMosaic hiding ix1 ix2 ix3 eq_ix1 eq_ix2 eq_ix3
open Idealize.ShloMosaic.ValueIdx
open Cert.KernelIdeal Cert.KernelIdeal.Gen
open Cert.Proof.Pick
open Cert.Proof.Cells (Holds)
open scoped BigOperators

/-- The similarity of query row `r` with database row `j` (a natural number; past the database it does not matter). -/
def sims (q : S1024x64.Idx → EReal) (f : S100000x64.Idx → EReal) (r : Fin 1024) (j : ℕ) : EReal :=
  if h : j < 100000 then ∑ k : Fin 64, q (ix2 r k) * f (ix2 ⟨j, h⟩ k) else ⊥

theorem sims_eq (q : S1024x64.Idx → EReal) (f : S100000x64.Idx → EReal) (r : Fin 1024) {j : ℕ} (h : j < 100000) :
    sims q f r j = ∑ k : Fin 64, q (ix2 r k) * f (ix2 ⟨j, h⟩ k) := dif_pos h

/-- The columns that the grid points before point `k` have seen. -/
def seen (k : ℕ) : Finset ℕ := Finset.range (min (2048 * k) 100000)

/-- The columns of grid point `k`'s block. -/
def block (k : ℕ) : Finset ℕ := (Finset.range (min (2048 * (k + 1)) 100000)).filter (2048 * k ≤ ·)

theorem mem_seen {k j : ℕ} : j ∈ seen k ↔ j < 2048 * k ∧ j < 100000 := by
  simp [seen]

theorem mem_block {k j : ℕ} : j ∈ block k ↔ 2048 * k ≤ j ∧ j < 2048 * (k + 1) ∧ j < 100000 := by
  simp only [block, Finset.mem_filter, Finset.mem_range, lt_min_iff]; tauto

theorem seen_union_block (k : ℕ) : seen k ∪ block k = seen (k + 1) := by
  ext j
  rw [Finset.mem_union, mem_seen, mem_block, mem_seen]
  omega

theorem seen_lt_block {k : ℕ} : ∀ a ∈ seen k, ∀ b ∈ block k, a < b := by
  intro a ha b hb
  have h1 := (mem_seen.mp ha).1
  have h2 := (mem_block.mp hb).1
  omega

theorem seen_zero : seen 0 = ∅ := rfl

theorem seen_all : seen 49 = Finset.range 100000 := rfl

theorem seen_card (k : ℕ) : (seen k).card = min (2048 * k) 100000 := Finset.card_range _

theorem block_card {k : ℕ} (hk : k < 49) : 11 ≤ (block k).card := by
  have h := Finset.card_le_card_sdiff_add_card (s := seen (k + 1)) (t := seen k)
  have e : seen (k + 1) \ seen k ⊆ block k := by
    intro j hj
    rw [Finset.mem_sdiff, mem_seen, mem_seen] at hj
    rw [mem_block]; omega
  have h2 := Finset.card_le_card e
  rw [seen_card, seen_card] at h
  omega

theorem block_lt {k : ℕ} : ∀ j ∈ block k, j < 100000 := fun _ h => (mem_block.mp h).2.2

theorem seen_lt {k : ℕ} : ∀ j ∈ seen k, j < 100000 := fun _ h => (mem_seen.mp h).2

/-! ## A block's products -/

theorem pay11_apply (v7 : Vec Ideal S1024x64 .f32) (v9 : Vec Ideal S2048x64 .f32) (r : Fin 1024) (l : Fin 2048) :
    (k0_pay11 (F := Ideal) v7 v9 (ix2 r l) : EReal) = ∑ k : Fin 64, (v7 (ix2 r k) : EReal) * v9 (ix2 l k) := by
  unfold k0_pay11
  rw [shapeCast_self, shapeCast_self]
  refine (Ideal.matmul_transposedRhs_apply (M := 1024) (K := 64) (N := 2048) (φ₁ := .f32) (φ₂ := .f32) none v7 v9 _ r l).trans ?_
  have e : (constant (F := Ideal) S1024x2048 .f32 0x00000000#32 (ix2 r l) : EReal) = 0 := Ideal.ofBits_zero_f32
  rw [e]
  exact zero_add _

theorem pay10_toNat (i : grid0.Coords) (r : Fin 1024) (l : Fin 2048) :
    (k0_pay10 i (ix2 r l)).toNat = 2048 * (i 1).val + l.val := by
  have hi : (i 1).val < 49 := (i 1).isLt
  have e : k0_pay10 i (ix2 r l) = BitVec.ofNat 32 l.val + BitVec.ofNat 32 (i 1).val * 2048#32 := by
    unfold k0_pay10
    show iota .tc S1024x2048 32 [1] iota_S1024x2048_d1_w32 (ix2 r l) + _ = _
    rw [iota_apply]
    simp only [List.foldl]
    rw [Nat.zero_mul, Nat.zero_add]
    rfl
  rw [e]
  have hl := l.isLt
  simp only [BitVec.toNat_add, BitVec.toNat_mul, BitVec.toNat_ofNat]
  omega

theorem pay10_eq (i : grid0.Coords) (r : Fin 1024) (l : Fin 2048) :
    k0_pay10 i (ix2 r l) = BitVec.ofNat 32 (2048 * (i 1).val + l.val) := by
  apply BitVec.eq_of_toNat_eq
  have hi : (i 1).val < 49 := (i 1).isLt
  have hl := l.isLt
  rw [pay10_toNat, BitVec.toNat_ofNat]
  omega

section Block

variable (q : S1024x64.Idx → EReal) (f : S100000x64.Idx → EReal) (i : grid0.Coords) (v9 : Vec Ideal S2048x64 .f32)

/-- The staged block is the database's rows from its first column on. -/
def Rows : Prop := ∀ (l : Fin 2048) (k : Fin 64) (h : 2048 * (i 1).val + l.val < 100000), (v9 (ix2 l k) : EReal) = f (ix2 ⟨_, h⟩ k)

variable {f i v9}

theorem pay11_sims (hv : Rows f i v9) (r : Fin 1024) (l : Fin 2048) (h : 2048 * (i 1).val + l.val < 100000) :
    (k0_pay11 (F := Ideal) q v9 (ix2 r l) : EReal) = sims q f r (2048 * (i 1).val + l.val) := by
  rw [pay11_apply, sims_eq q f r h]
  exact Finset.sum_congr rfl fun k _ => congrArg (q (ix2 r k) * ·) (hv l k h)

/-- A block short of the last: all its columns are of the database. -/
theorem holds13 (hv : Rows f i v9) (h48 : (i 1).val < 48) (r : Fin 1024) :
    Holds (sims q f r) (block (i 1).val) (fun l : Fin 2048 => (k0_pay13 (F := Ideal) q v9 (ix2 r l) : EReal)) (fun l => k0_pay10 i (ix2 r l)) := by
  have e : k0_pay13 (F := Ideal) q v9 = k0_pay11 (F := Ideal) q v9 := shapeCast_self _ _
  have hall : ∀ l : Fin 2048, 2048 * (i 1).val + l.val < 100000 := fun l => by have := l.isLt; omega
  rw [e]
  refine ⟨fun l _ => ?_, fun j hj => ?_⟩
  · beta_reduce
    rw [pay10_toNat]
    refine ⟨mem_block.mpr ⟨by omega, by have := l.isLt; omega, hall l⟩, pay11_sims q hv r l (hall l)⟩
  · obtain ⟨h1, h2, _⟩ := mem_block.mp hj
    have hl : j - 2048 * (i 1).val < 2048 := by omega
    have ej : 2048 * (i 1).val + (j - 2048 * (i 1).val) = j := by omega
    refine ⟨⟨j - 2048 * (i 1).val, hl⟩, ?_, ?_⟩
    · beta_reduce
      rw [pay10_eq]; exact congrArg _ ej
    · beta_reduce
      rw [pay11_sims q hv r _ (hall _)]; exact congrArg _ ej

/-- The last block: the columns past the database hold `-∞`. -/
theorem holds12 (hv : Rows f i v9) (r : Fin 1024) :
    Holds (sims q f r) (block (i 1).val) (fun l : Fin 2048 => (k0_pay12 (F := Ideal) i q v9 (ix2 r l) : EReal)) (fun l => k0_pay10 i (ix2 r l)) := by
  have hi : (i 1).val < 49 := (i 1).isLt
  have e : ∀ l : Fin 2048, (k0_pay12 (F := Ideal) i q v9 (ix2 r l) : EReal)
      = if 2048 * (i 1).val + l.val < 100000 then (k0_pay11 (F := Ideal) q v9 (ix2 r l) : EReal) else ⊥ := by
    intro l
    have hl := l.isLt
    unfold k0_pay12
    rw [shapeCast_self]
    show Scalar.select (IntOp.cmpi .slt (k0_pay10 i (ix2 r l)) 100000#32) _ (broadcast S1024x2048 (Scalar.ofBits .f32 0xFF800000#32 : Ideal .f32) _) = _
    have hc : IntOp.cmpi .slt (k0_pay10 i (ix2 r l)) 100000#32 = BitVec.ofBool (decide (2048 * (i 1).val + l.val < 100000)) := by
      show BitVec.ofBool (BitVec.slt _ _) = _
      congr 1
      rw [BitVec.slt_eq_decide, Range.toInt_small _ (by rw [pay10_toNat]; omega), pay10_toNat, show (100000#32 : BitVec 32).toInt = 100000 from rfl]
      exact decide_eq_decide.mpr (by omega)
    rw [hc]
    split
    · next h => rw [decide_eq_true h]; rfl
    · next h => rw [decide_eq_false h]; exact Pays.scalar_negInf
  refine ⟨fun l hne => ?_, fun j hj => ?_⟩
  · beta_reduce at hne ⊢
    rw [e] at hne ⊢
    split at hne
    · next h =>
      rw [pay10_toNat, if_pos h]
      exact ⟨mem_block.mpr ⟨by omega, by have := l.isLt; omega, h⟩, pay11_sims q hv r l h⟩
    · exact absurd rfl hne
  · obtain ⟨h1, h2, h3⟩ := mem_block.mp hj
    have hl : j - 2048 * (i 1).val < 2048 := by omega
    have ej : 2048 * (i 1).val + (j - 2048 * (i 1).val) = j := by omega
    have hlt : 2048 * (i 1).val + (⟨j - 2048 * (i 1).val, hl⟩ : Fin 2048).val < 100000 := by rw [ej]; exact h3
    refine ⟨⟨j - 2048 * (i 1).val, hl⟩, ?_, ?_⟩
    · beta_reduce
      rw [pay10_eq]; exact congrArg _ ej
    · beta_reduce
      rw [e, if_pos hlt, pay11_sims q hv r _ hlt]; exact congrArg _ ej

end Block

/-! ## The test of the block's loop -/

/-- The largest entry of a vector is above `a` exactly when some entry is (`a` not below `-∞`'s value). -/
theorem lt_max (x : FVec Ideal S1x1024x1 .f32) (hφ : FKind.Formats .f32) (hacc : 0xFF800000#32 = FKind.maximumf.neutral .f32 hφ) (j : S1.Idx) (a : EReal) :
    a < (multiReduction (F := Ideal) .maximumf [1, 2] S1 x 0xFF800000#32 reduces_S1x1024x1_S1 hφ hacc j : EReal) ↔ ∃ i, a < (x i : EReal) := by
  have h := multiReduction_maximumf_eq_fold (F := Ideal) x 0xFF800000#32 reduces_S1x1024x1_S1 hφ hacc j
  rw [h]
  have hall : (Finset.univ.filter fun i => Shape.Reduces.drop reduces_S1x1024x1_S1 i = j) = Finset.univ := by
    refine Finset.filter_true_of_mem fun i _ => ?_
    funext a; match a with | ⟨0, _⟩ => exact Subsingleton.elim (α := Fin 1) _ _
  rw [hall]
  refine (Finset.lt_fold_max (s := Finset.univ) (f := x) (b := (FloatOps.ofBits .f32 0xFF800000#32 : Ideal .f32)) a).trans ?_
  constructor
  · rintro (h | ⟨i, _, h⟩)
    · exact absurd (Cells.negInf ▸ h) not_lt_bot
    · exact ⟨i, h⟩
  · rintro ⟨i, h⟩
    exact Or.inr ⟨i, Finset.mem_univ _, h⟩

/-- The loop goes on exactly while some row's maximum is above its threshold. -/
theorem go_on (v20 m : FVec Ideal S1024x1 .f32) :
    Scalar.cmpf .ogt (k0_pay1 (F := Ideal) v20 m) (Scalar.ofBits .f32 0x00000000#32) = BitVec.ofBool (decide (∃ r : Fin 1024, (v20 (ix2 r 0) : EReal) < m (ix2 r 0))) := by
  have h0 : (Scalar.ofBits .f32 0x00000000#32 : Ideal .f32) = (0 : EReal) := Ideal.ofBits_zero_f32
  have h1 : (Scalar.ofBits .f32 0x3F800000#32 : Ideal .f32) = (1 : EReal) := Ideal.ofBits_one_f32
  have hc : ∀ y : Ideal .f32, Scalar.cmpf .ogt y (Scalar.ofBits .f32 0x00000000#32) = BitVec.ofBool (decide ((0 : EReal) < y)) := by
    intro y; rw [h0]; rfl
  rw [hc]
  refine congrArg BitVec.ofBool (decide_eq_decide.mpr ?_)
  have key : ∀ x : FVec Ideal S1x1024x1 .f32, (0 : EReal) < (extractAt ![0, 0, 0] (shapeCast S1x1x1 (multiReduction (F := Ideal) .maximumf [1, 2] S1 x 0xFF800000#32 reduces_S1x1024x1_S1 (.inl rfl) rfl) shapeCasts_S1_S1x1x1) inpos_S1x1x1_p0_0_0 : EReal)
      ↔ ∃ i, (0 : EReal) < (x i : EReal) := by
    intro x
    rw [extractAt_eq]
    unfold shapeCast
    exact lt_max x _ _ _ 0
  unfold k0_pay1
  refine (key _).trans ?_
  have hx : ∀ r : Fin 1024, (0 : EReal) < (select (cmpf .ogt m v20) (broadcast S1024x1 (Scalar.ofBits .f32 0x3F800000#32 : Ideal .f32)) (broadcast S1024x1 (Scalar.ofBits .f32 0x00000000#32 : Ideal .f32)) (ix2 r 0) : EReal)
      ↔ (v20 (ix2 r 0) : EReal) < m (ix2 r 0) := by
    intro r
    show (0 : EReal) < Scalar.select (BitVec.ofBool (decide ((v20 (ix2 r 0) : EReal) < m (ix2 r 0)))) (Scalar.ofBits .f32 0x3F800000#32 : Ideal .f32) (Scalar.ofBits .f32 0x00000000#32 : Ideal .f32) ↔ _
    rw [h0, h1]
    by_cases h : (v20 (ix2 r 0) : EReal) < m (ix2 r 0)
    · rw [decide_eq_true h]; exact ⟨fun _ => h, fun _ => (zero_lt_one : (0 : EReal) < 1)⟩
    · rw [decide_eq_false h]; exact ⟨fun h' => absurd h' (lt_irrefl _), fun h' => absurd h' h⟩
  constructor
  · rintro ⟨i, hi⟩
    have hi' := hi
    unfold shapeCast at hi'
    generalize Shape.reshapeEquiv shapeCasts_S1024x1_S1x1024x1 i = z at hi'
    have ez : z = ix2 (z 0) 0 := by
      funext a; match a with | ⟨0, _⟩ => rfl | ⟨1, _⟩ => exact Subsingleton.elim (α := Fin 1) _ _
    rw [ez] at hi'
    exact ⟨z 0, (hx (z 0)).mp hi'⟩
  · rintro ⟨r, hr⟩
    refine ⟨(Shape.reshapeEquiv shapeCasts_S1024x1_S1x1024x1).symm (ix2 r 0), ?_⟩
    unfold shapeCast
    rw [Equiv.apply_symm_apply]
    exact (hx r).mpr hr

end Cert.Proof.Sims

end
-- ==== Proof.State.lean ====
/-
  THE STATE OF THE TOP-K KERNEL between its steps, as a property of its scratch contents, and that each step keeps it: what a
  grid point leaves (`Kept`, `Found`), a pass over the block (`Passing`), a trip of the merge (`Merging`).
-/
module

public import proofs.«01_k».proof.Proof.Sims

@[expose] public section

noncomputable section

namespace Cert.Proof.State

open Idealize.ShloMosaic hiding ix1 ix2 ix3 eq_ix1 eq_ix2 eq_ix3
open Idealize.ShloMosaic.ValueIdx
open Cert.KernelIdeal Cert.KernelIdeal.Gen
open Cert.Proof.Pick Cert.Proof.Sims Cert.Proof.Pays
open Cert.Proof.Cells (Holds)

/-- A row's ten best columns of those seen before point `k`: its candidates and their similarities, lane 9 the least of them. -/
structure Kept (s : Fin 1024 → ℕ → EReal) (k : ℕ) (cv : Vec Ideal S1024x32 .f32) (ci : Vec Ideal S1024x32 .i32) : Prop where
  holds : ∀ r, Holds (s r) (taken (s r) (seen k) 10) (fun l : Fin 32 => (cv (ix2 r l) : EReal)) (fun l => ci (ix2 r l))
  least : 0 < k → ∀ r, (cv (ix2 r 9) : EReal) = s r (nth (s r) (seen k) 9)
  high : ∀ r (l : Fin 32), 16 ≤ l.val → (cv (ix2 r l) : EReal) = ⊥

/-- The ten best columns in order. -/
def Found (s : Fin 1024 → ℕ → EReal) (k : ℕ) (ni : Vec Ideal S1024x16 .i32) : Prop :=
  0 < k → ∀ r (l : Fin 16), l.val < 10 → ni (ix2 r l) = BitVec.ofNat 32 (nth (s r) (seen k) l.val)

/-- After `t` passes over block `k`: the block without its `t` best columns, the candidates with them. -/
structure Passing (s : Fin 1024 → ℕ → EReal) (k : ℕ) (v6 : IVec S1024x2048 32) (t : ℕ) (x : Vec Ideal S1024x2048 .f32)
    (cv : Vec Ideal S1024x32 .f32) (ci : Vec Ideal S1024x32 .i32) (m : FVec Ideal S1024x1 .f32) : Prop where
  le : t ≤ 10
  rest : ∀ r, Holds (s r) (drop (s r) (block k) t) (fun l : Fin 2048 => (x (ix2 r l) : EReal)) (fun l => v6 (ix2 r l))
  holds : ∀ r, Holds (s r) (taken (s r) (seen k) 10 ∪ taken (s r) (block k) t) (fun l : Fin 32 => (cv (ix2 r l) : EReal)) (fun l => ci (ix2 r l))
  high : ∀ r (l : Fin 32), 16 + t ≤ l.val → (cv (ix2 r l) : EReal) = ⊥
  top : ∀ r, (m (ix2 r 0) : EReal) = s r (nth (s r) (block k) t)

/-- After `u` trips of the merge of the candidates `C`. -/
structure Merging (s : Fin 1024 → ℕ → EReal) (C : Fin 1024 → Finset ℕ) (u : ℕ) (cv : Vec Ideal S1024x32 .f32)
    (ci : Vec Ideal S1024x32 .i32) (nv : Vec Ideal S1024x16 .f32) (ni : Vec Ideal S1024x16 .i32) : Prop where
  rest : ∀ r, Holds (s r) (drop (s r) (C r) u) (fun l : Fin 32 => (cv (ix2 r l) : EReal)) (fun l => ci (ix2 r l))
  val : ∀ r (l : Fin 16), l.val < u → (nv (ix2 r l) : EReal) = s r (nth (s r) (C r) l.val)
  idx : ∀ r (l : Fin 16), l.val < u → ni (ix2 r l) = BitVec.ofNat 32 (nth (s r) (C r) l.val)
  high : ∀ r (l : Fin 16), u ≤ l.val → (nv (ix2 r l) : EReal) = ⊥

variable {s : Fin 1024 → ℕ → EReal} {k : ℕ}

theorem kept_zero {cv : Vec Ideal S1024x32 .f32} {ci : Vec Ideal S1024x32 .i32} (h : ∀ i, (cv i : EReal) = ⊥) : Kept s 0 cv ci where
  holds r := by
    have e : taken (s r) (seen 0) 10 = ∅ := Finset.subset_empty.mp (taken_subset (s r) (seen 0) 10)
    rw [e]; exact Cells.holds_empty fun l => h _
  least h := absurd h (Nat.lt_irrefl 0)
  high r l _ := h _

theorem found_zero (ni : Vec Ideal S1024x16 .i32) : Found s 0 ni := fun h => absurd h (Nat.lt_irrefl 0)

section Steps

variable (hs : ∀ r j, j < 100000 → s r j ≠ ⊥) (hk : k < 49)

include hs hk

theorem passing_start {v6 : IVec S1024x2048 32} {x : Vec Ideal S1024x2048 .f32} {cv : Vec Ideal S1024x32 .f32} {ci : Vec Ideal S1024x32 .i32}
    (hx : ∀ r, Holds (s r) (block k) (fun l : Fin 2048 => (x (ix2 r l) : EReal)) (fun l => v6 (ix2 r l))) (hc : Kept s k cv ci) :
    Passing s k v6 0 x cv ci (k0_pay14 (F := Ideal) x) where
  le := Nat.zero_le _
  rest := hx
  holds r := by rw [taken_zero, Finset.union_empty]; exact hc.holds r
  high r l h := hc.high r l h
  top r := pay14_apply _ (hx r) (Finset.card_pos.mp (lt_of_lt_of_le (by decide) (block_card hk)))

theorem passing_step {v6 : IVec S1024x2048 32} {t : ℕ} {x : Vec Ideal S1024x2048 .f32} {cv : Vec Ideal S1024x32 .f32}
    {ci : Vec Ideal S1024x32 .i32} {m : FVec Ideal S1024x1 .f32} (h : Passing s k v6 t x cv ci m) (ht : t < 10) :
    Passing s k v6 (t + 1) (k0_pay4 (F := Ideal) v6 m x) (k0_pay5 (F := Ideal) lanes (BitVec.ofNat 32 t) m cv)
      (k0_pay6 (F := Ideal) v6 lanes (BitVec.ofNat 32 t) m x ci) (k0_pay7 (F := Ideal) v6 m x) := by
  have hcard := block_card hk
  have hlt : ∀ r, ∀ j ∈ drop (s r) (block k) t, j < 100000 := fun r j hj => block_lt j (drop_subset _ _ _ hj)
  have hne : ∀ r, (drop (s r) (block k) t).Nonempty := fun r => drop_nonempty _ (by omega)
  have hbot : ∀ r, ∀ j ∈ drop (s r) (block k) t, s r j ≠ ⊥ := fun r j hj => hs r j (hlt r j hj)
  have htop : ∀ r, (m (ix2 r 0) : EReal) = s r (pick (s r) (drop (s r) (block k) t)) := h.top
  refine ⟨ht, fun r => ?_, fun r => ?_, fun r l hl => ?_, fun r => ?_⟩
  · rw [pay4_eq]
    exact pay3_holds (h.rest r) (hbot r) (hlt r) (hne r) (htop r)
  · have hl : 16 + t < 32 := by omega
    rw [taken_succ (s r) (by omega : t < (block k).card), Finset.union_insert]
    refine (h.holds r).insert (hlt r _ (nth_mem_drop (s r) (by omega))) ⟨16 + t, hl⟩ (h.high r _ le_rfl) ?_ ?_ ?_ (fun l hne => ?_) (fun l hne => ?_)
    · intro j hj
      rw [Finset.mem_union] at hj
      rcases hj with hj | hj
      · exact hs r j (seen_lt j (taken_subset _ _ _ hj))
      · exact hs r j (block_lt j (taken_subset _ _ _ hj))
    · rw [pay5_apply t ht, if_pos rfl]; exact h.top r
    · rw [pay6_apply t ht, if_pos rfl]
      exact pay2_apply (h.rest r) (hbot r) (hlt r) (hne r) (htop r)
    · rw [pay5_apply t ht, if_neg fun e => hne (Fin.ext e)]
    · rw [pay6_apply t ht, if_neg fun e => hne (Fin.ext e)]
  · rw [pay5_apply t ht, if_neg (by omega)]
    exact h.high r l (by omega)
  · exact pay7_apply (h.rest r) (hbot r) (hlt r) (hne r) (htop r) (drop_nonempty (s r) (n := t + 1) (by omega))

omit hs hk in
/-- The candidates of the merge. -/
abbrev cand (s : Fin 1024 → ℕ → EReal) (k t : ℕ) (r : Fin 1024) : Finset ℕ := taken (s r) (seen k) 10 ∪ taken (s r) (block k) t

omit hs hk in
theorem merging_start {v6 : IVec S1024x2048 32} {t : ℕ} {x : Vec Ideal S1024x2048 .f32} {cv : Vec Ideal S1024x32 .f32}
    {ci : Vec Ideal S1024x32 .i32} {m : FVec Ideal S1024x1 .f32} (h : Passing s k v6 t x cv ci m) (ni : Vec Ideal S1024x16 .i32) :
    Merging s (cand s k t) 0 cv ci (k0_pay15 (F := Ideal)) ni where
  rest := h.holds
  val r l h := absurd h (Nat.not_lt_zero _)
  idx r l h := absurd h (Nat.not_lt_zero _)
  high r l _ := pay15_apply _

omit hk in
theorem merging_step {C : Fin 1024 → Finset ℕ} (hC : ∀ r, 10 ≤ (C r).card) (hlt : ∀ r, ∀ j ∈ C r, j < 100000)
    {cv : Vec Ideal S1024x32 .f32} {ci : Vec Ideal S1024x32 .i32} {nv : Vec Ideal S1024x16 .f32} {ni : Vec Ideal S1024x16 .i32}
    (t : Fin k0_t1_loop.trips) (h : Merging s C t.val cv ci nv ni) :
    Merging s C (t.val + 1) (k0_pay19 (F := Ideal) cv ci) ci (k0_pay20 (F := Ideal) t cv nv) (k0_pay21 (F := Ideal) t cv ci ni) := by
  have ht : t.val < 10 := lt_of_lt_of_eq t.isLt trips_eq
  have hl : ∀ r, ∀ j ∈ drop (s r) (C r) t.val, j < 100000 := fun r j hj => hlt r j (drop_subset _ _ _ hj)
  have hne : ∀ r, (drop (s r) (C r) t.val).Nonempty := fun r => drop_nonempty _ (by have := hC r; omega)
  have hbot : ∀ r, ∀ j ∈ drop (s r) (C r) t.val, s r j ≠ ⊥ := fun r j hj => hs r j (hl r j hj)
  refine ⟨fun r => pay19_holds (h.rest r) (hbot r) (hl r) (hne r), fun r l hlu => ?_, fun r l hlu => ?_, fun r l hlu => ?_⟩
  · rw [pay20_apply]
    by_cases e : l.val = t.val
    · rw [if_pos e, e]; exact pay17_apply _ (h.rest r) (hne r)
    · rw [if_neg e]; exact h.val r l (by omega)
  · rw [pay21_apply]
    by_cases e : l.val = t.val
    · rw [if_pos e, e]; exact pay18_apply (h.rest r) (hbot r) (hl r) (hne r)
    · rw [if_neg e]; exact h.idx r l (by omega)
  · rw [pay20_apply, if_neg (by omega)]
    exact h.high r l (by omega)

omit hs in
/-- Why the passes stop: ten were made, or no column left in the block is above the tenth kept. -/
theorem stop {v6 : IVec S1024x2048 32} {t : ℕ} {x : Vec Ideal S1024x2048 .f32} {cv : Vec Ideal S1024x32 .f32}
    {ci : Vec Ideal S1024x32 .i32} {m v20 : FVec Ideal S1024x1 .f32} (hs : ∀ r j, j < 100000 → s r j ≠ ⊥)
    (h : Passing s k v6 t x cv ci m)
    (h20 : (k = 0 → ∀ r, (v20 (ix2 r 0) : EReal) = ⊥) ∧ (0 < k → ∀ r, (v20 (ix2 r 0) : EReal) = s r (nth (s r) (seen k) 9)))
    (hex : t = 10 ∨ ¬ ∃ r : Fin 1024, (v20 (ix2 r 0) : EReal) < m (ix2 r 0)) :
    t = 10 ∨ (0 < k ∧ ∀ r, ∀ b ∈ drop (s r) (block k) t, s r b ≤ s r (nth (s r) (seen k) 9)) := by
  rcases hex with e | hex
  · exact .inl e
  · have hcard := block_card hk
    have hle := h.le
    push Not at hex
    rcases Nat.eq_zero_or_pos k with e | hpos
    · exfalso
      have h1 := hex 0
      rw [h20.1 e 0, h.top 0, le_bot_iff] at h1
      exact hs 0 _ (block_lt _ (nth_mem (s 0) (by omega))) h1
    · refine .inr ⟨hpos, fun r b hb => ?_⟩
      have h1 := hex r
      rw [h20.2 hpos r, h.top r] at h1
      exact (le_pick (s r) hb).trans h1

omit hs in
theorem cand_props {t : ℕ} (ht : t ≤ 10) (hstop : t = 10 ∨ (0 < k ∧ ∀ r, ∀ b ∈ drop (s r) (block k) t, s r b ≤ s r (nth (s r) (seen k) 9))) :
    (∀ r, 10 ≤ (cand s k t r).card) ∧ (∀ r, ∀ j ∈ cand s k t r, j < 100000)
      ∧ ∀ r n, n < 10 → nth (s r) (cand s k t r) n = nth (s r) (seen (k + 1)) n := by
  have hcard := block_card hk
  have hseen : 0 < k → 10 ≤ (seen k).card := fun h => by rw [seen_card]; omega
  have hseen' : 10 ≤ (seen (k + 1)).card := by rw [seen_card]; omega
  refine ⟨fun r => ?_, fun r j hj => ?_, fun r n hn => ?_⟩
  · rcases hstop with e | ⟨hpos, -⟩
    · have h1 := taken_card (s r) (by omega : t ≤ (block k).card)
      have h2 : (taken (s r) (block k) t).card ≤ (cand s k t r).card := Finset.card_le_card Finset.subset_union_right
      omega
    · have h1 := taken_card (s r) (hseen hpos)
      have h2 : (taken (s r) (seen k) 10).card ≤ (cand s k t r).card := Finset.card_le_card Finset.subset_union_left
      omega
  · rcases Finset.mem_union.mp hj with hj | hj
    · exact seen_lt j (taken_subset _ _ _ hj)
    · exact block_lt j (taken_subset _ _ _ hj)
  · rw [← seen_union_block k]
    refine nth_merge (s r) (by omega) seen_lt_block ?_ ?_ hn (by rw [seen_union_block]; exact hseen')
    · rcases Nat.eq_zero_or_pos k with e | hpos
      · subst e; exact .inr seen_zero
      · exact .inl (hseen hpos)
    · rcases hstop with e | ⟨hpos, h⟩
      · exact .inl e
      · exact .inr ⟨hseen hpos, h r⟩

/-- What the merge leaves. -/
theorem merged {C : Fin 1024 → Finset ℕ} (hlt : ∀ r n, n < 10 → nth (s r) (C r) n = nth (s r) (seen (k + 1)) n)
    {cv : Vec Ideal S1024x32 .f32} {ci : Vec Ideal S1024x32 .i32} {nv : Vec Ideal S1024x16 .f32} {ni : Vec Ideal S1024x16 .i32}
    (h : Merging s C 10 cv ci nv ni) : Kept s (k + 1) (k0_pay22 (F := Ideal) nv) (k0_pay23 (F := Ideal) ni) ∧ Found s (k + 1) ni := by
  have hcard : 10 ≤ (seen (k + 1)).card := by rw [seen_card]; omega
  have hfound : Found s (k + 1) ni := fun _ r l hl => by rw [h.idx r l hl, hlt r _ hl]
  have hval : ∀ r (l : Fin 16), l.val < 10 → (nv (ix2 r l) : EReal) = s r (nth (s r) (seen (k + 1)) l.val) := fun r l hl => by
    rw [h.val r l hl, hlt r _ hl]
  refine ⟨⟨fun r => ⟨fun l hne => ?_, fun j hj => ?_⟩, fun _ r => ?_, fun r l hl => pay22_high nv l hl⟩, hfound⟩
  · beta_reduce at hne ⊢
    have h16 : l.val < 16 := by
      by_contra hn
      exact hne (pay22_high nv l (by omega))
    rw [pay22_low nv l h16] at hne ⊢
    rw [pay23_low ni l h16]
    have h10 : l.val < 10 := by
      by_contra hn
      exact hne (h.high r ⟨l.val, h16⟩ (by exact Nat.not_lt.mp hn))
    have hi := hfound (Nat.succ_pos k) r ⟨l.val, h16⟩ h10
    have hv := hval r ⟨l.val, h16⟩ h10
    have hn : (ni (ix2 r ⟨l.val, h16⟩)).toNat = nth (s r) (seen (k + 1)) l.val := by
      rw [hi]; exact Cells.toNat_col (seen_lt _ (nth_mem (s r) (n := l.val) (by omega)))
    rw [hn]
    exact ⟨(mem_taken (s r) hcard).mpr ⟨l.val, h10, rfl⟩, hv⟩
  · obtain ⟨u, hu, rfl⟩ := (mem_taken (s r) hcard).mp hj
    have h16 : u < 16 := by omega
    refine ⟨⟨u, by omega⟩, ?_, ?_⟩
    · beta_reduce
      rw [pay23_low ni ⟨u, by omega⟩ h16]
      exact hfound (Nat.succ_pos k) r ⟨u, h16⟩ hu
    · beta_reduce
      rw [pay22_low nv ⟨u, by omega⟩ h16]
      exact hval r ⟨u, h16⟩ hu
  · rw [pay22_low nv 9 (by decide)]
    exact hval r 9 (by decide)

omit hs in
/-- No pass was needed: the block leaves the ten best columns as they were. -/
theorem stayed {cv : Vec Ideal S1024x32 .f32} {ci : Vec Ideal S1024x32 .i32} {ni : Vec Ideal S1024x16 .i32}
    (hstop : 0 < k ∧ ∀ r, ∀ b ∈ drop (s r) (block k) 0, s r b ≤ s r (nth (s r) (seen k) 9)) (h : Kept s k cv ci) (hn : Found s k ni) :
    Kept s (k + 1) cv ci ∧ Found s (k + 1) ni := by
  obtain ⟨hpos, hstop⟩ := hstop
  have hseen : 10 ≤ (seen k).card := by rw [seen_card]; omega
  have hcard : 10 ≤ (seen (k + 1)).card := by rw [seen_card]; omega
  have e : ∀ r n, n < 10 → nth (s r) (seen k) n = nth (s r) (seen (k + 1)) n := fun r n hn => by
    rw [← seen_union_block k]
    exact nth_stay (s r) seen_lt_block hseen (hstop r) hn
  have et : ∀ r, taken (s r) (seen k) 10 = taken (s r) (seen (k + 1)) 10 := fun r => by
    ext j
    rw [mem_taken (s r) hseen, mem_taken (s r) hcard]
    exact exists_congr fun u => and_congr_right fun hu => by rw [e r u hu]
  refine ⟨⟨fun r => et r ▸ h.holds r, fun _ r => ?_, h.high⟩, fun _ r l hl => ?_⟩
  · rw [h.least hpos r, e r 9 (by decide)]
  · rw [hn hpos r l hl, e r _ hl]

end Steps

end Cert.Proof.State

end
-- ==== Proof.Topk.lean ====
module

public import proofs.«01_k».proof.Proof.WTile
public import proofs.«01_k».proof.Proof.State

/-!
# The search's loads, stores and loop of passes

The five scratch arrays of the TensorCore call and its result block are loaded and stored whole: one lemma each. `spec` is the
loop of passes over a block as one step, from the scratch contents before it to those after it: it ends after at most ten
passes, with the block's candidates beside the kept ones (`spec_le`).
-/

@[expose] public section

noncomputable section

namespace Cert.Proof.Topk

open Cert.KernelIdeal Cert.KernelIdeal.Gen
open Idealize.ShloMosaic hiding ix1 ix2 ix3 eq_ix1 eq_ix2 eq_ix3
open Idealize.ShloMosaic.ValueIdx
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Pick Cert.Proof.Sims Cert.Proof.Pays Cert.Proof.State
open Cert.Proof.Cells (Holds)
open Cert.Proof.Whole (UU 𝒱₀)

local notation "𝕄" => MT nD τ sig (HIx 1) (Elt Ideal) ℕ UU ℕ

variable (c : Dev nD)

/-! ## Loads and stores of a whole buffer -/

theorem z2 : (![0, 0] : Fin 2 → Nat) = fun _ => 0 := funext fun a => by fin_cases a <;> rfl

section Whole

variable {bd : Option 𝒱₀.V} {E : Set ℕ} {α : Type}

abbrev allSim := Rect.unit (s := S1024x2048) ![0, 0] S1024x2048.size inb_S1024x2048_S1024x2048_0_0
abbrev allCand := Rect.unit (s := S1024x32) ![0, 0] S1024x32.size inb_S1024x32_S1024x32_0_0
abbrev allNew := Rect.unit (s := S1024x16) ![0, 0] S1024x16.size inb_S1024x16_S1024x16_0_0

theorem loadSim (f : Vec Ideal S1024x2048 .f32) {hl : (Memref.whole cc0_scratch0 : Memref sig .tc .vmem S1024x2048 .f32).view.LoadsAt allSim.toLoadRect}
    {k : Vec Ideal S1024x2048 .f32 → Prog (TpuEff nD τ sig (Elt Ideal) (Λ₀ Ideal) .tc) α} {Q : α → sProp 𝕄} :
    (((c : Thread nD τ).loc cc0_scratch0) ↦{fullShare} f : sProp 𝕄)
      ⊢ iprop(((((c : Thread nD τ).loc cc0_scratch0) ↦{fullShare} f) -∗ wp frame (wpE (defs₀ (F := Ideal)) 𝒱₀ (c : Thread nD τ) bd) E (k f) Q)
        -∗ wp frame (wpE (defs₀ (F := Ideal)) 𝒱₀ (c : Thread nD τ) bd) E (.op (.load (Memref.whole cc0_scratch0) allSim.toLoadRect hl) k) Q) := by
  have e : (Memref.whole cc0_scratch0 : Memref sig .tc .vmem S1024x2048 .f32).view.readAt (Elt Ideal) allSim.toLoadRect f = f :=
    Memref.readAt_unit_zero (Elt Ideal) cc0_scratch0 z2 _ f
  refine (wp_load (defs := defs₀ (F := Ideal)) (Γ := .empty) (Q := Q) 𝒱₀ (c : Thread nD τ) bd E (m := Memref.whole cc0_scratch0) (hl := hl) (k := k) (Finset.subset_univ _)).trans ?_
  rw [e]

theorem storeSim (f w : Vec Ideal S1024x2048 .f32) {hx : ((Memref.whole cc0_scratch0 : Memref sig .tc .vmem S1024x2048 .f32).access allSim).Stores Finset.univ}
    {hm : (Finset.univ : Finset allSim.shape.Idx) = Finset.univ ∨ ∀ a, allSim.stride a = 1}
    {k : PUnit → Prog (TpuEff nD τ sig (Elt Ideal) (Λ₀ Ideal) .tc) α} {Q : α → sProp 𝕄} :
    (((c : Thread nD τ).loc cc0_scratch0) ↦{fullShare} f : sProp 𝕄)
      ⊢ iprop(((((c : Thread nD τ).loc cc0_scratch0) ↦{fullShare} w) -∗ wp frame (wpE (defs₀ (F := Ideal)) 𝒱₀ (c : Thread nD τ) bd) E (k ⟨⟩) Q)
        -∗ wp frame (wpE (defs₀ (F := Ideal)) 𝒱₀ (c : Thread nD τ) bd) E (.op (.store (Memref.whole cc0_scratch0) allSim w Finset.univ hx hm) k) Q) := by
  have e : ((Memref.whole cc0_scratch0 : Memref sig .tc .vmem S1024x2048 .f32).access allSim).write (Elt Ideal) f w Finset.univ = w :=
    Memref.write_access_unit_zero_univ (Elt Ideal) cc0_scratch0 z2 _ f w
  refine (wp_store (defs := defs₀ (F := Ideal)) (Γ := .empty) (Q := Q) 𝒱₀ (c : Thread nD τ) bd E (m := Memref.whole cc0_scratch0) (r := allSim) (Mk := Finset.univ) (hx := hx) (hm := hm) (k := k) (w := w)
    (Finset.subset_univ _)).trans ?_
  rw [e]

theorem loadVal (f : Vec Ideal S1024x32 .f32) {hl : (Memref.whole cc0_scratch1 : Memref sig .tc .vmem S1024x32 .f32).view.LoadsAt allCand.toLoadRect}
    {k : Vec Ideal S1024x32 .f32 → Prog (TpuEff nD τ sig (Elt Ideal) (Λ₀ Ideal) .tc) α} {Q : α → sProp 𝕄} :
    (((c : Thread nD τ).loc cc0_scratch1) ↦{fullShare} f : sProp 𝕄)
      ⊢ iprop(((((c : Thread nD τ).loc cc0_scratch1) ↦{fullShare} f) -∗ wp frame (wpE (defs₀ (F := Ideal)) 𝒱₀ (c : Thread nD τ) bd) E (k f) Q)
        -∗ wp frame (wpE (defs₀ (F := Ideal)) 𝒱₀ (c : Thread nD τ) bd) E (.op (.load (Memref.whole cc0_scratch1) allCand.toLoadRect hl) k) Q) := by
  have e : (Memref.whole cc0_scratch1 : Memref sig .tc .vmem S1024x32 .f32).view.readAt (Elt Ideal) allCand.toLoadRect f = f :=
    Memref.readAt_unit_zero (Elt Ideal) cc0_scratch1 z2 _ f
  refine (wp_load (defs := defs₀ (F := Ideal)) (Γ := .empty) (Q := Q) 𝒱₀ (c : Thread nD τ) bd E (m := Memref.whole cc0_scratch1) (hl := hl) (k := k) (Finset.subset_univ _)).trans ?_
  rw [e]

theorem storeVal (f w : Vec Ideal S1024x32 .f32) {hx : ((Memref.whole cc0_scratch1 : Memref sig .tc .vmem S1024x32 .f32).access allCand).Stores Finset.univ}
    {hm : (Finset.univ : Finset allCand.shape.Idx) = Finset.univ ∨ ∀ a, allCand.stride a = 1}
    {k : PUnit → Prog (TpuEff nD τ sig (Elt Ideal) (Λ₀ Ideal) .tc) α} {Q : α → sProp 𝕄} :
    (((c : Thread nD τ).loc cc0_scratch1) ↦{fullShare} f : sProp 𝕄)
      ⊢ iprop(((((c : Thread nD τ).loc cc0_scratch1) ↦{fullShare} w) -∗ wp frame (wpE (defs₀ (F := Ideal)) 𝒱₀ (c : Thread nD τ) bd) E (k ⟨⟩) Q)
        -∗ wp frame (wpE (defs₀ (F := Ideal)) 𝒱₀ (c : Thread nD τ) bd) E (.op (.store (Memref.whole cc0_scratch1) allCand w Finset.univ hx hm) k) Q) := by
  have e : ((Memref.whole cc0_scratch1 : Memref sig .tc .vmem S1024x32 .f32).access allCand).write (Elt Ideal) f w Finset.univ = w :=
    Memref.write_access_unit_zero_univ (Elt Ideal) cc0_scratch1 z2 _ f w
  refine (wp_store (defs := defs₀ (F := Ideal)) (Γ := .empty) (Q := Q) 𝒱₀ (c : Thread nD τ) bd E (m := Memref.whole cc0_scratch1) (r := allCand) (Mk := Finset.univ) (hx := hx) (hm := hm) (k := k) (w := w)
    (Finset.subset_univ _)).trans ?_
  rw [e]

theorem loadIdx (f : Vec Ideal S1024x32 .i32) {hl : (Memref.whole cc0_scratch2 : Memref sig .tc .vmem S1024x32 .i32).view.LoadsAt allCand.toLoadRect}
    {k : Vec Ideal S1024x32 .i32 → Prog (TpuEff nD τ sig (Elt Ideal) (Λ₀ Ideal) .tc) α} {Q : α → sProp 𝕄} :
    (((c : Thread nD τ).loc cc0_scratch2) ↦{fullShare} f : sProp 𝕄)
      ⊢ iprop(((((c : Thread nD τ).loc cc0_scratch2) ↦{fullShare} f) -∗ wp frame (wpE (defs₀ (F := Ideal)) 𝒱₀ (c : Thread nD τ) bd) E (k f) Q)
        -∗ wp frame (wpE (defs₀ (F := Ideal)) 𝒱₀ (c : Thread nD τ) bd) E (.op (.load (Memref.whole cc0_scratch2) allCand.toLoadRect hl) k) Q) := by
  have e : (Memref.whole cc0_scratch2 : Memref sig .tc .vmem S1024x32 .i32).view.readAt (Elt Ideal) allCand.toLoadRect f = f :=
    Memref.readAt_unit_zero (Elt Ideal) cc0_scratch2 z2 _ f
  refine (wp_load (defs := defs₀ (F := Ideal)) (Γ := .empty) (Q := Q) 𝒱₀ (c : Thread nD τ) bd E (m := Memref.whole cc0_scratch2) (hl := hl) (k := k) (Finset.subset_univ _)).trans ?_
  rw [e]

theorem storeIdx (f w : Vec Ideal S1024x32 .i32) {hx : ((Memref.whole cc0_scratch2 : Memref sig .tc .vmem S1024x32 .i32).access allCand).Stores Finset.univ}
    {hm : (Finset.univ : Finset allCand.shape.Idx) = Finset.univ ∨ ∀ a, allCand.stride a = 1}
    {k : PUnit → Prog (TpuEff nD τ sig (Elt Ideal) (Λ₀ Ideal) .tc) α} {Q : α → sProp 𝕄} :
    (((c : Thread nD τ).loc cc0_scratch2) ↦{fullShare} f : sProp 𝕄)
      ⊢ iprop(((((c : Thread nD τ).loc cc0_scratch2) ↦{fullShare} w) -∗ wp frame (wpE (defs₀ (F := Ideal)) 𝒱₀ (c : Thread nD τ) bd) E (k ⟨⟩) Q)
        -∗ wp frame (wpE (defs₀ (F := Ideal)) 𝒱₀ (c : Thread nD τ) bd) E (.op (.store (Memref.whole cc0_scratch2) allCand w Finset.univ hx hm) k) Q) := by
  have e : ((Memref.whole cc0_scratch2 : Memref sig .tc .vmem S1024x32 .i32).access allCand).write (Elt Ideal) f w Finset.univ = w :=
    Memref.write_access_unit_zero_univ (Elt Ideal) cc0_scratch2 z2 _ f w
  refine (wp_store (defs := defs₀ (F := Ideal)) (Γ := .empty) (Q := Q) 𝒱₀ (c : Thread nD τ) bd E (m := Memref.whole cc0_scratch2) (r := allCand) (Mk := Finset.univ) (hx := hx) (hm := hm) (k := k) (w := w)
    (Finset.subset_univ _)).trans ?_
  rw [e]

theorem loadNewVal (f : Vec Ideal S1024x16 .f32) {hl : (Memref.whole cc0_scratch3 : Memref sig .tc .vmem S1024x16 .f32).view.LoadsAt allNew.toLoadRect}
    {k : Vec Ideal S1024x16 .f32 → Prog (TpuEff nD τ sig (Elt Ideal) (Λ₀ Ideal) .tc) α} {Q : α → sProp 𝕄} :
    (((c : Thread nD τ).loc cc0_scratch3) ↦{fullShare} f : sProp 𝕄)
      ⊢ iprop(((((c : Thread nD τ).loc cc0_scratch3) ↦{fullShare} f) -∗ wp frame (wpE (defs₀ (F := Ideal)) 𝒱₀ (c : Thread nD τ) bd) E (k f) Q)
        -∗ wp frame (wpE (defs₀ (F := Ideal)) 𝒱₀ (c : Thread nD τ) bd) E (.op (.load (Memref.whole cc0_scratch3) allNew.toLoadRect hl) k) Q) := by
  have e : (Memref.whole cc0_scratch3 : Memref sig .tc .vmem S1024x16 .f32).view.readAt (Elt Ideal) allNew.toLoadRect f = f :=
    Memref.readAt_unit_zero (Elt Ideal) cc0_scratch3 z2 _ f
  refine (wp_load (defs := defs₀ (F := Ideal)) (Γ := .empty) (Q := Q) 𝒱₀ (c : Thread nD τ) bd E (m := Memref.whole cc0_scratch3) (hl := hl) (k := k) (Finset.subset_univ _)).trans ?_
  rw [e]

theorem storeNewVal (f w : Vec Ideal S1024x16 .f32) {hx : ((Memref.whole cc0_scratch3 : Memref sig .tc .vmem S1024x16 .f32).access allNew).Stores Finset.univ}
    {hm : (Finset.univ : Finset allNew.shape.Idx) = Finset.univ ∨ ∀ a, allNew.stride a = 1}
    {k : PUnit → Prog (TpuEff nD τ sig (Elt Ideal) (Λ₀ Ideal) .tc) α} {Q : α → sProp 𝕄} :
    (((c : Thread nD τ).loc cc0_scratch3) ↦{fullShare} f : sProp 𝕄)
      ⊢ iprop(((((c : Thread nD τ).loc cc0_scratch3) ↦{fullShare} w) -∗ wp frame (wpE (defs₀ (F := Ideal)) 𝒱₀ (c : Thread nD τ) bd) E (k ⟨⟩) Q)
        -∗ wp frame (wpE (defs₀ (F := Ideal)) 𝒱₀ (c : Thread nD τ) bd) E (.op (.store (Memref.whole cc0_scratch3) allNew w Finset.univ hx hm) k) Q) := by
  have e : ((Memref.whole cc0_scratch3 : Memref sig .tc .vmem S1024x16 .f32).access allNew).write (Elt Ideal) f w Finset.univ = w :=
    Memref.write_access_unit_zero_univ (Elt Ideal) cc0_scratch3 z2 _ f w
  refine (wp_store (defs := defs₀ (F := Ideal)) (Γ := .empty) (Q := Q) 𝒱₀ (c : Thread nD τ) bd E (m := Memref.whole cc0_scratch3) (r := allNew) (Mk := Finset.univ) (hx := hx) (hm := hm) (k := k) (w := w)
    (Finset.subset_univ _)).trans ?_
  rw [e]

theorem loadNewIdx (f : Vec Ideal S1024x16 .i32) {hl : (Memref.whole cc0_scratch4 : Memref sig .tc .vmem S1024x16 .i32).view.LoadsAt allNew.toLoadRect}
    {k : Vec Ideal S1024x16 .i32 → Prog (TpuEff nD τ sig (Elt Ideal) (Λ₀ Ideal) .tc) α} {Q : α → sProp 𝕄} :
    (((c : Thread nD τ).loc cc0_scratch4) ↦{fullShare} f : sProp 𝕄)
      ⊢ iprop(((((c : Thread nD τ).loc cc0_scratch4) ↦{fullShare} f) -∗ wp frame (wpE (defs₀ (F := Ideal)) 𝒱₀ (c : Thread nD τ) bd) E (k f) Q)
        -∗ wp frame (wpE (defs₀ (F := Ideal)) 𝒱₀ (c : Thread nD τ) bd) E (.op (.load (Memref.whole cc0_scratch4) allNew.toLoadRect hl) k) Q) := by
  have e : (Memref.whole cc0_scratch4 : Memref sig .tc .vmem S1024x16 .i32).view.readAt (Elt Ideal) allNew.toLoadRect f = f :=
    Memref.readAt_unit_zero (Elt Ideal) cc0_scratch4 z2 _ f
  refine (wp_load (defs := defs₀ (F := Ideal)) (Γ := .empty) (Q := Q) 𝒱₀ (c : Thread nD τ) bd E (m := Memref.whole cc0_scratch4) (hl := hl) (k := k) (Finset.subset_univ _)).trans ?_
  rw [e]

theorem storeNewIdx (f w : Vec Ideal S1024x16 .i32) {hx : ((Memref.whole cc0_scratch4 : Memref sig .tc .vmem S1024x16 .i32).access allNew).Stores Finset.univ}
    {hm : (Finset.univ : Finset allNew.shape.Idx) = Finset.univ ∨ ∀ a, allNew.stride a = 1}
    {k : PUnit → Prog (TpuEff nD τ sig (Elt Ideal) (Λ₀ Ideal) .tc) α} {Q : α → sProp 𝕄} :
    (((c : Thread nD τ).loc cc0_scratch4) ↦{fullShare} f : sProp 𝕄)
      ⊢ iprop(((((c : Thread nD τ).loc cc0_scratch4) ↦{fullShare} w) -∗ wp frame (wpE (defs₀ (F := Ideal)) 𝒱₀ (c : Thread nD τ) bd) E (k ⟨⟩) Q)
        -∗ wp frame (wpE (defs₀ (F := Ideal)) 𝒱₀ (c : Thread nD τ) bd) E (.op (.store (Memref.whole cc0_scratch4) allNew w Finset.univ hx hm) k) Q) := by
  have e : ((Memref.whole cc0_scratch4 : Memref sig .tc .vmem S1024x16 .i32).access allNew).write (Elt Ideal) f w Finset.univ = w :=
    Memref.write_access_unit_zero_univ (Elt Ideal) cc0_scratch4 z2 _ f w
  refine (wp_store (defs := defs₀ (F := Ideal)) (Γ := .empty) (Q := Q) 𝒱₀ (c : Thread nD τ) bd E (m := Memref.whole cc0_scratch4) (r := allNew) (Mk := Finset.univ) (hx := hx) (hm := hm) (k := k) (w := w)
    (Finset.subset_univ _)).trans ?_
  rw [e]

theorem loadOut (f : Vec Ideal S1024x16 .i32) {hl : (Memref.whole cc0_stg2_0 : Memref sig .tc .vmem S1024x16 .i32).view.LoadsAt allNew.toLoadRect}
    {k : Vec Ideal S1024x16 .i32 → Prog (TpuEff nD τ sig (Elt Ideal) (Λ₀ Ideal) .tc) α} {Q : α → sProp 𝕄} :
    (((c : Thread nD τ).loc cc0_stg2_0) ↦{fullShare} f : sProp 𝕄)
      ⊢ iprop(((((c : Thread nD τ).loc cc0_stg2_0) ↦{fullShare} f) -∗ wp frame (wpE (defs₀ (F := Ideal)) 𝒱₀ (c : Thread nD τ) bd) E (k f) Q)
        -∗ wp frame (wpE (defs₀ (F := Ideal)) 𝒱₀ (c : Thread nD τ) bd) E (.op (.load (Memref.whole cc0_stg2_0) allNew.toLoadRect hl) k) Q) := by
  have e : (Memref.whole cc0_stg2_0 : Memref sig .tc .vmem S1024x16 .i32).view.readAt (Elt Ideal) allNew.toLoadRect f = f :=
    Memref.readAt_unit_zero (Elt Ideal) cc0_stg2_0 z2 _ f
  refine (wp_load (defs := defs₀ (F := Ideal)) (Γ := .empty) (Q := Q) 𝒱₀ (c : Thread nD τ) bd E (m := Memref.whole cc0_stg2_0) (hl := hl) (k := k) (Finset.subset_univ _)).trans ?_
  rw [e]

theorem storeOut (f w : Vec Ideal S1024x16 .i32) {hx : ((Memref.whole cc0_stg2_0 : Memref sig .tc .vmem S1024x16 .i32).access allNew).Stores Finset.univ}
    {hm : (Finset.univ : Finset allNew.shape.Idx) = Finset.univ ∨ ∀ a, allNew.stride a = 1}
    {k : PUnit → Prog (TpuEff nD τ sig (Elt Ideal) (Λ₀ Ideal) .tc) α} {Q : α → sProp 𝕄} :
    (((c : Thread nD τ).loc cc0_stg2_0) ↦{fullShare} f : sProp 𝕄)
      ⊢ iprop(((((c : Thread nD τ).loc cc0_stg2_0) ↦{fullShare} w) -∗ wp frame (wpE (defs₀ (F := Ideal)) 𝒱₀ (c : Thread nD τ) bd) E (k ⟨⟩) Q)
        -∗ wp frame (wpE (defs₀ (F := Ideal)) 𝒱₀ (c : Thread nD τ) bd) E (.op (.store (Memref.whole cc0_stg2_0) allNew w Finset.univ hx hm) k) Q) := by
  have e : ((Memref.whole cc0_stg2_0 : Memref sig .tc .vmem S1024x16 .i32).access allNew).write (Elt Ideal) f w Finset.univ = w :=
    Memref.write_access_unit_zero_univ (Elt Ideal) cc0_stg2_0 z2 _ f w
  refine (wp_store (defs := defs₀ (F := Ideal)) (Γ := .empty) (Q := Q) 𝒱₀ (c : Thread nD τ) bd E (m := Memref.whole cc0_stg2_0) (r := allNew) (Mk := Finset.univ) (hx := hx) (hm := hm) (k := k) (w := w)
    (Finset.subset_univ _)).trans ?_
  rw [e]

end Whole

theorem entails_if {β : Type 1} {P : sProp 𝕄} {W : β → sProp 𝕄} {p : Prop} [Decidable p] {A B : β} (hp : p) (h : P ⊢ W A) :
    P ⊢ W (if p then A else B) := by rw [if_pos hp]; exact h

theorem entails_else {β : Type 1} {P : sProp 𝕄} {W : β → sProp 𝕄} {p : Prop} [Decidable p] {A B : β} (hp : ¬p) (h : P ⊢ W B) :
    P ⊢ W (if p then A else B) := by rw [if_neg hp]; exact h

/-! ## The loop over the passes -/

section Passes

variable (s : Fin 1024 → ℕ → EReal) (i : grid0.Coords) (k : ℕ) (v6 : IVec S1024x2048 32) (v20 : FVec Ideal S1024x1 .f32)

/-- The block's similarities, the candidates' and the candidates' columns. -/
structure Bufs where
  x : Vec Ideal S1024x2048 .f32
  cv : Vec Ideal S1024x32 .f32
  ci : Vec Ideal S1024x32 .i32

def held (y : Bufs) : sProp 𝕄 :=
  iprop((((c : Thread nD τ).loc cc0_scratch0) ↦{fullShare} y.x) ∗ (((c : Thread nD τ).loc cc0_scratch1) ↦{fullShare} y.cv)
    ∗ (((c : Thread nD τ).loc cc0_scratch2) ↦{fullShare} y.ci))

/-- What the loop entered at `y₀` ends with: `t` passes made, and either ten of them or no row with anything better left. -/
def Ended (y₀ : Bufs) (r : BitVec 32 × FVec Ideal S1024x1 .f32) (y : Bufs) : Prop :=
  ∃ t, Passing s k v6 t y.x y.cv y.ci r.2 ∧ r.1 = BitVec.ofNat 32 t
    ∧ (t = 10 ∨ ¬ ∃ r' : Fin 1024, (v20 (ix2 r' 0) : EReal) < r.2 (ix2 r' 0)) ∧ (t = 0 → y = y₀)

def spec (y₀ y : Bufs) : sWPT 𝕄 (BitVec 32 × FVec Ideal S1024x1 .f32) := do
  sWPT.consume (held c y)
  let r ← sWPT.arbitrary
  let y' ← sWPT.arbitrary
  sWPT.assume (Ended s k v6 v20 y₀ r y')
  sWPT.produce (held c y')
  pure r

theorem spec_apply (y₀ y : Bufs) (Q : BitVec 32 × FVec Ideal S1024x1 .f32 → sProp 𝕄) :
    spec c s k v6 v20 y₀ y Q
      = iprop(held c y ∗ ∀ r : BitVec 32 × FVec Ideal S1024x1 .f32, ∀ y' : Bufs, ⌜Ended s k v6 v20 y₀ r y'⌝ -∗ (held c y' -∗ Q r)) := rfl

theorem count_lt : ∀ t : ℕ, t < 10 → Scalar.cmpi .slt (BitVec.ofNat 32 t) 10#32 = 1#1 := by decide
theorem count_ten : Scalar.cmpi .slt (BitVec.ofNat 32 10) 10#32 = 0#1 := by decide
theorem count_succ (t : ℕ) : Scalar.addi (BitVec.ofNat 32 t) 1#32 = BitVec.ofNat 32 (t + 1) := (BitVec.ofNat_add t 1).symm

theorem spec_le (hs : ∀ r j, j < 100000 → s r j ≠ ⊥) (hk : k < 49) (y₀ : Bufs) (E : Set ℕ) :
    ∀ n t, t + n = 10 → ∀ (y : Bufs) (m : FVec Ideal S1024x1 .f32), Passing s k v6 t y.x y.cv y.ci m → (t = 0 → y = y₀) → ∀ Q, spec c s k v6 v20 y₀ y Q
      ⊢ wp frame (wpE (defs₀ (F := Ideal)) 𝒱₀ (c : Thread nD τ) (some n)) E
          (defs₀ (F := Ideal) .tc 2 ⟨i, v20, Memref.whole cc0_scratch0, Memref.isWhole_whole _, v6, lanes,
            Memref.whole cc0_scratch1, Memref.isWhole_whole _, Memref.whole cc0_scratch2, Memref.isWhole_whole _, BitVec.ofNat 32 t, m⟩) Q := by
  intro n
  induction n with
  | zero =>
    intro t ht y m h h0 Q
    have ht : t = 10 := by omega
    subst ht
    rw [spec_apply]
    show _ ⊢ wp frame (wpE (defs₀ (F := Ideal)) 𝒱₀ (c : Thread nD τ) (some 0)) E
      (cc0_while1 i v20 (Memref.whole cc0_scratch0) (Memref.isWhole_whole _) v6 lanes
        (Memref.whole cc0_scratch1) (Memref.isWhole_whole _) (Memref.whole cc0_scratch2) (Memref.isWhole_whole _) (BitVec.ofNat 32 10) m) Q
    simp only [cc0_while1_eq_skeleton]; unfold cc0_while1_skel
    have htest : ¬ Scalar.andi (Scalar.cmpi .slt (BitVec.ofNat 32 10) 10#32) (Scalar.cmpf .ogt (k0_pay1 v20 m) (Scalar.ofBits .f32 0x00000000#32)) = 1#1 := by
      rw [count_ten]; show ¬ (0#1 &&& _) = 1#1; rw [BitVec.zero_and]; decide
    refine entails_else (W := fun A => wp frame (wpE (defs₀ (F := Ideal)) 𝒱₀ (c : Thread nD τ) (some 0)) E A Q) htest ?_
    rw [Prog.pure_eq_ret]
    iintro ⟨H, Hk⟩
    rw [wp_ret]; imodintro
    iapply Hk $$ %_ %y
    · ipureintro; exact ⟨10, h, rfl, .inl rfl, h0⟩
    · iexact H
  | succ n ih =>
    intro t ht y m h h0 Q
    rw [spec_apply]
    show _ ⊢ wp frame (wpE (defs₀ (F := Ideal)) 𝒱₀ (c : Thread nD τ) (some (n + 1))) E
      (cc0_while1 i v20 (Memref.whole cc0_scratch0) (Memref.isWhole_whole _) v6 lanes
        (Memref.whole cc0_scratch1) (Memref.isWhole_whole _) (Memref.whole cc0_scratch2) (Memref.isWhole_whole _) (BitVec.ofNat 32 t) m) Q
    simp only [cc0_while1_eq_skeleton]; unfold cc0_while1_skel
    have hgo : Scalar.andi (Scalar.cmpi .slt (BitVec.ofNat 32 t) 10#32) (Scalar.cmpf .ogt (k0_pay1 v20 m) (Scalar.ofBits .f32 0x00000000#32))
        = BitVec.ofBool (decide (∃ r : Fin 1024, (v20 (ix2 r 0) : EReal) < m (ix2 r 0))) := by
      rw [go_on, count_lt t (by omega)]; exact BitVec.allOnes_and
    by_cases hex : ∃ r : Fin 1024, (v20 (ix2 r 0) : EReal) < m (ix2 r 0)
    · rw [decide_eq_true hex] at hgo
      refine entails_if (W := fun A => wp frame (wpE (defs₀ (F := Ideal)) 𝒱₀ (c : Thread nD τ) (some (n + 1))) E A Q) hgo ?_
      simp only [Prog.lift, Prog.bind_op, Prog.bind_ret, Prog.pure_eq_ret]
      unfold held
      iintro ⟨⟨Hx, Hv, Hi⟩, Hk⟩
      iapply (loadSim c y.x) $$ Hx; iintro Hx
      iapply (loadSim c y.x) $$ Hx; iintro Hx
      iapply (storeSim c y.x (k0_pay4 v6 m y.x)) $$ Hx; iintro Hx
      iapply (loadVal c y.cv) $$ Hv; iintro Hv
      iapply (loadVal c y.cv) $$ Hv; iintro Hv
      iapply (storeVal c y.cv (k0_pay5 lanes (BitVec.ofNat 32 t) m y.cv)) $$ Hv; iintro Hv
      iapply (loadIdx c y.ci) $$ Hi; iintro Hi
      iapply (loadIdx c y.ci) $$ Hi; iintro Hi
      iapply (storeIdx c y.ci (k0_pay6 v6 lanes (BitVec.ofNat 32 t) m y.x y.ci)) $$ Hi; iintro Hi
      rw [count_succ]
      have hp := passing_step hs hk h (by omega : t < 10)
      generalize k0_pay4 v6 m y.x = x' at hp ⊢
      generalize k0_pay5 lanes (BitVec.ofNat 32 t) m y.cv = cv' at hp ⊢
      generalize k0_pay6 v6 lanes (BitVec.ofNat 32 t) m y.x y.ci = ci' at hp ⊢
      generalize k0_pay7 v6 m y.x = m' at hp ⊢
      iapply (wp_call_spec (defs := defs₀ (F := Ideal)) (ℓ := (2 : (Λ₀ Ideal).Label)) 𝒱₀ (c : Thread nD τ) (some (n + 1)) E
        (spec c s k v6 v20 y₀ ⟨x', cv', ci'⟩) n (fun u hu => by cases hu; exact Nat.lt_succ_self n) (ih (t + 1) (by omega) ⟨x', cv', ci'⟩ m' hp fun e => absurd e (Nat.succ_ne_zero t)))
      rw [spec_apply]; unfold held
      isplitl [Hx Hv Hi]
      · isplitl [Hx]; · iexact Hx
        isplitl [Hv]; · iexact Hv
        iexact Hi
      iintro %r %y' %hr H
      rw [wp_ret]; imodintro
      iapply Hk $$ %_ %y'
      · ipureintro; exact hr
      · iexact H
    · rw [decide_eq_false hex] at hgo
      refine entails_else (W := fun A => wp frame (wpE (defs₀ (F := Ideal)) 𝒱₀ (c : Thread nD τ) (some (n + 1))) E A Q) (fun e => absurd (hgo.symm.trans e) (by decide)) ?_
      rw [Prog.pure_eq_ret]
      iintro ⟨H, Hk⟩
      rw [wp_ret]; imodintro
      iapply Hk $$ %_ %y
      · ipureintro; exact ⟨t, h, rfl, .inr hex, h0⟩
      · iexact H

end Passes

end Cert.Proof.Topk

end
-- ==== Proof.TBody.lean ====
/-
  The search's body at one grid point, a stretch at a time. Each stretch's theorem takes what is to hold after it to the
  triple of the stretch followed by any rest.
-/
module

public import proofs.«01_k».proof.Proof.Topk

@[expose] public section

noncomputable section

namespace Cert.Proof.Topk

open Cert.KernelIdeal Cert.KernelIdeal.Gen
open Idealize.ShloMosaic hiding ix1 ix2 ix3 eq_ix1 eq_ix2 eq_ix3
open Idealize.ShloMosaic.ValueIdx
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Pick Cert.Proof.Sims Cert.Proof.Pays Cert.Proof.State
open Cert.Proof.Cells (Holds)
open Cert.Proof.Whole (UU 𝒱₀)

local notation "𝕄" => MT nD τ sig (HIx 1) (Elt Ideal) ℕ UU ℕ

variable (c : Dev nD)

/-! ## The branches' conditions -/

theorem first_iff : ∀ n : Fin 49, Scalar.cmpi .ne (Scalar.extui (Scalar.cmpi .eq (BitVec.ofNat 32 n.val) 0#32) : BitVec 32) 0#32 = 1#1 ↔ n.val = 0 := by
  decide
theorem last_iff : ∀ n : Fin 49, Scalar.cmpi .ne (Scalar.extui (Scalar.cmpi .eq (BitVec.ofNat 32 n.val) 48#32) : BitVec 32) 0#32 = 1#1 ↔ n.val = 48 := by
  decide
theorem early_iff : ∀ n : Fin 49, Scalar.cmpi .ne (Scalar.extui (Scalar.cmpi .slt (BitVec.ofNat 32 n.val) 48#32) : BitVec 32) 0#32 = 1#1 ↔ n.val < 48 := by
  decide
theorem some_iff : ∀ n : Fin 11, Scalar.cmpi .ne (Scalar.extui (Scalar.cmpi .sgt (BitVec.ofNat 32 n.val) 0#32) : BitVec 32) 0#32 = 1#1 ↔ 0 < n.val := by
  decide

abbrev E₀ : Set ℕ := Set.univ
abbrev Pg := Prog (TpuEff nD τ sig (Elt Ideal) (Λ₀ Ideal) .tc)
abbrev W₀ (A : Pg PUnit) (Q : PUnit → sProp 𝕄) : sProp 𝕄 := wp frame (wpE (defs₀ (F := Ideal)) 𝒱₀ (c : Thread nD τ) none) Set.univ A Q

theorem if_pos' {P : sProp 𝕄} {p : Prop} [Decidable p] {A B : Pg PUnit} {Q : PUnit → sProp 𝕄} (hp : p) (h : P ⊢ W₀ c A Q) :
    P ⊢ W₀ c (if p then A else B) Q := by rw [if_pos hp]; exact h
theorem if_neg' {P : sProp 𝕄} {p : Prop} [Decidable p] {A B : Pg PUnit} {Q : PUnit → sProp 𝕄} (hp : ¬p) (h : P ⊢ W₀ c B Q) :
    P ⊢ W₀ c (if p then A else B) Q := by rw [if_neg hp]; exact h
theorem dif_pos' {P : sProp 𝕄} {p : Prop} [Decidable p] {A : p → Pg PUnit} {B : ¬p → Pg PUnit} {Q : PUnit → sProp 𝕄} (hp : p) (h : P ⊢ W₀ c (A hp) Q) :
    P ⊢ W₀ c (dite p A B) Q := by rw [dif_pos hp]; exact h
theorem dif_neg' {P : sProp 𝕄} {p : Prop} [Decidable p] {A : p → Pg PUnit} {B : ¬p → Pg PUnit} {Q : PUnit → sProp 𝕄} (hp : ¬p) (h : P ⊢ W₀ c (B hp) Q) :
    P ⊢ W₀ c (dite p A B) Q := by rw [dif_neg hp]; exact h

/-! ## A load of a block handed in -/

theorem load_owned {s : Shape} {e : EltTy} (m : Memref sig .tc .vmem s e) (X : s.Idx → Elt Ideal e) {off : Fin s.rank → Nat} (h0 : off = fun _ => 0)
    {inb : ∀ a, off a + s.size a ≤ s.size a} {hl : m.view.LoadsAt (Rect.unit off s.size inb).toLoadRect}
    {k : (s.Idx → Elt Ideal e) → Pg PUnit} {Q : PUnit → sProp 𝕄} :
    (owns (c : Thread nD τ) m fullShare X : sProp 𝕄)
      ⊢ iprop((owns (c : Thread nD τ) m fullShare X -∗ W₀ c (k X) Q) -∗ W₀ c (.op (.load m (Rect.unit off s.size inb).toLoadRect hl) k) Q) := by
  unfold owns
  iintro ⟨%f, %hf, H⟩ Hk
  iapply (wp_load (defs := defs₀ (F := Ideal)) (Γ := .empty) (Q := Q) 𝒱₀ (c : Thread nD τ) none Set.univ (m := m) (hl := hl) (k := k) (View.setOn_subset_set _ _)) $$ H
  iintro H
  have e : m.view.readAt (Elt Ideal) (Rect.unit off s.size inb).toLoadRect f = X := by
    rw [← hf]; subst h0; funext x
    rw [View.readAt_apply]
    exact congrArg _ (Rect.emb_whole_apply _ x)
  rw [e]
  iapply Hk
  iexists f; isplitr
  · ipureintro; exact hf
  · iexact H

/-! ## The stretches -/

section Stretches

variable (s : Fin 1024 → ℕ → EReal) (i : grid0.Coords)

abbrev simPt (x : Vec Ideal S1024x2048 .f32) : sProp 𝕄 := (((c : Thread nD τ).loc cc0_scratch0) ↦{fullShare} x)
abbrev cvPt (x : Vec Ideal S1024x32 .f32) : sProp 𝕄 := (((c : Thread nD τ).loc cc0_scratch1) ↦{fullShare} x)
abbrev ciPt (x : Vec Ideal S1024x32 .i32) : sProp 𝕄 := (((c : Thread nD τ).loc cc0_scratch2) ↦{fullShare} x)
abbrev nvPt (x : Vec Ideal S1024x16 .f32) : sProp 𝕄 := (((c : Thread nD τ).loc cc0_scratch3) ↦{fullShare} x)
abbrev niPt (x : Vec Ideal S1024x16 .i32) : sProp 𝕄 := (((c : Thread nD τ).loc cc0_scratch4) ↦{fullShare} x)
abbrev outPt (x : Vec Ideal S1024x16 .i32) : sProp 𝕄 := (((c : Thread nD τ).loc cc0_stg2_0) ↦{fullShare} x)

/-- At the first point the candidates are cleared. -/
theorem clear {P : sProp 𝕄} {Q : PUnit → sProp 𝕄} {rest : Pg PUnit} {cv : Vec Ideal S1024x32 .f32} {ci : Vec Ideal S1024x32 .i32}
    (h : 0 < (i 1).val → Kept s (i 1).val cv ci)
    (hrest : ∀ cv ci, Kept s (i 1).val cv ci → ((i 1).val = 0 → ∀ j, (cv j : EReal) = ⊥) → iprop(cvPt c cv ∗ ciPt c ci ∗ P) ⊢ W₀ c rest Q)
    {hl : (Memref.whole cc0_scratch1 : Memref sig .tc .vmem S1024x32 .f32).view.LoadsAt allCand.toLoadRect}
    {hl' : (Memref.whole cc0_scratch2 : Memref sig .tc .vmem S1024x32 .i32).view.LoadsAt allCand.toLoadRect} {hx hm hx' hm'} :
    iprop(cvPt c cv ∗ ciPt c ci ∗ P) ⊢ W₀ c
      (if h : Scalar.cmpi .ne (Scalar.extui (Scalar.cmpi .eq (BitVec.ofNat 32 (i 1).val) 0#32) : BitVec 32) 0#32 = 1#1 then do
          let _ ← Prog.lift (.load (Memref.whole cc0_scratch1) allCand.toLoadRect hl)
          Prog.lift (.store (Memref.whole cc0_scratch1) allCand (k0_pay8 (F := Ideal)) Finset.univ hx hm)
          let _ ← Prog.lift (.load (Memref.whole cc0_scratch2) allCand.toLoadRect hl')
          Prog.lift (.store (Memref.whole cc0_scratch2) allCand k0_pay9 Finset.univ hx' hm')
          rest
        else rest) Q := by
  have hi : (i 1).val < 49 := (i 1).isLt
  by_cases h0 : (i 1).val = 0
  · refine dif_pos' c ((first_iff ⟨_, hi⟩).mpr h0) ?_
    simp only [Prog.lift, Prog.bind_op, Prog.bind_ret]
    iintro ⟨Hv, Hi, HP⟩
    iapply (loadVal c cv) $$ Hv; iintro Hv
    iapply (storeVal c cv (k0_pay8 (F := Ideal))) $$ Hv; iintro Hv
    iapply (loadIdx c ci) $$ Hi; iintro Hi
    iapply (storeIdx c ci k0_pay9) $$ Hi; iintro Hi
    iapply (hrest (k0_pay8 (F := Ideal)) k0_pay9 (by rw [h0]; exact kept_zero fun j => pay8_apply j) fun _ j => pay8_apply j)
    isplitl [Hv]; · iexact Hv
    isplitl [Hi]; · iexact Hi
    iexact HP
  · refine dif_neg' c (fun e => h0 ((first_iff ⟨_, hi⟩).mp e)) ?_
    exact hrest _ _ (h (Nat.pos_of_ne_zero h0)) fun e => absurd e h0

/-- The block's similarities are stored: past the database's end, negative infinity. -/
theorem similarities {P : sProp 𝕄} {Q : PUnit → sProp 𝕄} {rest : Pg PUnit} {x : Vec Ideal S1024x2048 .f32}
    {q : Vec Ideal S1024x64 .f32} {f : S100000x64.Idx → EReal} {v9 : Vec Ideal S2048x64 .f32} (hv : Rows f i v9)
    (hrest : ∀ x : Vec Ideal S1024x2048 .f32, (∀ r, Holds (sims q f r) (block (i 1).val) (fun l : Fin 2048 => (x (ix2 r l) : EReal)) (fun l => k0_pay10 i (ix2 r l))) →
      iprop(simPt c x ∗ P) ⊢ W₀ c rest Q)
    {hl : (Memref.whole cc0_scratch0 : Memref sig .tc .vmem S1024x2048 .f32).view.LoadsAt allSim.toLoadRect}
    {hl' : (Memref.whole cc0_scratch0 : Memref sig .tc .vmem S1024x2048 .f32).view.LoadsAt allSim.toLoadRect} {hx hm hx' hm'} :
    iprop(simPt c x ∗ P) ⊢ W₀ c
      (have jp := fun _ : PUnit.{1} => if h : Scalar.cmpi .ne (Scalar.extui (Scalar.cmpi .slt (BitVec.ofNat 32 (i 1).val) 48#32) : BitVec 32) 0#32 = 1#1 then do
          let _ ← Prog.lift (.load (Memref.whole cc0_scratch0) allSim.toLoadRect hl')
          Prog.lift (.store (Memref.whole cc0_scratch0) allSim (k0_pay13 (F := Ideal) q v9) Finset.univ hx' hm')
          rest
        else rest
       if h : Scalar.cmpi .ne (Scalar.extui (Scalar.cmpi .eq (BitVec.ofNat 32 (i 1).val) 48#32) : BitVec 32) 0#32 = 1#1 then do
          let _ ← Prog.lift (.load (Memref.whole cc0_scratch0) allSim.toLoadRect hl)
          Prog.lift (.store (Memref.whole cc0_scratch0) allSim (k0_pay12 (F := Ideal) i q v9) Finset.univ hx hm)
          jp ⟨⟩
        else jp ⟨⟩) Q := by
  have hi : (i 1).val < 49 := (i 1).isLt
  by_cases h0 : (i 1).val = 48
  · refine dif_pos' c ((last_iff ⟨_, hi⟩).mpr h0) ?_
    simp only [Prog.lift, Prog.bind_op, Prog.bind_ret]
    iintro ⟨Hx, HP⟩
    iapply (loadSim c x) $$ Hx; iintro Hx
    iapply (storeSim c x (k0_pay12 i q v9)) $$ Hx; iintro Hx
    have hr := hrest _ fun r => holds12 q hv r
    generalize k0_pay12 i q v9 = x' at hr ⊢
    iapply (dif_neg' c (fun e => absurd ((early_iff ⟨_, hi⟩).mp e) (by show ¬ (i 1).val < 48; omega)) hr)
    isplitl [Hx]; · iexact Hx
    iexact HP
  · refine dif_neg' c (fun e => h0 ((last_iff ⟨_, hi⟩).mp e)) ?_
    have h48 : (i 1).val < 48 := by omega
    refine dif_pos' c ((early_iff ⟨_, hi⟩).mpr h48) ?_
    simp only [Prog.lift, Prog.bind_op, Prog.bind_ret]
    iintro ⟨Hx, HP⟩
    iapply (loadSim c x) $$ Hx; iintro Hx
    iapply (storeSim c x (k0_pay13 q v9)) $$ Hx; iintro Hx
    iapply (hrest _ fun r => holds13 q hv h48 r)
    isplitl [Hx]; · iexact Hx
    iexact HP

/-- What is held while the candidates are merged, `u` trips made. -/
def merging (C : Fin 1024 → Finset ℕ) (u : ℕ) (_ : Unit) : sProp 𝕄 :=
  iprop(∃ cv ci nv ni, ⌜Merging s C u cv ci nv ni⌝ ∗ cvPt c cv ∗ ciPt c ci ∗ nvPt c nv ∗ niPt c ni)

/-- When a pass was made, the candidates are merged into the ten best. -/
theorem merge {P : sProp 𝕄} {Q : PUnit → sProp 𝕄} {rest : Pg PUnit} {v6 : IVec S1024x2048 32} {v20 m : FVec Ideal S1024x1 .f32} {n : BitVec 32}
    {y₀ y : Bufs} {nv : Vec Ideal S1024x16 .f32} {ni : Vec Ideal S1024x16 .i32} (hs : ∀ r j, j < 100000 → s r j ≠ ⊥)
    (h20 : ((i 1).val = 0 → ∀ r, (v20 (ix2 r 0) : EReal) = ⊥)
      ∧ (0 < (i 1).val → ∀ r, (v20 (ix2 r 0) : EReal) = s r (nth (s r) (seen (i 1).val) 9)))
    (hk : Kept s (i 1).val y₀.cv y₀.ci) (hf : Found s (i 1).val ni) (he : Ended s (i 1).val v6 v20 y₀ (n, m) y)
    (hrest : ∀ cv ci nv ni, Kept s ((i 1).val + 1) cv ci → Found s ((i 1).val + 1) ni →
      iprop((cvPt c cv ∗ ciPt c ci ∗ nvPt c nv ∗ niPt c ni) ∗ P) ⊢ W₀ c rest Q)
    (m2 : Memref sig .tc .vmem S1024x64 .f32) (h2 : m2.IsWhole) (m3 : Memref sig .tc .vmem S2048x64 .f32) (h3 : m3.IsWhole)
    {hl1 : (Memref.whole cc0_scratch3 : Memref sig .tc .vmem S1024x16 .f32).view.LoadsAt allNew.toLoadRect}
    {hl2 : (Memref.whole cc0_scratch4 : Memref sig .tc .vmem S1024x16 .i32).view.LoadsAt allNew.toLoadRect}
    {hl3 : (Memref.whole cc0_scratch3 : Memref sig .tc .vmem S1024x16 .f32).view.LoadsAt allNew.toLoadRect}
    {hl4 : (Memref.whole cc0_scratch1 : Memref sig .tc .vmem S1024x32 .f32).view.LoadsAt allCand.toLoadRect}
    {hl5 : (Memref.whole cc0_scratch4 : Memref sig .tc .vmem S1024x16 .i32).view.LoadsAt allNew.toLoadRect}
    {hl6 : (Memref.whole cc0_scratch2 : Memref sig .tc .vmem S1024x32 .i32).view.LoadsAt allCand.toLoadRect}
    {hx1 hm1 hx2 hm2 hx3 hm3 hx4 hm4} :
    iprop((cvPt c y.cv ∗ ciPt c y.ci ∗ nvPt c nv ∗ niPt c ni) ∗ P) ⊢ W₀ c
      (if Scalar.cmpi .ne (Scalar.extui (Scalar.cmpi .sgt n 0#32) : BitVec 32) 0#32 = 1#1 then do
          let _ ← Prog.lift (.load (Memref.whole cc0_scratch3) allNew.toLoadRect hl1)
          Prog.lift (.store (Memref.whole cc0_scratch3) allNew (k0_pay15 (F := Ideal)) Finset.univ hx1 hm1)
          let _ ← Prog.lift (.load (Memref.whole cc0_scratch4) allNew.toLoadRect hl2)
          Prog.lift (.store (Memref.whole cc0_scratch4) allNew k0_pay16 Finset.univ hx2 hm2)
          Scf.Loop.for k0_t1_loop k0_t1_ok ⟨⟩ (k0_t1_body (F := Ideal) i m2 h2 m3 h3 (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _))
          let v40 ← Prog.lift (.load (Memref.whole cc0_scratch3) allNew.toLoadRect hl3)
          let _ ← Prog.lift (.load (Memref.whole cc0_scratch1) allCand.toLoadRect hl4)
          Prog.lift (.store (Memref.whole cc0_scratch1) allCand (k0_pay22 (F := Ideal) v40) Finset.univ hx3 hm3)
          let v46 ← Prog.lift (.load (Memref.whole cc0_scratch4) allNew.toLoadRect hl5)
          let _ ← Prog.lift (.load (Memref.whole cc0_scratch2) allCand.toLoadRect hl6)
          Prog.lift (.store (Memref.whole cc0_scratch2) allCand (k0_pay23 (F := Ideal) v46) Finset.univ hx4 hm4)
          rest
        else rest) Q := by
  have hi : (i 1).val < 49 := (i 1).isLt
  obtain ⟨t, hp, hn, hex, h0⟩ := he
  dsimp only at hn hp
  subst hn
  have hle := hp.le
  have hstop := stop hi hs hp h20 hex
  by_cases ht : t = 0
  · subst ht
    refine if_neg' c (fun e => absurd ((some_iff ⟨0, by omega⟩).mp e) (Nat.lt_irrefl 0)) ?_
    obtain rfl := h0 rfl
    obtain ⟨hk', hf'⟩ := stayed hi (hstop.resolve_left (by omega)) hk hf
    exact hrest _ _ _ _ hk' hf'
  · refine if_pos' c ((some_iff ⟨t, by omega⟩).mpr (Nat.pos_of_ne_zero ht)) ?_
    obtain ⟨hC, hlt, hnth⟩ := cand_props hi hle hstop
    have hms := merging_start hp (k0_pay16 : Vec Ideal S1024x16 .i32)
    generalize cand s (i 1).val t = C at hC hlt hnth hms
    simp only [Prog.lift, Prog.bind_op, Prog.bind_ret]
    iintro ⟨⟨Hv, Hi, Hnv, Hni⟩, HP⟩
    iapply (loadNewVal c nv) $$ Hnv; iintro Hnv
    iapply (storeNewVal c nv (k0_pay15 (F := Ideal))) $$ Hnv; iintro Hnv
    iapply (loadNewIdx c ni) $$ Hni; iintro Hni
    iapply (storeNewIdx c ni k0_pay16) $$ Hni; iintro Hni
    sl_for (merging c s C) $$ [Hv Hi Hnv Hni]
    case region =>
      intro k _
      unfold merging merge.sl.prog.body_1
      simp only [Prog.lift, Prog.bind_op, Prog.bind_ret]
      iintro ⟨%cv, %ci, %nv, %ni, %hM, Hv, Hi, Hnv, Hni⟩
      have hM' := merging_step hs hC hlt k hM
      iapply (loadVal c cv) $$ Hv; iintro Hv
      iapply (loadIdx c ci) $$ Hi; iintro Hi
      iapply (loadVal c cv) $$ Hv; iintro Hv
      iapply (storeVal c cv (k0_pay19 cv ci)) $$ Hv; iintro Hv
      iapply (loadNewVal c nv) $$ Hnv; iintro Hnv
      iapply (loadNewVal c nv) $$ Hnv; iintro Hnv
      iapply (storeNewVal c nv (k0_pay20 k cv nv)) $$ Hnv; iintro Hnv
      iapply (loadNewIdx c ni) $$ Hni; iintro Hni
      iapply (loadNewIdx c ni) $$ Hni; iintro Hni
      iapply (storeNewIdx c ni (k0_pay21 k cv ci ni)) $$ Hni; iintro Hni
      simp only [Prog.bind, Prog.pure_eq_ret]
      rw [wp_ret]; imodintro
      iexists _, _, _, _; isplitr
      · ipureintro; exact hM'
      isplitl [Hv]; · iexact Hv
      isplitl [Hi]; · iexact Hi
      isplitl [Hnv]; · iexact Hnv
      iexact Hni
    · unfold merging
      iexists _, _, _, _; isplitr
      · ipureintro; exact hms
      isplitl [Hv]; · iexact Hv
      isplitl [Hi]; · iexact Hi
      isplitl [Hnv]; · iexact Hnv
      iexact Hni
    iintro %_ HI
    unfold merging
    icases HI with ⟨%cv, %ci, %nv, %ni, %hM, Hv, Hi, Hnv, Hni⟩
    rw [show Scf.trips k0_t1_loop.lb k0_t1_loop.ub k0_t1_loop.st = 10 from trips_eq] at hM
    obtain ⟨hk', hf'⟩ := merged hs hi hnth hM
    iapply (loadNewVal c nv) $$ Hnv; iintro Hnv
    iapply (loadVal c cv) $$ Hv; iintro Hv
    iapply (storeVal c cv (k0_pay22 nv)) $$ Hv; iintro Hv
    iapply (loadNewIdx c ni) $$ Hni; iintro Hni
    iapply (loadIdx c ci) $$ Hi; iintro Hi
    iapply (storeIdx c ci (k0_pay23 ni)) $$ Hi; iintro Hi
    iapply (hrest _ _ _ _ hk' hf')
    isplitr [HP]
    · isplitl [Hv]; · iexact Hv
      isplitl [Hi]; · iexact Hi
      isplitl [Hnv]; · iexact Hnv
      iexact Hni
    · iexact HP

/-- At the last point the result is stored. -/
theorem finish {P : sProp 𝕄} {Q : PUnit → sProp 𝕄} {rest : Pg PUnit} {ni o : Vec Ideal S1024x16 .i32}
    (hrest : ∀ o, ((i 1).val = 48 → o = k0_pay24 (F := Ideal) ni) → iprop(niPt c ni ∗ outPt c o ∗ P) ⊢ W₀ c rest Q)
    {hl : (Memref.whole cc0_scratch4 : Memref sig .tc .vmem S1024x16 .i32).view.LoadsAt allNew.toLoadRect}
    {hl' : (Memref.whole cc0_stg2_0 : Memref sig .tc .vmem S1024x16 .i32).view.LoadsAt allNew.toLoadRect} {hx hm} :
    iprop(niPt c ni ∗ outPt c o ∗ P) ⊢ W₀ c
      (if h : k0_cond5 i = 1#1 then do
          let v31 ← Prog.lift (.load (Memref.whole cc0_scratch4) allNew.toLoadRect hl)
          let _ ← Prog.lift (.load (Memref.whole cc0_stg2_0) allNew.toLoadRect hl')
          Prog.lift (.store (Memref.whole cc0_stg2_0) allNew (k0_pay24 (F := Ideal) v31) Finset.univ hx hm)
          rest
        else rest) Q := by
  have hi : (i 1).val < 49 := (i 1).isLt
  by_cases h0 : (i 1).val = 48
  · refine dif_pos' c ((last_iff ⟨_, hi⟩).mpr h0) ?_
    simp only [Prog.lift, Prog.bind_op, Prog.bind_ret]
    iintro ⟨Hn, Ho, HP⟩
    iapply (loadNewIdx c ni) $$ Hn; iintro Hn
    iapply (loadOut c o) $$ Ho; iintro Ho
    iapply (storeOut c o (k0_pay24 (F := Ideal) ni)) $$ Ho; iintro Ho
    iapply (hrest _ fun _ => rfl)
    isplitl [Hn]; · iexact Hn
    isplitl [Ho]; · iexact Ho
    iexact HP
  · refine dif_neg' c (fun e => h0 ((last_iff ⟨_, hi⟩).mp e)) ?_
    exact hrest _ fun e => absurd e h0

end Stretches

/-! ## The body -/

section Body

variable (s : Fin 1024 → ℕ → EReal)

/-- The search's own buffers before point `k`. -/
def scr (k : ℕ) : sProp 𝕄 :=
  iprop(∃ x cv ci nv ni, ⌜0 < k → Kept s k cv ci ∧ Found s k ni⌝ ∗ simPt c x ∗ cvPt c cv ∗ ciPt c ci ∗ nvPt c nv ∗ niPt c ni)

/-- The result: a row's ten best columns in order, and its best one over the rest of the lanes. -/
def best : Vec Ideal S1024x16 .i32 :=
  fun y => BitVec.ofNat 32 (nth (s (y 0)) (Finset.range 100000) (if (y 1).val < 10 then (y 1).val else 0))

theorem best_of {ni : Vec Ideal S1024x16 .i32} (h : Found s 49 ni) : k0_pay24 (F := Ideal) ni = best s := by
  funext y
  obtain ⟨r, l, rfl⟩ : ∃ (r : Fin 1024) (l : Fin 16), y = ix2 r l := ⟨y 0, y 1, eq_ix2 y⟩
  rw [pay24_apply]
  show _ = BitVec.ofNat 32 (nth (s r) (Finset.range 100000) (if l.val < 10 then l.val else 0))
  by_cases hl : l.val < 10
  · rw [if_pos hl, if_pos hl, h (by decide) r l hl, seen_all]
  · rw [if_neg hl, if_neg hl, h (by decide) r 0 (by decide), seen_all]; rfl

theorem tenth (cv : Vec Ideal S1024x32 .f32) (r : Fin 1024) :
    (Memref.whole cc0_scratch1 : Memref sig .tc .vmem S1024x32 .f32).view.readAt (Elt Ideal)
      (Rect.unit (s := S1024x32) ![0, 9] S1024x1.size inb_S1024x32_S1024x1_0_9).toLoadRect cv (ix2 r 0) = cv (ix2 r 9) := by
  refine congrArg cv (funext fun a => Fin.ext ?_)
  match a with
  | 0 => show 0 + 1 * r.val = r.val; omega
  | 1 => rfl

/-- A load of the candidates' lane 9. -/
theorem loadTenth (cv : Vec Ideal S1024x32 .f32)
    {hl : (Memref.whole cc0_scratch1 : Memref sig .tc .vmem S1024x32 .f32).view.LoadsAt
      (Rect.unit (s := S1024x32) ![0, 9] S1024x1.size inb_S1024x32_S1024x1_0_9).toLoadRect}
    {k : Vec Ideal S1024x1 .f32 → Pg PUnit} {Q : PUnit → sProp 𝕄} :
    cvPt c cv ⊢ iprop((∀ v20 : Vec Ideal S1024x1 .f32, ⌜∀ r, v20 (ix2 r 0) = cv (ix2 r 9)⌝ -∗ cvPt c cv -∗ W₀ c (k v20) Q)
      -∗ W₀ c (.op (.load (Memref.whole cc0_scratch1) (Rect.unit (s := S1024x32) ![0, 9] S1024x1.size inb_S1024x32_S1024x1_0_9).toLoadRect hl) k) Q) := by
  refine (wp_load (defs := defs₀ (F := Ideal)) (Γ := .empty) (Q := Q) 𝒱₀ (c : Thread nD τ) none Set.univ (m := Memref.whole cc0_scratch1) (hl := hl) (k := k) (Finset.subset_univ _)).trans ?_
  iintro H Hk
  iapply H
  iintro Hv
  iapply Hk $$ %_ %(tenth cv) Hv

/-- The call of the search's loop. -/
theorem passes (i : grid0.Coords) {k : ℕ} (hs : ∀ r j, j < 100000 → s r j ≠ ⊥) (hk : k < 49) (v6 : IVec S1024x2048 32) (v20 : Vec Ideal S1024x1 .f32)
    (y : Bufs) (m : FVec Ideal S1024x1 .f32) (hp : Passing s k v6 0 y.x y.cv y.ci m)
    {K : BitVec 32 × FVec Ideal S1024x1 .f32 → Pg PUnit} {Q : PUnit → sProp 𝕄} :
    held c y ⊢ iprop((∀ r : BitVec 32 × FVec Ideal S1024x1 .f32, ∀ y' : Bufs, ⌜Ended s k v6 v20 y r y'⌝ -∗ held c y' -∗ W₀ c (K r) Q)
      -∗ W₀ c (.op (.call (2 : (Λ₀ Ideal).Label) ⟨i, v20, Memref.whole cc0_scratch0, Memref.isWhole_whole _, v6, iota .tc S1024x32 32 [1] iota_S1024x32_d1_w32,
            Memref.whole cc0_scratch1, Memref.isWhole_whole _, Memref.whole cc0_scratch2, Memref.isWhole_whole _, 0#32, m⟩) K) Q) := by
  have hle := spec_le c s i k v6 v20 hs hk y Set.univ 10 0 rfl y m hp (fun _ => rfl)
  unfold lanes at hle
  iintro H Hk
  iapply (wp_call_spec (defs := defs₀ (F := Ideal)) (ℓ := (2 : (Λ₀ Ideal).Label)) 𝒱₀ (c : Thread nD τ) none Set.univ
    (spec c s k v6 v20 y y) 10 (fun u hu => nomatch hu) hle)
  rw [spec_apply]
  isplitl [H]; · iexact H
  iintro %r %y' %hr H
  iapply Hk $$ %_ %y' %hr H

theorem part (q : Vec Ideal S1024x64 .f32) (f : S100000x64.Idx → EReal) (hs : ∀ r j, j < 100000 → sims q f r j ≠ ⊥) (i : grid0.Coords)
    (m2 : Memref sig .tc .vmem S1024x64 .f32) (h2 : m2.IsWhole) (m3 : Memref sig .tc .vmem S2048x64 .f32) (h3 : m3.IsWhole)
    (v9 : Vec Ideal S2048x64 .f32) (hv : Rows f i v9) (o : Vec Ideal S1024x16 .i32) (R : PUnit → sProp 𝕄)
    (hR : iprop(scr c (sims q f) ((i 1).val + 1) ∗ owns (c : Thread nD τ) m2 fullShare q ∗ owns (c : Thread nD τ) m3 fullShare v9
          ∗ ∃ o, ⌜(i 1).val = 48 → o = best (sims q f)⌝ ∗ outPt c o) ⊢ R ⟨⟩) :
    iprop(scr c (sims q f) (i 1).val ∗ owns (c : Thread nD τ) m2 fullShare q ∗ owns (c : Thread nD τ) m3 fullShare v9 ∗ outPt c o)
      ⊢ W₀ c (k0_part1_skel (F := Ideal) i m2 h2 m3 h3 (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _)) R := by
  have hi : (i 1).val < 49 := (i 1).isLt
  unfold k0_part1_skel
  iintro ⟨Hs, H2, H3, Ho⟩
  unfold scr
  icases Hs with ⟨%x, %cv, %ci, %nv, %ni, %hks, Hx, Hv, Hi, Hnv, Hni⟩
  iapply (clear c (sims q f) i (cv := cv) (ci := ci) (P := iprop(simPt c x ∗ nvPt c nv ∗ niPt c ni ∗ owns (c : Thread nD τ) m2 fullShare q
    ∗ owns (c : Thread nD τ) m3 fullShare v9 ∗ outPt c o)) (fun h => (hks h).1) ?_)
  rotate_left
  · isplitl [Hv]; · iexact Hv
    isplitl [Hi]; · iexact Hi
    isplitl [Hx]; · iexact Hx
    isplitl [Hnv]; · iexact Hnv
    isplitl [Hni]; · iexact Hni
    isplitl [H2]; · iexact H2
    isplitl [H3]; · iexact H3
    iexact Ho
  have hf : Found (sims q f) (i 1).val ni := by
    rcases Nat.eq_zero_or_pos (i 1).val with h0 | h0
    · rw [h0]; exact found_zero ni
    · exact (hks h0).2
  clear hks
  intro cv ci hk hz
  iintro ⟨Hv, Hi, Hx, Hnv, Hni, H2, H3, Ho⟩
  simp only [Prog.lift, Prog.bind_op, Prog.bind_ret]
  iapply (load_owned c m2 q z2) $$ H2; iintro H2
  iapply (load_owned c m3 v9 z2) $$ H3; iintro H3
  iapply (similarities c i (f := f) (q := q) (x := x) (P := iprop(cvPt c cv ∗ ciPt c ci ∗ nvPt c nv ∗ niPt c ni ∗ owns (c : Thread nD τ) m2 fullShare q
    ∗ owns (c : Thread nD τ) m3 fullShare v9 ∗ outPt c o)) hv ?_)
  rotate_left
  · isplitl [Hx]; · iexact Hx
    isplitl [Hv]; · iexact Hv
    isplitl [Hi]; · iexact Hi
    isplitl [Hnv]; · iexact Hnv
    isplitl [Hni]; · iexact Hni
    isplitl [H2]; · iexact H2
    isplitl [H3]; · iexact H3
    iexact Ho
  intro x hx
  iintro ⟨Hx, Hv, Hi, Hnv, Hni, H2, H3, Ho⟩
  iapply (loadTenth c cv) $$ Hv
  iintro %v20 %h20 Hv
  iapply (loadSim c x) $$ Hx; iintro Hx
  have h20' : ((i 1).val = 0 → ∀ r, (v20 (ix2 r 0) : EReal) = ⊥)
      ∧ (0 < (i 1).val → ∀ r, (v20 (ix2 r 0) : EReal) = sims q f r (nth (sims q f r) (seen (i 1).val) 9)) :=
    ⟨fun h r => (h20 r).trans (hz h _), fun h r => (h20 r).trans (hk.least h r)⟩
  have hp := passing_start hs hi hx hk
  generalize k0_pay14 (F := Ideal) x = m₀ at hp ⊢
  iapply (passes c (sims q f) i hs hi (k0_pay10 i) v20 ⟨x, cv, ci⟩ m₀ hp) $$ [Hx Hv Hi]
  · unfold held
    isplitl [Hx]; · iexact Hx
    isplitl [Hv]; · iexact Hv
    iexact Hi
  unfold held
  iintro %r %y' %hr ⟨Hx, Hv, Hi⟩
  obtain ⟨n, m⟩ := r
  iapply (merge c (sims q f) i hs h20' hk hf hr (P := iprop(simPt c y'.x ∗ owns (c : Thread nD τ) m2 fullShare q
    ∗ owns (c : Thread nD τ) m3 fullShare v9 ∗ outPt c o)) ?_)
  rotate_left
  · isplitl [Hv Hi Hnv Hni]
    · isplitl [Hv]; · iexact Hv
      isplitl [Hi]; · iexact Hi
      isplitl [Hnv]; · iexact Hnv
      iexact Hni
    isplitl [Hx]; · iexact Hx
    isplitl [H2]; · iexact H2
    isplitl [H3]; · iexact H3
    iexact Ho
  intro cv ci nv ni hk' hf'
  iintro ⟨⟨Hv, Hi, Hnv, Hni⟩, Hx, H2, H3, Ho⟩
  iapply (finish c i (P := iprop(simPt c y'.x ∗ cvPt c cv ∗ ciPt c ci ∗ nvPt c nv ∗ owns (c : Thread nD τ) m2 fullShare q
    ∗ owns (c : Thread nD τ) m3 fullShare v9)) ?_)
  rotate_left
  · isplitl [Hni]; · iexact Hni
    isplitl [Ho]; · iexact Ho
    isplitl [Hx]; · iexact Hx
    isplitl [Hv]; · iexact Hv
    isplitl [Hi]; · iexact Hi
    isplitl [Hnv]; · iexact Hnv
    isplitl [H2]; · iexact H2
    iexact H3
  intro o ho
  iintro ⟨Hni, Ho, Hx, Hv, Hi, Hnv, H2, H3⟩
  unfold W₀
  rw [Prog.pure_eq_ret, wp_ret]
  imodintro
  iapply hR
  unfold scr
  isplitl [Hx Hv Hi Hnv Hni]
  · iexists _, _, _, _, _
    isplitr
    · ipureintro; exact fun _ => ⟨hk', hf'⟩
    isplitl [Hx]; · iexact Hx
    isplitl [Hv]; · iexact Hv
    isplitl [Hi]; · iexact Hi
    isplitl [Hnv]; · iexact Hnv
    iexact Hni
  isplitl [H2]; · iexact H2
  isplitl [H3]; · iexact H3
  iexists o
  isplitr
  · ipureintro; intro h; rw [ho h]; exact best_of _ (by rw [h] at hf'; exact hf')
  iexact Ho

/-- The body at a grid point. -/
theorem body (q : Vec Ideal S1024x64 .f32) (f : S100000x64.Idx → EReal) (hs : ∀ r j, j < 100000 → sims q f r j ≠ ⊥) (i : grid0.Coords)
    (m2 : Memref sig .tc .vmem S1024x64 .f32) (h2 : m2.IsWhole) (m3 : Memref sig .tc .vmem S2048x64 .f32) (h3 : m3.IsWhole)
    (v9 : Vec Ideal S2048x64 .f32) (hv : Rows f i v9) (o : Vec Ideal S1024x16 .i32) (R : PUnit → sProp 𝕄)
    (hR : iprop(scr c (sims q f) ((i 1).val + 1) ∗ owns (c : Thread nD τ) m2 fullShare q ∗ owns (c : Thread nD τ) m3 fullShare v9
          ∗ ∃ o, ⌜(i 1).val = 48 → o = best (sims q f)⌝ ∗ outPt c o) ⊢ R ⟨⟩) :
    iprop(scr c (sims q f) (i 1).val ∗ owns (c : Thread nD τ) m2 fullShare q ∗ owns (c : Thread nD τ) m3 fullShare v9 ∗ outPt c o)
      ⊢ W₀ c (cc0__topk_body (F := Ideal) i m2 h2 m3 h3 (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _)) R := by
  rw [cc0__topk_body_eq_skeleton]
  unfold cc0__topk_body_skel
  rw [k0_part1_eq_skeleton]
  unfold W₀
  rw [wp_bind]
  refine part c q f hs i m2 h2 m3 h3 v9 hv o _ (hR.trans ?_)
  rw [Prog.pure_eq_ret, wp_ret]
  iintro H
  imodintro
  iexact H

end Body

end Cert.Proof.Topk

end
-- ==== Proof.Region.lean ====
module

public import proofs.«01_k».proof.Proof.TBody
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ArrRel
public import Idealize.ShloMosaic.Lib.Pipeline.ValueKit

/-!
# The TensorCore call as a step of the launch

The call's three windows are the normalised queries (one block), the padded index (49 blocks of 2048 rows) and the
result (one block, written back after the last point). At point `t` the scratch buffers hold what `scr` says of the
first `t` blocks; the body carries it to `t + 1` (`TBody.body`), and at the last point the result's buffer holds `best`.
`reg` is the call as a step of @main: it is entered with the three arrays and the debts of the launch's start, which
sit above every wait of the call, and left with the same and the result in `main_v6`.
-/

@[expose] public section

noncomputable section

namespace Cert.Proof.Region

open Cert.KernelIdeal Cert.KernelIdeal.Gen
open Idealize.ShloMosaic hiding ix1 ix2 ix3 eq_ix1 eq_ix2 eq_ix3
open Idealize.ShloMosaic.ValueIdx
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Proof.Pick Cert.Proof.Sims Cert.Proof.State Cert.Proof.Topk
open Cert.Proof.Whole (UU 𝒱₀ K)

local notation "𝕄" => MT nD τ sig (HIx 1) (Elt Ideal) ℕ UU ℕ

/-- No table is prefetched. -/
def adm : (p : Fin 1) → (pcfgs (F := Ideal) p).Adm := fun _ => ⟨fun k => k.elim0, by trivial⟩

/-- The index padded with zero rows. -/
def Padded (f : S100000x64.Idx → EReal) (pf : S100352x64.Idx → EReal) : Prop :=
  ∀ (r : ℕ) (h : r < 100000) (k : Fin 64), pf (ix2 ⟨r, by omega⟩ k) = f (ix2 ⟨r, h⟩ k)

variable (q : S1024x64.Idx → EReal) (f : S100000x64.Idx → EReal) (pf : S100352x64.Idx → EReal) (g : S1024x16.Idx → BitVec 32)

/-- The call's data: what its arrays hold at the start, what the body leaves in each window, and the scratch buffers' state. -/
def rdat (c : Dev nD) : RDat τ (Elt Ideal) (HIx 1) ℕ UU ℕ (cfg0 (F := Ideal)) c where
  A w := match w with
    | ⟨0, _⟩ => q
    | ⟨1, _⟩ => pf
    | ⟨2, _⟩ => g
  after w t := match w with
    | ⟨0, _⟩ => fun Y X => X = Y
    | ⟨1, _⟩ => fun Y X => X = Y
    | ⟨2, _⟩ => fun _ X => t.val = 48 → X = best (sims q f)
  Φ t := scr c (sims q f) t.val
  q _ := fullShare
  owed _ := (K (F := Ideal)).Otc c 0
  recorded _ := {p | (K (F := Ideal)).lev ((c.tc : Thread nD τ), p.1) p.2 ≤ 0}

theorem point (t : Fin (cfg0 (F := Ideal)).N) : (grid0.coords t 1).val = t.val :=
  (by decide : ∀ t : Fin grid0.N, (grid0.coords t 1).val = t.val) t

theorem index0 : ∀ (t : Fin grid0.N) (a : Fin 2), win0_0.index t a = 0 := by decide
theorem index1 : ∀ t : Fin grid0.N, win0_1.index t 0 = (grid0.coords t 1).val ∧ win0_1.index t 1 = 0 := by decide

theorem fetched0 (c : Dev nD) (t : Fin (cfg0 (F := Ideal)).N) (d) : (rdat q f pf g c).fetched 0 t d = q := by
  funext j
  show q _ = q j
  refine congrArg q (funext fun a => Fin.ext ?_)
  exact win0_0.rect_emb_val_of_index_zero t a (index0 t a) j

theorem fetched1 (hpf : Padded f pf) (c : Dev nD) (t : Fin (cfg0 (F := Ideal)).N) (d) : Rows f (grid0.coords t) ((rdat q f pf g c).fetched 1 t d) := by
  intro l k h
  refine Eq.trans ?_ (hpf _ h k)
  show pf _ = pf _
  refine congrArg pf (funext fun a => Fin.ext ?_)
  refine (win0_1.rect_emb_val t _ a).trans ?_
  match a with
  | 0 =>
    show win0_1.index t 0 * 2048 + l.val = 2048 * (grid0.coords t 1).val + l.val
    rw [(index1 t).1]; omega
  | 1 =>
    show win0_1.index t 1 * 64 + k.val = k.val
    rw [(index1 t).2]; omega

theorem finds0 (c : Dev nD) (t : Fin (cfg0 (F := Ideal)).N) (Y) (h : (rdat q f pf g c).Finds 0 t Y) : Y = q := by
  obtain ⟨d, rfl⟩ := (rdat q f pf g c).finds_in_eq_fetched 0 rfl (fun _ _ _ => rfl) (fun _ _ _ h => h) t Y h
  exact fetched0 q f pf g c t d

theorem finds1 (hpf : Padded f pf) (c : Dev nD) (t : Fin (cfg0 (F := Ideal)).N) (Y) (h : (rdat q f pf g c).Finds 1 t Y) : Rows f (grid0.coords t) Y := by
  obtain ⟨d, rfl⟩ := ((rdat q f pf g c).finds_of_fetch (fetch0_1 t) Y).mp h
  exact fetched1 q f pf g hpf c t d

theorem body_obligation (hpf : Padded f pf) (hs : ∀ r j, j < 100000 → sims q f r j ≠ ⊥) (c : Dev nD) :
    (rdat q f pf g c).BodyObligation (defs₀ (F := Ideal)) 𝒱₀ none Set.univ := by
  intro t Y hY
  have h0 := finds0 q f pf g c t _ (hY 0)
  have h1 := finds1 q f pf g hpf c t _ (hY 1)
  rw [bigSep_W0, bigSep_W0]
  generalize Y 0 = Y0 at h0 ⊢
  generalize Y 1 = Y1 at h1 ⊢
  generalize Y 2 = Y2
  subst h0
  have hb : ∀ (s : Fin 1) (R : PUnit → sProp 𝕄), (iprop(scr c (sims Y0 f) (t.val + 1) ∗ owns (c : Thread nD τ) (st0_0 (F := Ideal) t) fullShare Y0
        ∗ owns (c : Thread nD τ) (st0_1 (F := Ideal) t) fullShare Y1 ∗ ∃ o, ⌜t.val = 48 → o = best (sims Y0 f)⌝ ∗ owns (c : Thread nD τ) (stage0_2 s) fullShare o) ⊢ R ⟨⟩) →
      iprop(scr c (sims Y0 f) t.val ∗ owns (c : Thread nD τ) (st0_0 (F := Ideal) t) fullShare Y0
        ∗ owns (c : Thread nD τ) (st0_1 (F := Ideal) t) fullShare Y1 ∗ owns (c : Thread nD τ) (stage0_2 s) fullShare Y2)
      ⊢ W₀ c (cc0__topk_body (F := Ideal) (grid0.coords t) (st0_0 (F := Ideal) t) (hstage0_0 (((cfg0 (F := Ideal)).slots t 0).cast nbuf0_0))
          (st0_1 (F := Ideal) t) (hstage0_1 (((cfg0 (F := Ideal)).slots t 1).cast nbuf0_1)) (stage0_2 s) (hstage0_2 s)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _)) R := by
    intro s R hR
    obtain rfl : s = 0 := Subsingleton.elim _ _
    have hst : ∀ o, (owns (c : Thread nD τ) (stage0_2 0) fullShare o : sProp 𝕄) = outPt c o := fun o => owns_whole c.tc cc0_stg2_0 fullShare o
    simp only [hst] at hR ⊢
    have hc := point t
    have := body c Y0 f hs (grid0.coords t) (st0_0 (F := Ideal) t) (hstage0_0 (((cfg0 (F := Ideal)).slots t 0).cast nbuf0_0))
      (st0_1 (F := Ideal) t) (hstage0_1 (((cfg0 (F := Ideal)).slots t 1).cast nbuf0_1)) Y1 h1 Y2 R (by rw [hc]; exact hR)
    rw [hc] at this
    exact this
  rw [show (rdat Y0 f pf g c).Φ t.castSucc = scr c (sims Y0 f) t.val from rfl, show (rdat Y0 f pf g c).Φ t.succ = scr c (sims Y0 f) (t.val + 1) from rfl,
    show (rdat Y0 f pf g c).owesAt none t.succ = (rdat Y0 f pf g c).owesAt none t.castSucc from rfl]
  refine BIBase.Entails.trans ?_ ((wp_frame_r frame _ Set.univ (R := (rdat Y0 f pf g c).owesAt none t.castSucc)
    (Q := fun _ => iprop(scr c (sims Y0 f) (t.val + 1) ∗ owns (c : Thread nD τ) (st0_0 (F := Ideal) t) fullShare Y0
        ∗ owns (c : Thread nD τ) (st0_1 (F := Ideal) t) fullShare Y1
        ∗ ∃ o, ⌜t.val = 48 → o = best (sims Y0 f)⌝ ∗ owns (c : Thread nD τ) (stage0_2 ((cfg0 (F := Ideal)).slots t 2)) fullShare o))).trans
    (wp_mono frame _ Set.univ fun _ => ?_))
  · iintro ⟨HΦ, HO, H0, H1, H2⟩
    isplitr [HO]
    · iapply (hb ((cfg0 (F := Ideal)).slots t 2) (fun _ => iprop(scr c (sims Y0 f) (t.val + 1) ∗ owns (c : Thread nD τ) (st0_0 (F := Ideal) t) fullShare Y0
          ∗ owns (c : Thread nD τ) (st0_1 (F := Ideal) t) fullShare Y1
          ∗ ∃ o, ⌜t.val = 48 → o = best (sims Y0 f)⌝ ∗ owns (c : Thread nD τ) (stage0_2 ((cfg0 (F := Ideal)).slots t 2)) fullShare o)) .rfl)
      isplitl [HΦ]; · iexact HΦ
      isplitl [H0]; · iexact H0
      isplitl [H1]; · iexact H1
      iexact H2
    · iexact HO
  · iintro ⟨⟨HΦ, H0, H1, %o, %ho, H2⟩, HO⟩
    isplitl [HΦ]; · iexact HΦ
    isplitl [HO]; · iexact HO
    isplitl [H0]
    · iexists _; isplitr; swap; (· iexact H0); ipureintro; exact rfl
    isplitl [H1]
    · iexists _; isplitr; swap; (· iexact H1); ipureintro; exact rfl
    iexists _; isplitr; swap; (· iexact H2); ipureintro; exact ho

/-- The pipeline's data, by pipeline. -/
def rdats : (p : Fin 1) → (c : Dev nD) → RDat τ (Elt Ideal) (HIx 1) ℕ UU ℕ (Pipeline.pin (pcfgs (F := Ideal)) adm p) c := fun _ c => rdat q f pf g c

/-- The launch's array `b` on core `c`, holding `x`. -/
abbrev at_ (c : Dev nD) (b : Ref sig .tc) (x : Buf (Elt Ideal) ((c : Thread nD τ).loc b)) : sProp 𝕄 := ((c : Thread nD τ).loc b) ↦{fullShare} x

theorem pt0 (c : Dev nD) (G : Buf (Elt Ideal) (View.loc (c.tc : Thread nD τ) ((cfg0 (F := Ideal)).win 0).arr.view)) :
    (View.loc (c.tc : Thread nD τ) ((cfg0 (F := Ideal)).win 0).arr.view ↦[((cfg0 (F := Ideal)).win 0).arr.view.set]{(rdat q f pf g c).share 0} G : sProp 𝕄) = at_ c main_v2 G := by
  rw [show ((cfg0 (F := Ideal)).win 0).arr.view.set = Finset.univ from View.set_whole _]
  rfl

theorem pt1 (c : Dev nD) (G : Buf (Elt Ideal) (View.loc (c.tc : Thread nD τ) ((cfg0 (F := Ideal)).win 1).arr.view)) :
    (View.loc (c.tc : Thread nD τ) ((cfg0 (F := Ideal)).win 1).arr.view ↦[((cfg0 (F := Ideal)).win 1).arr.view.set]{(rdat q f pf g c).share 1} G : sProp 𝕄) = at_ c main_v5 G := by
  rw [show ((cfg0 (F := Ideal)).win 1).arr.view.set = Finset.univ from View.set_whole _]
  rfl

theorem pt2 (c : Dev nD) (G : Buf (Elt Ideal) (View.loc (c.tc : Thread nD τ) ((cfg0 (F := Ideal)).win 2).arr.view)) :
    (View.loc (c.tc : Thread nD τ) ((cfg0 (F := Ideal)).win 2).arr.view ↦[((cfg0 (F := Ideal)).win 2).arr.view.set]{(rdat q f pf g c).share 2} G : sProp 𝕄) = at_ c main_v6 G := by
  rw [show ((cfg0 (F := Ideal)).win 2).arr.view.set = Finset.univ from View.set_whole _]
  rfl

theorem arrays_eq (c : Dev nD) (G) : (rdat q f pf g c).arrays G = iprop(at_ c main_v2 (G 0) ∗ at_ c main_v5 (G 1) ∗ at_ c main_v6 (G 2)) := by
  unfold RDat.arrays
  rw [bigSep_W0, pt0, pt1, pt2]

theorem arraysAt_eq (c : Dev nD) (n) : (rdat q f pf g c).arraysAt n
    = iprop((∃ G, ⌜(rdat q f pf g c).ArrAt 0 n G⌝ ∗ at_ c main_v2 G) ∗ (∃ G, ⌜(rdat q f pf g c).ArrAt 1 n G⌝ ∗ at_ c main_v5 G) ∗ (∃ G, ⌜(rdat q f pf g c).ArrAt 2 n G⌝ ∗ at_ c main_v6 G)) := by
  unfold RDat.arraysAt
  rw [bigSep_W0]
  refine congr (congrArg _ (congrArg _ (funext fun G => ?_))) (congr (congrArg _ (congrArg _ (funext fun G => ?_))) (congrArg _ (funext fun G => ?_)))
  · rw [pt0]
  · rw [pt1]
  · rw [pt2]

/-- What the region leaves in its result. -/
theorem result (c : Dev nD) (G) (h : (rdat q f pf g c).ArrAt 2 (cfg0 (F := Ideal)).N G) : G = best (sims q f) := by
  obtain ⟨X, ⟨Y, -, hX⟩, hG⟩ := h.emb_eq_of_wholeAt (t₀ := (⟨48, by decide⟩ : Fin grid0.N)) (by decide +kernel)
  have hX := hX rfl
  subst hX
  funext j
  exact hG j

/-- The launch's own debts at the region: to the tiles, nothing below. -/
def owe (c : Dev nD) : sProp 𝕄 :=
  iprop(∃ W, ⌜(K (F := Ideal)).WBelow (c : Thread nD τ) W 0⌝ ∗ owes (c : Thread nD τ) ((K (F := Ideal)).Otc (N := 1) c 0) W)

theorem hwaits (c : Dev nD) : (levAts (K (F := Ideal)).L (K (F := Ideal)).lev : sProp 𝕄) ⊢ RDat.cellsWaits (Pipeline.pin (pcfgs (F := Ideal)) adm) (rdats q f pf g) none 0 c :=
  RDat.cellsWaits_of_cut (Pipeline.pin (pcfgs (F := Ideal)) adm) (rdats q f pf g) none 0 c 0 ((K (F := Ideal)).Otc (N := 1) c 0) (fun _ => rfl)
    (fun _ _ => Finset.mem_univ _) (fun _ _ => le_of_eq rfl) fun _ _ h => ⟨Finset.mem_univ _, lt_of_lt_of_le (by omega) (SparseCore.Cfg.lev_of_Otc_pos h)⟩

set_option backward.isDefEq.respectTransparency.types false in
/-- The call as a step of @main. -/
def reg (hpf : Padded f pf) (hs : ∀ r j, j < 100000 → sims q f r j ≠ ⊥) :
    RDat.RegionSeg (pcfgs (F := Ideal)) adm (rdats q f pf g) none (defs₀ (F := Ideal)) 𝒱₀ (K (F := Ideal)).L (K (F := Ideal)).lev 0 where
  win := launch0.win.to₀
  block_pos := launch0.block_pos
  stage_whole := launch0.stage_whole
  K := PEmpty
  osem k := k.elim
  ho := Pipeline.OwnSemFacts.none _
  hbody c := body_obligation q f pf g hpf hs c
  hwaits c := hwaits q f pf g c
  pre c := iprop((at_ c main_v2 q ∗ at_ c main_v5 pf ∗ at_ c main_v6 g) ∗ owe c)
  post c := iprop((at_ c main_v2 q ∗ at_ c main_v5 pf ∗ at_ c main_v6 (best (sims q f))) ∗ owe c)
  X _ := BI.emp
  Y _ := BI.emp
  Z _ := BI.emp
  hentry c := by
    rw [Pipeline.ownSems0_none, show (rdats q f pf g 0 c).arrays (rdats q f pf g 0 c).A = _ from arrays_eq q f pf g c _]
    unfold owe
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (hW p hp)
      iexact HO
    isplitr <;> iempintro
  hin c := by
    rw [show (rdats q f pf g 0 c).Φ 0 = scr c (sims q f) 0 from rfl]
    rw [show Pipeline.scopedRest (Ix := HIx 1) (Name := ℕ) (U := UU) (Lvl := ℕ) (Val := Elt Ideal) (Pipeline.pin (pcfgs (F := Ideal)) adm 0).spec c = _ from scopedRest0_eq c]
    unfold scr
    iintro ⟨-, -, ⟨%a0, H0⟩, ⟨%a1, H1⟩, ⟨%a2, H2⟩, ⟨%a3, H3⟩, %a4, H4⟩
    iexists a0, a1, a2, a3, a4
    isplitr; · ipureintro; exact fun h => absurd h (lt_irrefl _)
    isplitl [H0]; · iexact H0
    isplitl [H1]; · iexact H1
    isplitl [H2]; · iexact H2
    isplitl [H3]; · iexact H3
    iexact H4
  hout c := by
    rw [Pipeline.ownSems0_none, show (rdats q f pf g 0 c).Φ (Fin.last _) = scr c (sims q f) 49 from rfl]
    rw [show Pipeline.scopedRest (Ix := HIx 1) (Name := ℕ) (U := UU) (Lvl := ℕ) (Val := Elt Ideal) (Pipeline.pin (pcfgs (F := Ideal)) adm 0).spec c = _ from scopedRest0_eq c]
    unfold scr
    iintro ⟨%a0, %a1, %a2, %a3, %a4, -, H0, H1, H2, H3, H4⟩
    isplitr; · iempintro
    isplitr; · iempintro
    isplitl [H0]; · iexists _; iexact H0
    isplitl [H1]; · iexists _; iexact H1
    isplitl [H2]; · iexists _; iexact H2
    isplitl [H3]; · iexists _; iexact H3
    iexists _; iexact H4
  hexit c := by
    rw [show (rdats q f pf g 0 c).arraysAt _ = _ from arraysAt_eq q f pf g c _]
    iintro ⟨⟨⟨%G0, %h0, H0⟩, ⟨%G1, %h1, H1⟩, %G2, %h2, H2⟩, HO, -, -⟩
    have h2 := result q f pf g c _ h2
    rw [RDat.ArrAt_in _ _ rfl] at h0 h1
    rw [show G0 = q from h0, show G1 = pf from h1, h2]
    imodintro
    isplitr [HO]
    · isplitl [H0]; · iexact H0
      isplitl [H1]; · iexact H1
      iexact H2
    unfold Pipeline.RDat.owesAt Pipeline.owesWithin owe
    icases HO with ⟨%W, %hW, HO⟩
    iexists W; isplitr
    · ipureintro; intro p hp
      rcases hW hp with h | h
      · exact h
      · obtain ⟨w, s, rfl⟩ := h
        exact le_of_eq rfl
    iexact HO

end Cert.Proof.Region

end
-- ==== Proof.Host.lean ====
module

public import proofs.«01_k».proof.Proof.Region
public import Idealize.ShloMosaic.Lib.SparseCore.Launch
public import Idealize.ShloMosaic.Lib.Pipeline.Frame

/-!
# The program's host operations before its TensorCore call

They divide the queries by their norms and write the index into an array padded to a whole number of blocks
(`after_v2`, `after_v5`); the arguments stay as they are.
-/

@[expose] public section

noncomputable section

namespace Cert.Proof.Host

open Cert.KernelIdeal Cert.KernelIdeal.Gen
open Idealize.ShloMosaic hiding ix1 ix2 ix3 eq_ix1 eq_ix2 eq_ix3
open Idealize.ShloMosaic.ValueIdx
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held wp_hlo_within)
open Cert.Proof.Whole (UU 𝒱₀ 𝒱 K D)

local notation "𝕄" => MT nD τ sig (HIx 1) (Elt Ideal) ℕ UU ℕ

section Ops

variable {F : FTy → Type} [FloatOps F]

/-- @main's operations before the TensorCore call. -/
abbrev op0 : HloOp τ sig (Elt F) := StableHlo.TRef.binary (.of main_arg0) (.of main_arg0) main_call0.v0 mulf
abbrev op1 : HloOp τ sig (Elt F) := StableHlo.TRef.nullary main_call0.cst (constant S_ .f32 0x00000000#32)
abbrev op2 : HloOp τ sig (Elt F) := StableHlo.TRef.binary main_call0.v0 main_call0.cst main_call0.v1 (fun x v => Host.reduceAdd x v reducesTo_S1024x64_S1024_d1 h_S_)
abbrev op3 : HloOp τ sig (Elt F) := StableHlo.TRef.unary main_call0.v1 main_call0.v2 (broadcastInDim S1024x1 ![0] bcast_S1024_S1024x1_0)
abbrev op4 : HloOp τ sig (Elt F) := StableHlo.TRef.unary main_call0.v2 main_call0.v3 Host.sqrt
abbrev op5 : HloOp τ sig (Elt F) := StableHlo.unary main_v0 main_v1 (broadcastInDim S1024x64 ![0, 1] bcast_S1024x1_S1024x64_0_1 : (⟨S1024x1, .f32⟩ : BufTy).Contents (Elt F) → (⟨S1024x64, .f32⟩ : BufTy).Contents (Elt F))
abbrev op6 : HloOp τ sig (Elt F) := StableHlo.binary main_arg0 main_v1 main_v2 (Host.divf : (⟨S1024x64, .f32⟩ : BufTy).Contents (Elt F) → (⟨S1024x64, .f32⟩ : BufTy).Contents (Elt F) → (⟨S1024x64, .f32⟩ : BufTy).Contents (Elt F))
abbrev op7 : HloOp τ sig (Elt F) := StableHlo.nullary main_cst (constant S_ .f32 0x00000000#32)
abbrev op8 : HloOp τ sig (Elt F) := StableHlo.unary main_cst main_v3 (broadcastInDim S100352x64 ![] bcast_S_S100352x64 : (⟨S_, .f32⟩ : BufTy).Contents (Elt F) → (⟨S100352x64, .f32⟩ : BufTy).Contents (Elt F))
abbrev op9 : HloOp τ sig (Elt F) := StableHlo.nullary main_c (constantI S_ 32 0#32)
abbrev op10 : HloOp τ sig (Elt F) := StableHlo.unary main_c main_v4 (broadcastInDim S1 ![] bcast_S_S1 : (⟨S_, .i32⟩ : BufTy).Contents (Elt F) → (⟨S1, .i32⟩ : BufTy).Contents (Elt F))
abbrev op11 : HloOp τ sig (Elt F) := StableHlo.ternary main_v3 main_v4 main_arg1 main_v5 ((fun x i u => Host.scatter scatter_S100352x64_S1_S100000x64_01_n_0_0 (fun _ b => b) x i u) : (⟨S100352x64, .f32⟩ : BufTy).Contents (Elt F) → (⟨S1, .i32⟩ : BufTy).Contents (Elt F) → (⟨S100000x64, .f32⟩ : BufTy).Contents (Elt F) → (⟨S100352x64, .f32⟩ : BufTy).Contents (Elt F))

abbrev ops : List (HloOp τ sig (Elt F)) := [op0, op1, op2, op3, op4, op5, op6, op7, op8, op9, op10, op11]

/-- @main from the TensorCore call on. -/
def rest (d : Dev nD) : Prog (TpuEff nD τ sig (Elt F) (SparseCore.Sig (Pipeline.Sig (Λ₀ F) (Fin 1) fun p => (pcfgs (F := F) p).Adm) 1) .tc) PUnit := do
  Prog.lift (.customCall (SparseCore.inner (Pipeline.entry 0)) ())
  sc.run d 0
  hlo rfl (StableHlo.unary main_v7 main_v8 ((extractStridedSlice S1024x1000 ![0, 0] · slices_S1024x1024_S1024x1000_0_0) : (⟨S1024x1024, .f32⟩ : BufTy).Contents (Elt F) → (⟨S1024x1000, .f32⟩ : BufTy).Contents (Elt F))) (fun _ => .ret ⟨⟩)
  pure ⟨⟩

set_option maxRecDepth 8192 in
theorem main_eq (d : Dev nD) : main (F := F) d = StableHlo.seq ops >>= fun _ => rest d := rfl

theorem ops_sub : ∀ op ∈ ops (F := F), op.bufs ⊆ Pipeline.ucRefs τ sig := by
  intro op h
  refine Pipeline.sub_ucRefs op ?_
  simp only [ops, List.mem_cons, List.not_mem_nil, or_false] at h
  rcases h with rfl | rfl | rfl | rfl | rfl | rfl | rfl | rfl | rfl | rfl | rfl | rfl
  · exact StableHlo.binary_bufs_sub ..
  · exact StableHlo.nullary_bufs_sub ..
  · exact StableHlo.binary_bufs_sub ..
  · exact StableHlo.unary_bufs_sub ..
  · exact StableHlo.unary_bufs_sub ..
  · exact StableHlo.unary_bufs_sub ..
  · exact StableHlo.binary_bufs_sub ..
  · exact StableHlo.nullary_bufs_sub ..
  · exact StableHlo.unary_bufs_sub ..
  · exact StableHlo.nullary_bufs_sub ..
  · exact StableHlo.unary_bufs_sub ..
  · exact StableHlo.ternary_bufs_sub ..

theorem ops_fresh : ∀ op ∈ ops (F := F), op.fresh = ∅ := by
  intro op h
  simp only [ops, List.mem_cons, List.not_mem_nil, or_false] at h
  rcases h with rfl | rfl | rfl | rfl | rfl | rfl | rfl | rfl | rfl | rfl | rfl | rfl <;> rfl

end Ops

/-- The queries divided by their norms. -/
def unit (y : S1024x64.Idx → EReal) : S1024x64.Idx → EReal :=
  Host.divf (F := Ideal) (φ := .f32) y (broadcastInDim S1024x64 ![0, 1] bcast_S1024x1_S1024x64_0_1 (Host.sqrt (F := Ideal) (φ := .f32) (broadcastInDim S1024x1 ![0] bcast_S1024_S1024x1_0
    (Host.reduceAdd (F := Ideal) (φ := .f32) (mulf (F := Ideal) (φ := .f32) y y) (constant (F := Ideal) S_ .f32 0x00000000#32) reducesTo_S1024x64_S1024_d1 h_S_))))

/-- The index with its padding. -/
def padded (f : S100000x64.Idx → EReal) : S100352x64.Idx → EReal :=
  Host.scatter scatter_S100352x64_S1_S100000x64_01_n_0_0 (fun _ b => b) (broadcastInDim S100352x64 ![] bcast_S_S100352x64 (constant (F := Ideal) S_ .f32 0x00000000#32))
    (broadcastInDim S1 ![] bcast_S_S1 (constantI S_ 32 0#32)) f

abbrev r' (b : Ref sig .tc) : DevRef τ sig := Proc.devRef .tc b

theorem after_v2 (V : Valuation τ sig (Elt Ideal)) : StableHlo.after ops V (r' main_v2) = unit (V (r' main_arg0)) := rfl

theorem op11_v5 (V : Valuation τ sig (Elt Ideal)) :
    (op11 (F := Ideal)).result V (r' main_v5) = Host.scatter scatter_S100352x64_S1_S100000x64_01_n_0_0 (fun _ b => b) (V (r' main_v3)) (V (r' main_v4)) (V (r' main_arg1)) :=
  StableHlo.ternary_result _ _ _ _ _ _ _ _ _ V

theorem after_v5 (V : Valuation τ sig (Elt Ideal)) : StableHlo.after ops V (r' main_v5) = padded (V (r' main_arg1)) := by
  show (op11 (F := Ideal)).result (StableHlo.after [op0, op1, op2, op3, op4, op5, op6, op7, op8, op9, op10] V) (r' main_v5) = _
  unfold padded
  rw [op11_v5]
  refine congr (congr (congrArg _ ?_) ?_) ?_
  · rfl
  · rfl
  · rfl
theorem after_arg0 (V : Valuation τ sig (Elt Ideal)) : StableHlo.after ops V (r' main_arg0) = V (r' main_arg0) := rfl
theorem after_arg1 (V : Valuation τ sig (Elt Ideal)) : StableHlo.after ops V (r' main_arg1) = V (r' main_arg1) := rfl
theorem after_arg2 (V : Valuation τ sig (Elt Ideal)) : StableHlo.after ops V (r' main_arg2) = V (r' main_arg2) := rfl

abbrev SA : Finset (DevRef τ sig) := Pipeline.ucRefs τ sig

end Cert.Proof.Host

end
-- ==== Proof.WLaunch.lean ====
module

public import proofs.«01_k».proof.Proof.Host

/-!
# The launch of the whole program

@main runs its host operations, the TensorCore call (`Region.reg`, which leaves `best` of the similarities), the label
scatter on the two SparseCores' thirty-two tiles, and the slice. A tile takes read shares of the indices and the labels
and thirty-two rows of the padded result, and brings them back with the rows written. The run's result is
`sliced (oneHot …)` of the ten best columns and the labels (`run_main`).
-/

@[expose] public section

noncomputable section

namespace Cert.Proof.Whole

open Cert.KernelIdeal Cert.KernelIdeal.Gen
open Idealize.ShloMosaic hiding ix1 ix2 ix3 eq_ix1 eq_ix2 eq_ix3
open Idealize.ShloMosaic.ValueIdx
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Idealize.ShloMosaic.StableHlo (held held_split held_sdiff_result wp_hlo_within)
open Idealize.ShloMosaic.Tactic
open Cert.Proof.Sims Cert.Proof.Region Cert.Proof.Host
open Cert.Proof.Topk hiding held

local notation "𝕄" => MT nD τ sig (HIx 1) (Elt Ideal) ℕ UU ℕ

/-! ## The TensorCore call -/

/-- The pipeline's rounds, between the handshakes' and the counters. -/
def EP : Emb UP 𝕄 := (Emb.inl : Emb UP (UP × Counters)).trans embR

instance EP_landsIn : EP.LandsIn (upEmb : UEmb _ 𝕄) := by unfold EP embR; infer_instance

theorem phinj : Function.Injective (Pipeline.cellOf (nD := nD) (τ := τ) (Pipeline.pin (pcfgs (F := Ideal)) adm)) := cellOf_inj (F := Ideal)

/-- What the call is dealt at the launch. -/
abbrev ghost (d : Dev nD) : sProp 𝕄 :=
  iprop(Pipeline.cellsGhost (Pipeline.pin (pcfgs (F := Ideal)) adm) EP 0 d ∗ Pipeline.toksInit (Pipeline.pin (pcfgs (F := Ideal)) adm) EP 0 d)

theorem region (q : S1024x64.Idx → EReal) (f : S100000x64.Idx → EReal) (pf : S100352x64.Idx → EReal) (g : S1024x16.Idx → BitVec 32)
    (hpf : Padded f pf) (hs : ∀ r j, j < 100000 → sims q f r j ≠ ⊥) (d : Dev nD) (Φ : PUnit → sProp 𝕄) :
    iprop((boundary (T d) ∗ ((at_ d main_v2 q ∗ at_ d main_v5 pf ∗ at_ d main_v6 g) ∗ owe d) ∗ levAts (K (F := Ideal)).L (K (F := Ideal)).lev ∗ ghost d)
        ∗ (iprop(boundary (T d) ∗ (at_ d main_v2 q ∗ at_ d main_v5 pf ∗ at_ d main_v6 (best (sims q f))) ∗ owe d) -∗ Φ ⟨⟩))
      ⊢ wp frame (wpE ((K (F := Ideal)).defs (D (F := Ideal))) 𝒱 (T d) none) Set.univ (Prog.lift (.customCall (SparseCore.inner (Pipeline.entry 0)) ())) Φ := by
  refine BIBase.Entails.trans ?_ ((K (F := Ideal)).wp_liftProg (D (F := Ideal)) 𝒱 (T d) Set.univ none (.op (.customCall (Pipeline.entry (0 : Fin 1)) ()) .ret) Φ)
  refine BIBase.Entails.trans ?_ (RDat.RegionSeg.wp (pcfgs (F := Ideal)) adm (rdats q f pf g) none phinj EP (defs₀ (F := Ideal)) 𝒱₀ _ _ (reg q f pf g hpf hs) d none
    (fun _ h => nomatch h) .ret Φ)
  rw [show (reg q f pf g hpf hs).pre d = iprop((at_ d main_v2 q ∗ at_ d main_v5 pf ∗ at_ d main_v6 g) ∗ owe d) from rfl,
    show (reg q f pf g hpf hs).post d = iprop((at_ d main_v2 q ∗ at_ d main_v5 pf ∗ at_ d main_v6 (best (sims q f))) ∗ owe d) from rfl]
  iintro ⟨⟨Hb, Hpre, Hl, Hg, Ht⟩, Hk⟩
  isplitl [Hk]
  · iintro ⟨Hb, Hp⟩
    rw [wp_ret]; imodintro
    iapply Hk
    isplitl [Hb]; · iexact Hb
    iexact Hp
  isplitl [Hb]; · iexact Hb
  isplitl [Hpre]; · iexact Hpre
  isplitl [Hl]; · iexact Hl
  isplitl [Hg]; · iexact Hg
  iexact Ht

theorem facts : (K (F := Ideal)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt Ideal) ℓ) (ρ : Dev nD → PrngReg)

/-- The launch memory's queries, index and labels. -/
abbrev qLoc (d : Dev nD) : Loc nD τ sig := (SparseCore.T d).loc main_arg0
abbrev fLoc (d : Dev nD) : Loc nD τ sig := (SparseCore.T d).loc main_arg1
abbrev qvOf (d : Dev nD) : S1024x64.Idx → EReal := m (qLoc d)
abbrev fvOf (d : Dev nD) : S100000x64.Idx → EReal := m (fLoc d)
abbrev yvOf (d : Dev nD) : S100000.Idx → BitVec 32 := m (yLoc d)

/-- The similarities, and the indices the TensorCore call leaves. -/
abbrev simOf (d : Dev nD) : Fin 1024 → ℕ → EReal := sims (Host.unit (qvOf m d)) (fvOf m d)
abbrev ixOf (d : Dev nD) : S1024x16.Idx → BitVec 32 := best (simOf m d)

/-! ## What the handshakes carry -/

abbrev tileIn (d : Dev nD) (w : Nat) : sProp 𝕄 := iprop(iPts (F := Ideal) (ixOf m d) d w ∗ yPts (F := Ideal) (yvOf m d) d w ∗ ∃ f, oPts (F := Ideal) d w f)
abbrev tileOut (d : Dev nD) (w : Nat) : sProp 𝕄 := iprop(iPts (F := Ideal) (ixOf m d) d w ∗ yPts (F := Ideal) (yvOf m d) d w ∗ oPts (F := Ideal) d w (oneHot (F := Ideal) (ixOf m d) (yvOf m d)))

/-- Tile `i` of SparseCore `c` is number `2 * i + c`; a SparseCore is handed what its tiles are. -/
def P : (K (F := Ideal)).Pay (nD := nD) (Val := Elt Ideal) (Name := ℕ) (U := UU) where
  st := fun q d c => match q with | 0 => bigSep (Finset.univ : Finset (Fin 16)) fun i => tileIn m d (2 * i.val + c.val)
  dn := fun q d c => match q with | 0 => bigSep (Finset.univ : Finset (Fin 16)) fun i => tileOut m d (2 * i.val + c.val)
  go := fun q d c i => match q with | 0 => tileIn m d (2 * i.val + c.val)
  td := fun q d c i => match q with | 0 => tileOut m d (2 * i.val + c.val)
  x := fun _ _ => iprop(emp)

instance P_storable : (P m).IsStorable where
  st q d c := match q with
    | 0 => (inferInstance : BI.Storable (upEmb : UEmb _ 𝕄) (bigSep (Finset.univ : Finset (Fin 16)) fun i => tileIn m d (2 * i.val + c.val)))
  dn q d c := match q with
    | 0 => (inferInstance : BI.Storable (upEmb : UEmb _ 𝕄) (bigSep (Finset.univ : Finset (Fin 16)) fun i => tileOut m d (2 * i.val + c.val)))
  go q d c i := match q with
    | 0 => (inferInstance : BI.Storable (upEmb : UEmb _ 𝕄) (tileIn m d (2 * i.val + c.val)))
  td q d c i := match q with
    | 0 => (inferInstance : BI.Storable (upEmb : UEmb _ 𝕄) (tileOut m d (2 * i.val + c.val)))

/-! ## The tiles' obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := Ideal) (.scVector c s) 1 ()
      = SparseCore.onTile hcore1 hsub1 (fun c s => cc1_scatter_kernel (coordsV c s)
          (Memref.whole main_v6_scv) (Memref.isWhole_whole _) (Memref.whole main_arg2_scv) (Memref.isWhole_whole _)
          (Memref.whole main_v7_scv) (Memref.isWhole_whole _) (Memref.whole cc1_scratch0) (Memref.isWhole_whole _)
          (Memref.whole cc1_scratch1) (Memref.isWhole_whole _) (Memref.whole cc1_scratch2) (Memref.isWhole_whole _)
          cc1_scoped0 cc1_scoped1 cc1_scoped2) ⟨⟩ c s := rfl

theorem tileObl (hF : (K (F := Ideal)).Facts) (hr : ∀ d, InRange (ixOf m d) (yvOf m d)) :
    (K (F := Ideal)).TileObl (D (F := Ideal)) 𝒱 (P m) v₀ 0 := by
  intro d c i O W hO _ _
  simp only [show (P m).ox = fun _ _ => 0 from rfl, add_zero]
  have hci : ((K (F := Ideal)).core 0 c).val < grid1.bound 0 ∧ ((K (F := Ideal)).sub 0 i).val < grid1.bound 1 := ⟨c.isLt, i.isLt⟩
  change _ ⊢ wp _ _ _ (Pipeline.liftProg (defs₀ (F := Ideal) (.scVector ((K (F := Ideal)).core 0 c) ((K (F := Ideal)).sub 0 i)) 1 ())) _
  refine BI.Entails.trans ?_ (Pipeline.wp_liftProg (D (F := Ideal)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (ixOf m d) (yvOf m d) hF (hr d) O W hO

/-- A SparseCore's operands are its tiles'. -/
theorem vecSplit : (K (F := Ideal)).VecSplit' (P m) 0 := by
  intro d c
  show (bigSep (Finset.univ : Finset (Fin 16)) fun i => tileIn m d (2 * i.val + c.val)) ⊢ |={Set.univ}=> iprop(
      (bigSep (Finset.univ : Finset (Fin 16)) fun i => tileIn m d (2 * i.val + c.val))
      ∗ ((bigSep (Finset.univ : Finset (Fin 16)) fun i => tileOut m d (2 * i.val + c.val))
          -∗ (bigSep (Finset.univ : Finset (Fin 16)) fun i => tileOut m d (2 * i.val + c.val))))
  iintro H; imodintro
  isplitl [H]; · iexact H
  iintro H; iexact H

/-! ## The launch element: the handshakes' rounds, nothing of the kernel's own -/

def u₀ : UU := (initOf (K (F := Ideal)).hsCells (K (F := Ideal)).hsToks,
  (initOf (Pipeline.cells (Pipeline.pin (pcfgs (F := Ideal)) adm) phinj) (Pipeline.launchToks (Pipeline.pin (pcfgs (F := Ideal)) adm) phinj), 1))

theorem bigSep_emps {I : Type} (s : Finset I) : (bigSep s fun _ => iprop(emp)) = (iprop(emp) : sProp 𝕄) := bigSep_emp_const s

theorem hu₀ : (ownU u₀ : sProp 𝕄)
    ⊢ |={Set.univ}=> iprop(BI.own (EH (initOf (K (F := Ideal)).hsCells (K (F := Ideal)).hsToks)) ∗ (bigSep Finset.univ ghost)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR := (own_pair_emb embR _ _) $$ HR
  icases HR with ⟨HE, -⟩
  ihave HE := (Entails.of_eq (show BI.own (((Emb.inl : Emb UP (UP × Counters)).trans embR)
      (initOf (Pipeline.cells (Pipeline.pin (pcfgs (F := Ideal)) adm) phinj) (Pipeline.launchToks (Pipeline.pin (pcfgs (F := Ideal)) adm) phinj)))
    = BI.own (EP (initOf (Pipeline.cells (Pipeline.pin (pcfgs (F := Ideal)) adm) phinj) (Pipeline.launchToks (Pipeline.pin (pcfgs (F := Ideal)) adm) phinj))) from rfl)) $$ HE
  ihave HE := (Pipeline.fund_ghost (Pipeline.pin (pcfgs (F := Ideal)) adm) EP phinj) $$ HE
  imod HE with ⟨Hg, Ht⟩
  imodintro
  isplitl [HH]; · iexact HH
  isplitl [Hg Ht]
  · unfold ghost
    rw [bigSep_sep']
    simp only [show (Finset.univ : Finset (Fin 1)) = {0} from rfl, bigSep_singleton]
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emps _, bigSep_emps]]
  iempintro

/-! ## The operands split among the thirty-two tiles, and joined -/

/-- The tiles of the two SparseCores, numbered. -/
theorem bigSep_tiles (Φ : Nat → sProp 𝕄) :
    (bigSep (Finset.univ : Finset (Fin 2)) fun c => bigSep (Finset.univ : Finset (Fin 16)) fun i => Φ (2 * i.val + c.val))
      = bigSep (Finset.univ : Finset (Fin 32)) fun w => Φ w.val := by
  rw [bigSep_univ_comm, bigSep_univ_equiv (finProdFinEquiv : Fin 16 × Fin 2 ≃ Fin (16 * 2)) (fun w : Fin 32 => Φ w.val), bigSep_univ_prod]
  refine bigSep_congr fun i _ => bigSep_congr fun c _ => congrArg Φ ?_
  show 2 * i.val + c.val = c.val + 2 * i.val
  omega

theorem st0_eq (d : Dev nD) : (bigSep Finset.univ fun c : Fin ((K (F := Ideal)).nCore 0) => (P m).st 0 d c) = bigSep (Finset.univ : Finset (Fin 32)) fun w => tileIn m d w.val :=
  bigSep_tiles (fun w => tileIn m d w)
theorem dn0_eq (d : Dev nD) : (bigSep Finset.univ fun c : Fin ((K (F := Ideal)).nCore 0) => (P m).dn 0 d c) = bigSep (Finset.univ : Finset (Fin 32)) fun w => tileOut m d w.val :=
  bigSep_tiles (fun w => tileOut m d w)

theorem blk_disjoint : ∀ i ∈ (Finset.univ : Finset (Fin 32)), ∀ j ∈ (Finset.univ : Finset (Fin 32)), i ≠ j → Disjoint (blk i.val) (blk j.val) := by
  intro i _ j _ h
  refine Finset.disjoint_left.mpr fun x hi hj => h (Fin.ext ?_)
  rw [← mem_blk.mp hi, ← mem_blk.mp hj]
theorem blk_cover : (Finset.univ : Finset (Fin 32)).biUnion (fun w => blk w.val) = Finset.univ := by
  refine Finset.eq_univ_iff_forall.mpr fun x => Finset.mem_biUnion.mpr ?_
  have h : (x 0).val < 1024 := (x 0).isLt
  exact ⟨⟨(x 0).val / 32, by omega⟩, Finset.mem_univ _, mem_blk.mpr rfl⟩

theorem oPts_tiles (d : Dev nD) (f : S1024x1024.Idx → EReal) :
    (oLoc d ↦{fullShare} f : sProp 𝕄) = bigSep (Finset.univ : Finset (Fin 32)) fun w => oPts (F := Ideal) d w.val f := by
  unfold oPts
  rw [← pointsTo_biUnion Finset.univ (ℓ := oLoc d) (fun w : Fin 32 => blk w.val) blk_disjoint, blk_cover]

/-- What stays with @main while the tiles read: the rest of the arguments' shares. -/
abbrev kept (d : Dev nD) : sProp 𝕄 :=
  iprop((iLoc d ↦{Transfers.shareDrop fullShare 32} ixOf m d) ∗ (yLoc d ↦{Transfers.shareDrop fullShare 32} yvOf m d))

theorem deal (d : Dev nD) (f : S1024x1024.Idx → EReal) :
    iprop((iLoc d ↦{fullShare} ixOf m d) ∗ (yLoc d ↦{fullShare} yvOf m d) ∗ (oLoc d ↦{fullShare} f))
      ⊢ (iprop(kept m d ∗ bigSep (Finset.univ : Finset (Fin 32)) fun w => tileIn m d w.val) : sProp 𝕄) := by
  iintro ⟨Hi, Hy, Ho⟩
  ihave Hi' := (Transfers.pointsTo_toks_split fullShare 32) $$ Hi
  ihave Hy' := (Transfers.pointsTo_toks_split fullShare 32) $$ Hy
  icases Hi' with ⟨Hi0, Hi⟩
  icases Hy' with ⟨Hy0, Hy⟩
  isplitl [Hi0 Hy0]
  · isplitl [Hi0] <;> iassumption
  rw [bigSep_sep', bigSep_sep']
  isplitl [Hi]; · iexact Hi
  isplitl [Hy]; · iexact Hy
  ihave Ho' := (Entails.of_eq (oPts_tiles d f)) $$ Ho
  have hex : (bigSep (Finset.univ : Finset (Fin 32)) fun w => oPts (F := Ideal) d w.val f : sProp 𝕄)
      ⊢ bigSep (Finset.univ : Finset (Fin 32)) fun w => iprop(∃ f, oPts (F := Ideal) d w.val f) :=
    bigSep_mono fun w _ => exists_intro (Φ := fun f : S1024x1024.Idx → EReal => oPts (F := Ideal) d w.val f) f
  iapply hex
  iexact Ho'

theorem gather (d : Dev nD) :
    (iprop(kept m d ∗ bigSep (Finset.univ : Finset (Fin 32)) fun w => tileOut m d w.val) : sProp 𝕄)
      ⊢ iprop((iLoc d ↦{fullShare} ixOf m d) ∗ (yLoc d ↦{fullShare} yvOf m d) ∗ (oLoc d ↦{fullShare} oneHot (F := Ideal) (ixOf m d) (yvOf m d))) := by
  rw [bigSep_sep', bigSep_sep']
  iintro ⟨⟨Hi0, Hy0⟩, Hi, Hy, Ho⟩
  isplitl [Hi0 Hi]
  · iapply (Transfers.pointsTo_toks_join fullShare 32)
    isplitl [Hi0] <;> iassumption
  isplitl [Hy0 Hy]
  · iapply (Transfers.pointsTo_toks_join fullShare 32)
    isplitl [Hy0] <;> iassumption
  iapply (Entails.of_eq (oPts_tiles d (oneHot (F := Ideal) (ixOf m d) (yvOf m d))).symm)
  iexact Ho

/-! ## @main -/

abbrev o' : DevRef τ sig := Proc.devRef .tc (main_v7 : Ref sig .tc)
abbrev v8' : DevRef τ sig := Proc.devRef .tc (main_v8 : Ref sig .tc)
abbrev rLoc (d : Dev nD) : Loc nD τ sig := (SparseCore.T d).loc main_v8

/-- The thousand columns kept of the padded result. -/
def sliced (f : S1024x1024.Idx → EReal) : S1024x1000.Idx → EReal := extractStridedSlice S1024x1000 ![0, 0] f slices_S1024x1024_S1024x1000_0_0

abbrev opSlice : HloOp τ sig (Elt Ideal) :=
  StableHlo.unary main_v7 main_v8 ((extractStridedSlice S1024x1000 ![0, 0] · slices_S1024x1024_S1024x1000_0_0) : (⟨S1024x1024, .f32⟩ : BufTy).Contents (Elt Ideal) → (⟨S1024x1000, .f32⟩ : BufTy).Contents (Elt Ideal))

abbrev S2 : Finset (DevRef τ sig) := {o', v8'}

theorem held_S2 (d : Dev nD) (W : Valuation τ sig (Elt Ideal)) :
    (held (T d) S2 W : sProp 𝕄) = iprop((oLoc d ↦{fullShare} W o') ∗ rLoc d ↦{fullShare} W v8') := by
  unfold held S2
  rw [SparseCore.bigSep_insert' (by decide), bigSep_singleton]

/-- The buffers no scope holds, one by one. -/
theorem held_eq (d : Dev nD) (W : Valuation τ sig (Elt Ideal)) :
    (held (T d) (Pipeline.ucRefs τ sig) W : sProp 𝕄) = iprop(at_ d main_arg0 (W (r' main_arg0)) ∗ at_ d main_arg1 (W (r' main_arg1)) ∗ at_ d main_arg2 (W (r' main_arg2))
      ∗ at_ d main_v2 (W (r' main_v2)) ∗ at_ d main_v5 (W (r' main_v5)) ∗ at_ d main_v6 (W (r' main_v6)) ∗ at_ d main_v7 (W (r' main_v7)) ∗ at_ d main_v8 (W (r' main_v8))
      ∗ bigSep ({main_call0_v0, main_call0_cst, main_call0_v1, main_call0_v2, main_v0, main_v1, main_cst, main_v3, main_c, main_v4} : Finset (Ref sig .tc)) fun b => at_ d b (W (r' b))) := by
  rw [← Pipeline.unscopedBufs_held]
  unfold unscopedBufs
  rw [show (Finset.univ.filter fun b : Ref sig .tc => ¬ b.isScoped) = {main_arg0, main_arg1, main_arg2, main_v2, main_v5, main_v6, main_v7, main_v8,
      main_call0_v0, main_call0_cst, main_call0_v1, main_call0_v2, main_v0, main_v1, main_cst, main_v3, main_c, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide)]

/-- The valuation the slice reads: the padded result as the tiles left it. -/
def V1 (d : Dev nD) : Valuation τ sig (Elt Ideal) := Function.update (StableHlo.after Host.ops fun b => m (d, b)) o' (oneHot (F := Ideal) (ixOf m d) (yvOf m d))

theorem V1_o (d : Dev nD) : V1 m d o' = oneHot (F := Ideal) (ixOf m d) (yvOf m d) := Function.update_self _ _ _
theorem V1_r (d : Dev nD) : V1 m d v8' = StableHlo.after Host.ops (fun b => m (d, b)) v8' := Function.update_of_ne (show v8' ≠ o' by decide) _ _

theorem hSlice : (opSlice).bufs ⊆ S2 := show ({o', v8'} : Finset (DevRef τ sig)) ⊆ S2 by decide

theorem result_r (d : Dev nD) : (opSlice).result (V1 m d) v8' = sliced (oneHot (F := Ideal) (ixOf m d) (yvOf m d)) := by
  rw [← V1_o m d]
  rfl

/-- What @main leaves: the arguments as they were, the result. -/
abbrev FIN (d : Dev nD) : sProp 𝕄 :=
  iprop((qLoc d ↦{fullShare} qvOf m d) ∗ (fLoc d ↦{fullShare} fvOf m d) ∗ (yLoc d ↦{fullShare} yvOf m d) ∗ (rLoc d ↦{fullShare} sliced (oneHot (F := Ideal) (ixOf m d) (yvOf m d))))

/-- The SparseCore call and the slice. -/
theorem labels (κ : GSem nD τ sig → ℕ) (d : Dev nD) (o : S1024x1024.Idx → EReal) (Φ : PUnit → sProp 𝕄) :
    iprop(((K (F := Ideal)).ctx EH (P m) κ ∗ (K (F := Ideal)).tcSt EH d 0 ∗ boundary (T d) ∗ (iLoc d ↦{fullShare} ixOf m d) ∗ (yLoc d ↦{fullShare} yvOf m d) ∗ (oLoc d ↦{fullShare} o)
          ∗ (rLoc d ↦{fullShare} StableHlo.after Host.ops (fun b => m (d, b)) v8'))
        ∗ (iprop((K (F := Ideal)).tcSt EH d 1 ∗ boundary (T d) ∗ (yLoc d ↦{fullShare} yvOf m d) ∗ (rLoc d ↦{fullShare} sliced (oneHot (F := Ideal) (ixOf m d) (yvOf m d)))) -∗ Φ ⟨⟩))
      ⊢ wp frame (wpE ((K (F := Ideal)).defs (D (F := Ideal))) 𝒱 (SparseCore.T d) none) Set.univ
          ((K (F := Ideal)).run d 0 >>= fun _ => hlo rfl (opSlice) (fun _ => .ret ⟨⟩)) Φ := by
  simp only [wp_bind]
  iintro ⟨⟨#Hctx, Hst, Hb, Hi, Hy, Ho, Hr⟩, HΦ⟩
  ihave Hd := (deal m d o) $$ [Hi Hy Ho]
  · isplitl [Hi]; · iexact Hi
    isplitl [Hy] <;> iassumption
  icases Hd with ⟨Hk, Hin⟩
  iapply ((K (F := Ideal)).wp_run (D (F := Ideal)) 𝒱 (EH := EH) (P := P m) κ d 0) $$ [Hst Hin Hk Hr Hb HΦ]
  isplitr; · iexact Hctx
  isplitl [Hst]; · iexact Hst
  isplitl [Hin]
  · rw [st0_eq]; iexact Hin
  iintro ⟨Hst, Hdn⟩
  ihave Hdn' := (Entails.of_eq (dn0_eq m d)) $$ Hdn
  ihave Hg := (gather m d) $$ [Hk Hdn']
  · isplitl [Hk] <;> iassumption
  icases Hg with ⟨-, Hy, Ho⟩
  iapply (wp_hlo_within 𝒱 (SparseCore.T d) none Set.univ (op := opSlice) (S := S2) hSlice (V := V1 m d)) $$ [Hb Ho Hr]
  · isplitl [Hb]; · iexact Hb
    rw [held_S2, V1_o, V1_r]
    isplitl [Ho] <;> iassumption
  iintro ⟨Hb, Hheld⟩
  ihave Hh := (Entails.of_eq (held_S2 d _)) $$ Hheld
  icases Hh with ⟨-, Hr⟩
  rw [wp_ret]; imodintro
  iapply HΦ
  isplitl [Hst]; · iexact Hst
  isplitl [Hb]; · iexact Hb
  isplitl [Hy]; · iexact Hy
  iapply (Entails.of_eq (congrArg (fun g => (rLoc d ↦{fullShare} g : sProp 𝕄)) (result_r m d)))
  iexact Hr

/-- The host operations before the calls. -/
theorem host (d : Dev nD) (Φ : PUnit → sProp 𝕄) :
    iprop((boundary (T d) ∗ held (T d) (Pipeline.ucRefs τ sig) (fun b => m (d, b)))
        ∗ (iprop(boundary (T d) ∗ held (T d) (Pipeline.ucRefs τ sig) (StableHlo.after Host.ops fun b => m (d, b)))
            -∗ wp frame (wpE ((K (F := Ideal)).defs (D (F := Ideal))) 𝒱 (SparseCore.T d) none) Set.univ (Host.rest d) Φ))
      ⊢ wp frame (wpE ((K (F := Ideal)).defs (D (F := Ideal))) 𝒱 (SparseCore.T d) none) Set.univ (main d) Φ := by
  rw [Host.main_eq]
  exact BI.wand_elim (StableHlo.wp_seq (E := Set.univ) (bd := none) (𝒱 := 𝒱) d (Pipeline.ucRefs τ sig) (fun _ => Host.rest d) (Host.ops (F := Ideal)) Host.ops_sub Host.ops_fresh (fun b => m (d, b)))

/-- The buffers after them. -/
theorem host_bufs (d : Dev nD) :
    (held (T d) (Pipeline.ucRefs τ sig) (StableHlo.after Host.ops fun b => m (d, b)) : sProp 𝕄)
      ⊢ iprop((qLoc d ↦{fullShare} qvOf m d) ∗ (fLoc d ↦{fullShare} fvOf m d) ∗ (yLoc d ↦{fullShare} yvOf m d)
        ∗ at_ d main_v2 (Host.unit (qvOf m d)) ∗ at_ d main_v5 (Host.padded (fvOf m d)) ∗ (∃ g, at_ d main_v6 g) ∗ (∃ o, oLoc d ↦{fullShare} o)
        ∗ (rLoc d ↦{fullShare} StableHlo.after Host.ops (fun b => m (d, b)) v8')) := by
  rw [held_eq]
  generalize hW : StableHlo.after Host.ops (fun b => m (d, b)) = W
  have h2 : W (Host.r' main_v2) = Host.unit (qvOf m d) := by rw [← hW, Host.after_v2]
  have h5 : W (Host.r' main_v5) = Host.padded (fvOf m d) := by rw [← hW, Host.after_v5]
  have a0 : W (Host.r' main_arg0) = qvOf m d := by rw [← hW, Host.after_arg0]
  have a1 : W (Host.r' main_arg1) = fvOf m d := by rw [← hW, Host.after_arg1]
  have a2 : W (Host.r' main_arg2) = yvOf m d := by rw [← hW, Host.after_arg2]
  rw [h2, h5, a0, a1, a2]
  iintro ⟨H0, H1, H2, Hv2, Hv5, Hv6, Hv7, Hv8, -⟩
  isplitl [H0]; · iexact H0
  isplitl [H1]; · iexact H1
  isplitl [H2]; · iexact H2
  isplitl [Hv2]; · iexact Hv2
  isplitl [Hv5]; · iexact Hv5
  isplitl [Hv6]; · iexists _; iexact Hv6
  isplitl [Hv7]; · iexists _; iexact Hv7
  iexact Hv8

theorem start_bufs (d : Dev nD) :
    (unscopedBufs d (fun b => m ((SparseCore.T d : Thread nD τ).loc b)) : sProp 𝕄) = held (T d) (Pipeline.ucRefs τ sig) (fun b => m (d, b)) := by
  have h := Pipeline.unscopedBufs_held (Ix := HIx 1) (Name := ℕ) (U := UU) (Lvl := ℕ) d (fun b : DevRef τ sig => m (d, b))
  exact h

/-- The start's debts out of the TensorCore's state, and back. -/
theorem owe_split (d : Dev nD) : (K (F := Ideal)).tcSt (EH (F := Ideal)) d 0 ⊢ iprop(owe d ∗ (owe d -∗ (K (F := Ideal)).tcSt (EH (F := Ideal)) d 0)) := by
  unfold SparseCore.Cfg.tcSt owe
  rw [show 8 * SparseCore.Cfg.Blocks.fst 1 1 0 = 0 from rfl]
  iintro ⟨HO, H⟩
  isplitl [HO]; · iexact HO
  iintro HO
  isplitl [HO]; · iexact HO
  iexact H

theorem hmain (hpf : ∀ d, Padded (fvOf m d) (Host.padded (fvOf m d))) (hs : ∀ d r j, j < 100000 → simOf m d r j ≠ ⊥) (κ : GSem nD τ sig → ℕ) (d : Dev nD) :
    iprop((K (F := Ideal)).ctx EH (P m) κ ∗ (K (F := Ideal)).tcSt EH d 0 ∗ (K (F := Ideal)).tcRes m ρ d ∗ ghost d)
      ⊢ wp frame (wpE ((K (F := Ideal)).defs (D (F := Ideal))) 𝒱 (SparseCore.T d) none) Set.univ (main d)
          fun _ => iprop((K (F := Ideal)).tcSt EH d 1 ∗ FIN m d ∗ (K (F := Ideal)).tcEnd d) := by
  refine BIBase.Entails.trans ?_ (host m d _)
  unfold SparseCore.Cfg.tcRes SparseCore.Cfg.tcEnd
  rw [start_bufs]
  iintro ⟨#Hctx, Hst, ⟨Hb, Hbufs, Hts, -⟩, Hgh⟩
  isplitl [Hb Hbufs]
  · isplitl [Hb] <;> iassumption
  iintro ⟨Hb, Hbufs⟩
  ihave Hbufs := (host_bufs m d) $$ Hbufs
  icases Hbufs with ⟨H0, H1, H2, Hv2, Hv5, ⟨%g, Hv6⟩, ⟨%o, Hv7⟩, Hv8⟩
  ihave Hs := (owe_split d) $$ Hst
  icases Hs with ⟨Howe, Hst⟩
  ihave Hlev := (SparseCore.Cfg.ctx_levAts κ) $$ Hctx
  unfold Host.rest
  rw [wp_bind]
  iapply (region (Host.unit (qvOf m d)) (fvOf m d) (Host.padded (fvOf m d)) g (hpf d) (hs d) d)
  isplitl [Hb Hv2 Hv5 Hv6 Howe Hlev Hgh]
  · isplitl [Hb]; · iexact Hb
    isplitl [Hv2 Hv5 Hv6 Howe]
    · isplitr [Howe]
      · isplitl [Hv2]; · iexact Hv2
        isplitl [Hv5] <;> iassumption
      iexact Howe
    isplitl [Hlev]; · iexact Hlev
    iexact Hgh
  iintro ⟨Hb, ⟨-, -, Hv6⟩, Howe⟩
  ihave Hst := Hst $$ Howe
  iapply (labels m κ d o)
  isplitr [H0 H1 Hts]
  · isplitr; · iexact Hctx
    isplitl [Hst]; · iexact Hst
    isplitl [Hb]; · iexact Hb
    isplitl [Hv6]; · iexact Hv6
    isplitl [H2]; · iexact H2
    isplitl [Hv7] <;> iassumption
  iintro ⟨Hst, Hb, H2, Hr⟩
  isplitl [Hst]; · iexact Hst
  isplitr [Hb Hts]
  · isplitl [H0]; · iexact H0
    isplitl [H1]; · iexact H1
    isplitl [H2] <;> iassumption
  isplitl [Hb] <;> iassumption

/-- What a final state shows of @main's leavings. -/
def fq (d : Dev nD) (s' : Phys nD τ sig (Elt Ideal)) : Prop :=
  s'.mem.mem (qLoc d) = qvOf m d ∧ s'.mem.mem (fLoc d) = fvOf m d ∧ s'.mem.mem (yLoc d) = yvOf m d
    ∧ s'.mem.mem (rLoc d) = sliced (oneHot (F := Ideal) (ixOf m d) (yvOf m d))

theorem hfin (d : Dev nD) (s' : Phys nD τ sig (Elt Ideal)) : iprop(FIN m d ∗ SI s') ⊢ (⌜fq m d s'⌝ : sProp 𝕄) := by
  iintro ⟨⟨Hq, Hf, Hy, Hr⟩, HSI⟩
  ihave H := (persistent_entails_right (SI_pointsTo_agree (st := s') (ℓ := qLoc d) (I := Finset.univ) (q := fullShare) (f := qvOf m d))) $$ [HSI Hq]
  · isplitl [HSI] <;> iassumption
  icases H with ⟨%h0, HSI, -⟩
  ihave H := (persistent_entails_right (SI_pointsTo_agree (st := s') (ℓ := fLoc d) (I := Finset.univ) (q := fullShare) (f := fvOf m d))) $$ [HSI Hf]
  · isplitl [HSI] <;> iassumption
  icases H with ⟨%h1, HSI, -⟩
  ihave H := (persistent_entails_right (SI_pointsTo_agree (st := s') (ℓ := yLoc d) (I := Finset.univ) (q := fullShare) (f := yvOf m d))) $$ [HSI Hy]
  · isplitl [HSI] <;> iassumption
  icases H with ⟨%h2, HSI, -⟩
  ihave H := (SI_pointsTo_agree (st := s') (ℓ := rLoc d) (I := Finset.univ) (q := fullShare) (f := sliced (oneHot (F := Ideal) (ixOf m d) (yvOf m d)))) $$ [HSI Hr]
  · isplitl [HSI] <;> iassumption
  icases H with %h3
  ipureintro
  exact ⟨funext fun i => h0 i (Finset.mem_univ i), funext fun i => h1 i (Finset.mem_univ i), funext fun i => h2 i (Finset.mem_univ i), funext fun i => h3 i (Finset.mem_univ i)⟩

/-! ## The program's run -/

/-- What the run ends with, on every device: the arguments unchanged, the one-hot result; every counter at zero. -/
def QC : PUnit × MemSt nD τ sig (Elt Ideal) → Prop := fun r =>
  (∀ c : Dev nD, r.2.mem (qLoc c) = qvOf m c ∧ r.2.mem (fLoc c) = fvOf m c ∧ r.2.mem (yLoc c) = yvOf m c
      ∧ r.2.mem (rLoc c) = sliced (oneHot (F := Ideal) (ixOf m c) (yvOf m c)))
    ∧ r.2.sem = fun _ => 0

theorem run_main (hr : ∀ d, InRange (ixOf m d) (yvOf m d)) (hpf : ∀ d, Padded (fvOf m d) (Host.padded (fvOf m d)))
    (hs : ∀ d r j, j < 100000 → simOf m d r j ≠ ⊥) :
    θ_run (Cert.KernelIdeal.defs (F := Ideal)) (Cert.KernelIdeal.threads (F := Ideal)) ⟨m, fun _ => 0, ρ⟩ (QC m) :=
  SparseCore.Cfg.θ_run_sc_quiescent (K := K (F := Ideal)) (D := D (F := Ideal)) (𝒱 := 𝒱) (EH := EH) (P := P m) (A := ∅) facts v₀
    (fun q hq => match q with | 0 => nomatch hq)
    (fun q _ => match q with | 0 => tileObl m facts hr)
    (fun q _ => match q with | 0 => SparseCore.Cfg.VecSplit.of_plain (vecSplit m))
    m ρ main ghost (FIN m) u₀ (sep_elim_left.trans (hu₀ m)) (hmain m ρ hpf hs) (fq m) (hfin m) (QC m) (fun _ h hz => ⟨h, hz⟩)

end Cert.Proof.Whole

end
-- ==== Proof.Inputs.lean ====
/-
  What the precondition gives the whole program: the padded index holds the index's rows, the normalised queries and the
  similarities are real numbers, and the labels are in range.
-/
module

public import proofs.«01_k».proof.Proof.Host
public import proofs.«01_k».proof.Proof.Region
public import proofs.«01_k».proof.Proof.Range
public import proofs.«01_k».proof.Proof.Gen.Pre_sound_inputs
public import Idealize.ShloMosaic.Lib.ReduceAll
public import Idealize.ShloMosaic.Lib.IdealHost
public import Idealize.ShloMosaic.Lib.Routing.OpsPair
public import Idealize.ShloMosaic.Lib.Routing.OpsSet

@[expose] public section

noncomputable section

namespace Cert.Proof.Inputs

open Cert.KernelIdeal Cert.KernelIdeal.Gen
open Idealize.ShloMosaic hiding ix1 ix2 ix3 eq_ix1 eq_ix2 eq_ix3
open Idealize.ShloMosaic.TcCoe Idealize.ShloMosaic.ValueIdx Idealize.ShloMosaic.Routing
open Cert.Proof.Sims (sims sims_eq)
open Cert.Proof.Region (Padded)

/-! ## The padding -/

/-- The one window lands with its corner at row 0, column 0. -/
theorem lands (r : Fin 100000) (k : Fin 64) (r' : Fin 100352) (k' : Fin 64) :
    scatter_S100352x64_S1_S100000x64_01_n_0_0.resultIdx? (ix2 r k) (broadcastInDim S1 ![] bcast_S_S1 (constantI S_ 32 0#32)) = some (ix2 r' k')
      ↔ r.val = r'.val ∧ k.val = k'.val := by
  rw [resultIdx?_ix2]
  have s0 : scatter_S100352x64_S1_S100000x64_01_n_0_0.start (ix2 r k) (broadcastInDim S1 ![] bcast_S_S1 (constantI S_ 32 0#32)) 0 = 0 := rfl
  have s1 : scatter_S100352x64_S1_S100000x64_01_n_0_0.start (ix2 r k) (broadcastInDim S1 ![] bcast_S_S1 (constantI S_ 32 0#32)) 1 = 0 := rfl
  have w0 : scatter_S100352x64_S1_S100000x64_01_n_0_0.window (ix2 r k) 0 = r.val := rfl
  have w1 : scatter_S100352x64_S1_S100000x64_01_n_0_0.window (ix2 r k) 1 = k.val := rfl
  rw [s0, s1, w0, w1]
  omega

theorem padded_holds (f : S100000x64.Idx → EReal) : Padded f (Host.padded f) := by
  intro r h k
  unfold Host.padded
  refine scatter_set_hit _ _ _ _ _ _ (fun x hx => ?_) (ix2 ⟨r, h⟩ k) ((lands ⟨r, h⟩ k _ k).2 ⟨rfl, rfl⟩)
  rw [eq_ix2 x] at hx ⊢
  obtain ⟨e1, e2⟩ := (lands _ _ _ _).1 hx
  exact congrArg f (congr (congrArg ix2 (Fin.ext e1)) (Fin.ext e2))

/-! ## Real numbers -/

theorem coe_sum {ι : Type} (s : Finset ι) (g : ι → ℝ) : (∑ i ∈ s, (g i : EReal)) = ((∑ i ∈ s, g i : ℝ) : EReal) := by
  classical
  induction s using Finset.induction_on with
  | empty => rw [Finset.sum_empty, Finset.sum_empty]; rfl
  | insert a s ha ih => rw [Finset.sum_insert ha, Finset.sum_insert ha, ih, EReal.coe_add]

theorem unit_apply (y : S1024x64.Idx → EReal) (x : S1024x64.Idx) : ∃ j : S1024.Idx,
    Host.unit y x = Ideal.div (y x) (Ideal.sqrt (Ideal.hostReduceAdd reducesTo_S1024x64_S1024_d1 (fun i => y i * y i) (Ideal.ofBits .f32 0x00000000#32) j)) :=
  ⟨_, rfl⟩

/-- A query row that is real and not zero is real after its division by the norm. -/
theorem unit_real (y : S1024x64.Idx → EReal) (hy : ∀ i, ∃ a : ℝ, y i = a)
    (hz : ∀ j : S1024.Idx, ∃ i, reducesTo_S1024x64_S1024_d1.drop i = j ∧ y i ≠ 0) (x : S1024x64.Idx) : ∃ u : ℝ, Host.unit y x = u := by
  choose a ha using hy
  obtain ⟨j, e⟩ := unit_apply y x
  obtain ⟨i, hi, hne⟩ := hz j
  rw [e]
  unfold Ideal.hostReduceAdd
  have hs : ∀ i, y i * y i = ((a i * a i : ℝ) : EReal) := fun i => by rw [ha, EReal.coe_mul]
  simp only [hs]
  rw [Ideal.ofBits_zero_f32, zero_add, coe_sum, Ideal.sqrt_coe]
  have hpos : 0 < ∑ i ∈ Finset.univ.filter (fun i => reducesTo_S1024x64_S1024_d1.drop i = j), a i * a i := by
    refine Finset.sum_pos' (fun i _ => mul_self_nonneg _) ⟨i, Finset.mem_filter.2 ⟨Finset.mem_univ _, hi⟩, ?_⟩
    refine lt_of_le_of_ne (mul_self_nonneg _) (Ne.symm fun h => hne ?_)
    rw [ha, mul_self_eq_zero.1 h]; rfl
  rw [if_neg (not_lt.2 hpos.le), ha, Ideal.div_coe (Real.sqrt_pos.2 hpos).ne', ← EReal.coe_mul]
  exact ⟨_, rfl⟩

/-- The similarity of real rows is not minus infinity. -/
theorem sims_ne_bot (q : S1024x64.Idx → EReal) (f : S100000x64.Idx → EReal) (hq : ∀ i, ∃ a : ℝ, q i = a) (hf : ∀ i, ∃ a : ℝ, f i = a)
    (r : Fin 1024) (j : ℕ) (h : j < 100000) : sims q f r j ≠ ⊥ := by
  choose a ha using hq
  choose b hb using hf
  rw [sims_eq q f r h]
  simp only [ha, hb, ← EReal.coe_mul]
  rw [coe_sum]
  exact EReal.coe_ne_bot _

/-! ## The precondition read back -/

theorem real_of_cmp (x : EReal) (h : FloatOps.cmpf (F := Ideal) (φ := .f32) .olt (FloatOps.hostAbsf (F := Ideal) (φ := .f32) x) (FloatOps.ofBits (F := Ideal) .f32 0x7F800000#32) = 1#1) :
    ∃ a : ℝ, x = a := by
  have hb : Ideal.ofBits .f32 0x7F800000#32 = ⊤ := by simp [Ideal.ofBits, Ideal.ieee]
  change BitVec.ofBool (decide (max x (-x) < Ideal.ofBits .f32 0x7F800000#32)) = 1#1 at h
  rw [hb] at h
  have h' : max x (-x) < ⊤ := by
    by_contra hn
    rw [decide_eq_false hn] at h
    exact absurd h (by decide)
  induction x with
  | bot => exact absurd h' (by simp)
  | top => exact absurd h' (by simp)
  | coe a => exact ⟨a, rfl⟩

theorem ne_of_cmp (x : EReal) (h : FloatOps.cmpf (F := Ideal) (φ := .f32) .une x (FloatOps.ofBits (F := Ideal) .f32 0x00000000#32) = 1#1) : x ≠ 0 := by
  intro hx
  change BitVec.ofBool (decide (x ≠ Ideal.ofBits .f32 0x00000000#32)) = 1#1 at h
  rw [Ideal.ofBits_zero_f32, hx, decide_eq_false (by simp)] at h
  exact absurd h (by decide)

theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_eq_one f l _ h with e | ⟨n, hn, e⟩
    · have key : ∀ u v : BitVec 1, u ||| v = 1#1 → u = 1#1 ∨ v = 1#1 := by decide
      rcases key init (f a) e with e | e
      · exact Or.inl e
      · exact Or.inr ⟨a, List.mem_cons_self .., e⟩
    · exact Or.inr ⟨n, List.mem_cons_of_mem _ hn, e⟩

theorem of_pre [Cert.Pre_sound_inputs.Facts] (y : S1024x64.Idx → EReal) (f : S100000x64.Idx → EReal) (yv : IVec S100000 32)
    (h : Cert.Pre_sound_inputs.fn (F := Ideal) y f yv = fun _ => 1#1) :
    (∀ i, ∃ a : ℝ, y i = a) ∧ (∀ i, ∃ a : ℝ, f i = a) ∧ (∀ j : S1024.Idx, ∃ i, reducesTo_S1024x64_S1024_d1.drop i = j ∧ y i ≠ 0)
      ∧ ∀ x, (yv x).toNat < 1000 := by
  have e := congrFun h (fun k => k.elim0)
  obtain ⟨e1, e4⟩ := IntOp.andi_eq_one.1 e
  obtain ⟨e1, e3⟩ := IntOp.andi_eq_one.1 e1
  obtain ⟨e1, e2⟩ := IntOp.andi_eq_one.1 e1
  haveI : Subsingleton Cert.Pre_sound_inputs.S_.Idx := ⟨fun a b => funext fun k => k.elim0⟩
  refine ⟨fun x => real_of_cmp _ (Host.reduce_andi_all _ _ _ _ _ e1 x), fun x => real_of_cmp _ (Host.reduce_andi_all _ _ _ _ _ e2 x), fun j => ?_, fun x => ?_⟩
  · have e5 := Host.reduce_andi_all _ _ _ _ _ e3 j
    unfold Host.reduce at e5
    rcases foldl_ori_eq_one _ _ _ e5 with e6 | ⟨n, hn, e6⟩
    · exact absurd (show (0#1 : BitVec 1) = 1#1 from e6) (by decide)
    · exact ⟨_, of_decide_eq_true (List.mem_filter.1 hn).2, ne_of_cmp _ e6⟩
  · obtain ⟨a, b⟩ := IntOp.andi_eq_one.1 (Host.reduce_andi_all _ _ _ _ _ e4 x)
    exact Range.lt_of_cmp _ 1000#32 (by decide) a b

end Cert.Proof.Inputs

end
-- ==== Proof.Sorted.lean ====
/-
  The plain program's argsort: its first ten columns of a row are the ten best columns of the row's similarities, the
  greater similarity first and, between equals, the lower column. The sort is stable and compares the negated
  similarities alone, so it is the sort by the similarity and then the column.
-/
module

public import proofs.«01_k».proof.Proof.Pick
public import proofs.«01_k».proof.Proof.Gen.ReferenceIdeal
public import Idealize.ShloMosaic.Lib.SortPrefix
public import Idealize.ShloMosaic.Lib.ValueIdx
public import Idealize.ShloMosaic.Lib.IdealHost

@[expose] public section

noncomputable section

namespace Cert.Proof.Sorted

open Cert.ReferenceIdeal Cert.ReferenceIdeal.Gen
open Idealize.ShloMosaic
open Idealize.ShloMosaic.TcCoe Idealize.ShloMosaic.ValueIdx
open Cert.Proof.Pick

/-! ## The order -/

/-- Two relations that agree wherever the later element of the list is asked about the earlier one sort it alike. -/
theorem stableSort_agree {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

theorem sortedFrom_agree {n : ℕ} (R R' : Fin n → Fin n → Bool) (h : ∀ a b : Fin n, a < b → R b a = R' b a) : sortedFrom R = sortedFrom R' := by
  have e : sortPositions n R = sortPositions n R' := stableSort_agree R R' _ ((List.pairwise_lt_finRange n).imp fun {a b} hab => h a b hab)
  funext k
  unfold sortedFrom
  rw [List.get_of_eq e]
  rfl

open Classical in
/-- "Before" on the columns below `n`. -/
def before (s : ℕ → EReal) (n : ℕ) (a b : Fin n) : Bool := decide (bef s a.val b.val)

theorem before_iff (s : ℕ → EReal) (n : ℕ) (a b : Fin n) : before s n a b = true ↔ bef s a.val b.val := by
  exact @decide_eq_true_iff _ (Classical.propDecidable _)

theorem before_false (s : ℕ → EReal) (n : ℕ) (a b : Fin n) : before s n a b = false ↔ ¬ bef s a.val b.val := by
  rw [← before_iff, Bool.not_eq_true]

theorem strict (s : ℕ → EReal) (n : ℕ) : StrictTotalBefore (before s n) where
  irrefl a := (before_false s n a a).2 (bef_irrefl s _)
  trans a b c h h' := (before_iff s n a c).2 (bef_trans s ((before_iff s n a b).1 h) ((before_iff s n b c).1 h'))
  total a b h := by
    rw [before_iff, before_iff]
    exact bef_total s fun e => h (Fin.ext e)

/-- The first ten of the sort by similarity and column. -/
theorem sortedFrom_before (s : ℕ → EReal) (n : ℕ) (hn : 10 ≤ n) (t : Fin 10) :
    (sortedFrom (before s n) (t.castLE hn)).val = nth s (Finset.range n) t.val := by
  have hc : ∀ t : Fin 10, t.val < (Finset.range n).card := fun t => by rw [Finset.card_range]; omega
  have hb : ∀ i j : Fin 10, i < j → bef s (nth s (Finset.range n) i.val) (nth s (Finset.range n) j.val) := fun i j hij =>
    taken_bef s (hc j).le ((mem_taken s (hc j).le).2 ⟨i.val, hij, rfl⟩) (nth_mem_drop s (hc j))
  have key := (strict s n).sortedFrom_eq_of_prefix hn (fun t => (⟨nth s (Finset.range n) t.val, Finset.mem_range.1 (nth_mem s (hc t))⟩ : Fin n))
    (fun i j e => ?_) (fun i j hij => (before_false s n _ _).2 (bef_asymm s (hb i j hij))) (fun i p hp => ?_) t
  · rw [key]
  · have e' : nth s (Finset.range n) i.val = nth s (Finset.range n) j.val := congrArg Fin.val e
    rcases lt_trichotomy i j with h | h | h
    · have := hb i j h
      rw [e'] at this
      exact absurd this (bef_irrefl s _)
    · exact h
    · have := hb j i h
      rw [e'] at this
      exact absurd this (bef_irrefl s _)
  · have h10 : 10 ≤ (Finset.range n).card := by rw [Finset.card_range]; exact hn
    have hd : p.val ∈ drop s (Finset.range n) 10 := by
      by_contra hd
      have ht : p.val ∈ taken s (Finset.range n) 10 := Finset.mem_sdiff.2 ⟨Finset.mem_range.2 p.isLt, hd⟩
      obtain ⟨u, hu, e⟩ := (mem_taken s h10).1 ht
      exact hp ⟨u, hu⟩ (Fin.ext e.symm)
    exact (before_false s n _ _).2 (bef_asymm s (taken_bef s h10 ((mem_taken s h10).2 ⟨i.val, i.isLt, rfl⟩) hd))

/-! ## The comparator -/

/-- On the extended reals the comparator asks whether the left key is below the right one. -/
theorem comparator_eq (l r : Ideal .f32 × BitVec 32) :
    comparator_f32_i32_d1 (F := Ideal) l r = BitVec.ofBool (decide ((l.1 : EReal) < r.1)) := by
  have hz : ∀ x : EReal, Scalar.select (FloatOps.cmpf (F := Ideal) (φ := .f32) .oeq x (FloatOps.ofBits (F := Ideal) .f32 0x00000000#32)) (FloatOps.ofBits (F := Ideal) .f32 0x00000000#32) x = x := by
    intro x
    change Scalar.select (BitVec.ofBool (decide (x = Ideal.ofBits .f32 0x00000000#32))) (Ideal.ofBits .f32 0x00000000#32) x = x
    by_cases h : x = Ideal.ofBits .f32 0x00000000#32
    · rw [decide_eq_true h]; exact h.symm
    · rw [decide_eq_false h]; rfl
  have hn : ∀ x y z : EReal, Scalar.select (FloatOps.cmpf (F := Ideal) (φ := .f32) .une x x) y z = z := by
    intro x y z
    change Scalar.select (BitVec.ofBool (decide (x ≠ x))) y z = z
    rw [decide_eq_false (by simp)]; rfl
  unfold comparator_f32_i32_d1
  simp only
  rw [hz, hz]
  erw [hn, hn]
  rfl

/-- The second result of a sort along the rows of a matrix, at an entry. -/
theorem sort2_apply {R C : ℕ} {α β : Type} (cmp : α × β → α × β → BitVec 1) (x : (⟨2, ![R, C]⟩ : Shape).Idx → α) (y : (⟨2, ![R, C]⟩ : Shape).Idx → β)
    (r : Fin R) (t : Fin C) : (Host.sort2 ⟨2, ![R, C]⟩ 1 cmp x y).2 (ix2 r t)
      = y (ix2 r (sortedFrom (fun k k' : Fin C => cmp (x (ix2 r k), y (ix2 r k)) (x (ix2 r k'), y (ix2 r k')) == 1#1) t)) := by
  have ha : ∀ k : Fin C, (ix2 r t : (⟨2, ![R, C]⟩ : Shape).Idx).along 1 k = ix2 r k := fun k => by
    funext b
    match b with
    | ⟨0, _⟩ => rfl
    | ⟨1, _⟩ => rfl
  have hB : (sortedFrom fun k k' : Fin C => cmp (x ((ix2 r t : (⟨2, ![R, C]⟩ : Shape).Idx).along 1 k), y ((ix2 r t : (⟨2, ![R, C]⟩ : Shape).Idx).along 1 k))
      (x ((ix2 r t : (⟨2, ![R, C]⟩ : Shape).Idx).along 1 k'), y ((ix2 r t : (⟨2, ![R, C]⟩ : Shape).Idx).along 1 k')) == 1#1)
      = sortedFrom (fun k k' : Fin C => cmp (x (ix2 r k), y (ix2 r k)) (x (ix2 r k'), y (ix2 r k')) == 1#1) := by
    simp only [ha]
  unfold Host.sort2
  rw [dif_pos (show 1 < 2 from Nat.one_lt_two)]
  refine (congrArg (fun g : Fin C → Fin C => y ((ix2 r t : (⟨2, ![R, C]⟩ : Shape).Idx).along 1 (g t))) hB).trans ?_
  exact congrArg y (ha _)

/-- The first ten columns of the argsort of the negated similarities. -/
theorem argsort_apply (x : S1024x100000.Idx → EReal) (s : Fin 1024 → ℕ → EReal) (hx : ∀ (r : Fin 1024) (j : Fin 100000), x (ix2 r j) = - s r j.val)
    (r : Fin 1024) (t : Fin 100000) (ht : t.val < 10) :
    (Host.sort2 S1024x100000 1 (comparator_f32_i32_d1 (F := Ideal)) x (iotaInDim S1024x100000 32 1)).2 (ix2 r t)
      = BitVec.ofNat 32 (nth (s r) (Finset.range 100000) t.val) := by
  have hB : (sortedFrom (fun k k' : Fin 100000 => comparator_f32_i32_d1 (F := Ideal) (x (ix2 r k), iotaInDim S1024x100000 32 1 (ix2 r k))
      (x (ix2 r k'), iotaInDim S1024x100000 32 1 (ix2 r k')) == 1#1)) = sortedFrom (before (s r) 100000) := by
    refine sortedFrom_agree _ _ fun a b hab => ?_
    rw [comparator_eq]
    simp only [hx]
    rw [Bool.eq_iff_iff, before_iff, beq_iff_eq]
    have e : ∀ p : Bool, BitVec.ofBool p = 1#1 ↔ p = true := by decide
    rw [e, decide_eq_true_iff, EReal.neg_lt_neg_iff]
    unfold bef
    constructor
    · exact Or.inl
    · rintro (h | h)
      · exact h
      · exact absurd hab (not_lt.2 (le_of_lt h.2))
  rw [sort2_apply, hB]
  exact congrArg (BitVec.ofNat 32) (sortedFrom_before (s r) 100000 (by decide) ⟨t.val, ht⟩)

end Cert.Proof.Sorted

end
-- ==== Proof.RefWhole.lean ====
/-
  The value of the whole plain program: each row's ten best columns by the argsort of the negated similarities, their labels
  and the scatter of ones. It is the one-hot array of the ten best columns, where the sixteen lanes of `best` add nothing
  to its first ten.
-/
module

public import proofs.«01_k».proof.Proof.Sorted
public import proofs.«01_k».proof.Proof.WLaunch
public import proofs.«01_k».proof.Proof.Range
public import proofs.«01_k».proof.Proof.Gen.ReferenceIdeal.Run
public import Idealize.ShloMosaic.Lib.ReduceAll
public import Idealize.ShloMosaic.Lib.ValueIdx
public import Idealize.ShloMosaic.Lib.MatmulPlain
public import Idealize.ShloMosaic.Lib.Routing.OpsPair
public import Idealize.ShloMosaic.Lib.Routing.OpsSet
public import Idealize.ShloMosaic.Lib.Pointwise

@[expose] public section

noncomputable section

namespace Cert.Proof.RefWhole

open Cert.ReferenceIdeal Cert.ReferenceIdeal.Gen
open Idealize.ShloMosaic hiding ix1 ix2 ix3 eq_ix1 eq_ix2 eq_ix3
open Idealize.ShloMosaic.TcCoe Idealize.ShloMosaic.ValueIdx Idealize.ShloMosaic.Routing
open Cert.Proof.Pick (nth nth_mem)
open Cert.Proof.Sims (sims sims_eq)

/-! ## The terms -/

/-- The similarities, as the plain program's matrix product. -/
def products (y : S1024x64.Idx → EReal) (f : S100000x64.Idx → EReal) : S1024x100000.Idx → EReal :=
  Host.dotGeneral (F := Ideal) (φ₁ := .f32) (φ₂ := .f32) dot_S1024x64_S64x100000_S1024x100000_1_0_0_1_n_n none
    (Host.divf (F := Ideal) (φ := .f32) y (broadcastInDim S1024x64 ![0, 1] bcast_S1024x1_S1024x64_0_1 (Host.sqrt (F := Ideal) (φ := .f32) (broadcastInDim S1024x1 ![0] bcast_S1024_S1024x1_0
      (Host.reduceAdd (F := Ideal) (φ := .f32) (mulf (F := Ideal) (φ := .f32) y y) (constant (F := Ideal) S_ .f32 0x00000000#32) reducesTo_S1024x64_S1024_d1 h_S_)))))
    (transpose S64x100000 [1, 0] f transposes_S100000x64_S64x100000_1_0)

/-- The columns of each row, the greatest similarity first. -/
def order (y : S1024x64.Idx → EReal) (f : S100000x64.Idx → EReal) : IVec S1024x100000 32 :=
  (Host.sort2 S1024x100000 1 (comparator_f32_i32_d1 (F := Ideal)) (Host.negf (F := Ideal) (φ := .f32) (products y f)) (iotaInDim S1024x100000 32 1)).2

/-- A negative index counted from the end. -/
def wrap {s : Shape} (hb : S_.BroadcastsInDim s ![]) (n : BitVec 32) (x : IVec s 32) : IVec s 32 :=
  select (cmpi .slt x (broadcastInDim s ![] hb (constantI S_ 32 0#32))) (addi x (broadcastInDim s ![] hb (constantI S_ 32 n))) x

/-- The full table of columns with a last axis of one index word. -/
def wide (x : IVec S1024x100000 32) : IVec S1024x100000x1 32 := broadcastInDim S1024x100000x1 ![0, 1] bcast_S1024x100000_S1024x100000x1_0_1 x

/-- A table of ten to a row with a last axis of one index word. -/
def col (x : IVec S1024x10 32) : IVec S1024x10x1 32 := broadcastInDim S1024x10x1 ![0, 1] bcast_S1024x10_S1024x10x1_0_1 x

/-- The labels at the columns, the smallest word where a column is out of range. -/
def taken (yv : IVec S100000 32) (x : IVec S1024x100000 32) : IVec S1024x100000 32 :=
  select (Host.reduce IntOp.andi (andi (cmpi .sge (wide x) (broadcastInDim S1024x100000x1 ![] bcast_S_S1024x100000x1 (constantI S_ 32 0#32)))
      (cmpi .sle (wide x) (broadcastInDim S1024x100000x1 ![0, 1, 2] bcast_S1x1x1_S1024x100000x1_0_1_2 (broadcastInDim S1x1x1 ![2] bcast_S1_S1x1x1_2 (constantI S1 32 99999#32)))))
      (constantI S_ 1 1#1) reducesTo_S1024x100000x1_S1024x100000_d2 h_S_)
    (Host.gather gather_S100000_S1024x100000x1_S1024x100000_n_0_n_n_0_2_1 yv (wide x)) (broadcastInDim S1024x100000 ![] bcast_S_S1024x100000 (constantI S_ 32 2147483648#32))

/-- The number of its row at every place. -/
def rowNo : IVec S1024x10 32 := broadcastInDim S1024x10 ![0, 1] bcast_S1024x1_S1024x10_0_1 (broadcastInDim S1024x1 ![0] bcast_S1024_S1024x1_0 (iotaInDim S1024 32 0))

/-- The labels of each row's first ten columns. -/
def firstTen (yv : IVec S100000 32) (x : IVec S1024x100000 32) : IVec S1024x10 32 :=
  extractStridedSlice S1024x10 ![0, 0] (taken yv (wrap bcast_S_S1024x100000 100000#32 x)) slices_S1024x100000_S1024x10_0_0

/-- The places written: row and label. -/
def places (yv : IVec S100000 32) (x : IVec S1024x100000 32) : IVec S1024x10x2 32 :=
  concatenate S1024x10x2 2 [⟨S1024x10x1, col (wrap bcast_S_S1024x10 1024#32 rowNo)⟩, ⟨S1024x10x1, col (wrap bcast_S_S1024x10 1000#32 (firstTen yv x))⟩]
    concatenates_S1024x10x1_S1024x10x1_S1024x10x2_d2

/-- The scatter of ones. -/
def out (yv : IVec S100000 32) (x : IVec S1024x100000 32) : S1024x1000.Idx → EReal :=
  Host.scatter scatter_S1024x1000_S1024x10x2_S1024x10_n_01_01_2 (fun _ b => b) (broadcastInDim S1024x1000 ![] bcast_S_S1024x1000 (constant (F := Ideal) S_ .f32 0x00000000#32))
    (places yv x) (broadcastInDim S1024x10 ![] bcast_S_S1024x10 (constant (F := Ideal) S_ .f32 0x3F800000#32))

set_option maxRecDepth 8192 in
theorem res_eq (m : (ℓ : Loc nD τ sig) → Buf (Elt Ideal) ℓ) (c : Dev nD) :
    Cert.ReferenceIdeal.Value.res_out0 m c = out (m ((c.tc : Thread nD τ).loc main_arg2))
      (order (m ((c.tc : Thread nD τ).loc main_arg0)) (m ((c.tc : Thread nD τ).loc main_arg1))) := by
  unfold Cert.ReferenceIdeal.Value.res_out0 Cert.ReferenceIdeal.Value.res_main_v27
  rfl

/-! ## The columns -/

theorem products_apply (y : S1024x64.Idx → EReal) (f : S100000x64.Idx → EReal) (r : Fin 1024) (j : Fin 100000) :
    products y f (ix2 r j) = sims (Host.unit y) f r j.val := by
  rw [sims_eq _ _ _ j.isLt]
  unfold products
  refine (Ideal.matmul_plain_apply (M := 1024) (K := 64) (N := 100000) (φ₁ := .f32) (φ₂ := .f32) none _ _ (fun _ => 0) r j).trans ?_
  refine (zero_add _).trans (Finset.sum_congr rfl fun k _ => ?_)
  refine congr (congrArg _ rfl) (transpose_apply _ _ _ _ _ fun b => ?_)
  match b with
  | ⟨0, _⟩ => rfl
  | ⟨1, _⟩ => rfl

theorem order_lt (y : S1024x64.Idx → EReal) (f : S100000x64.Idx → EReal) (i : S1024x100000.Idx) : (order y f i).toNat < 100000 := by
  obtain ⟨r, t, rfl⟩ : ∃ (r : Fin 1024) (t : Fin 100000), i = ix2 r t := ⟨i 0, i 1, eq_ix2 i⟩
  unfold order
  rw [Sorted.sort2_apply]
  generalize sortedFrom _ _ = p
  have hp := p.isLt
  show (BitVec.ofNat 32 p.val).toNat < 100000
  rw [BitVec.toNat_ofNat]
  exact lt_of_le_of_lt (Nat.mod_le _ _) hp

theorem order_ten (y : S1024x64.Idx → EReal) (f : S100000x64.Idx → EReal) (r : Fin 1024) (t : Fin 100000) (ht : t.val < 10) :
    order y f (ix2 r t) = BitVec.ofNat 32 (nth (sims (Host.unit y) f r) (Finset.range 100000) t.val) :=
  Sorted.argsort_apply _ (sims (Host.unit y) f) (fun r j => congrArg Neg.neg (products_apply y f r j)) r t ht

/-! ## The labels and the scatter -/

theorem wrap_eq {s : Shape} (hb : S_.BroadcastsInDim s ![]) (n : BitVec 32) (x : IVec s 32) (h : ∀ i, (x i).toNat < 2 ^ 31) : wrap hb n x = x :=
  funext fun i => wrap_of_lt (x i) (x i + n) (h i)

theorem col_apply (x : IVec S1024x10 32) (j : S1024x10x1.Idx) (i : S1024x10.Idx) (h0 : (i 0).val = (j 0).val) (h1 : (i 1).val = (j 1).val) : col x j = x i := by
  unfold col
  refine broadcastInDim_apply _ _ _ _ i fun q => ?_
  match q with
  | ⟨0, _⟩ => exact h0
  | ⟨1, _⟩ => exact h1

theorem wide_apply (x : IVec S1024x100000 32) (j : S1024x100000x1.Idx) (i : S1024x100000.Idx) (h0 : (i 0).val = (j 0).val) (h1 : (i 1).val = (j 1).val) : wide x j = x i := by
  unfold wide
  refine broadcastInDim_apply _ _ _ _ i fun q => ?_
  match q with
  | ⟨0, _⟩ => exact h0
  | ⟨1, _⟩ => exact h1

theorem rowNo_apply (i : S1024x10.Idx) : rowNo i = BitVec.ofNat 32 (i 0).val := rfl

theorem taken_apply (yv : IVec S100000 32) (x : IVec S1024x100000 32) (h : ∀ i, (x i).toNat < 100000) (i : S1024x100000.Idx) :
    taken yv x i = yv (ix1 ⟨(x i).toNat, h _⟩) := by
  have hc : ∀ j, (wide x j).toNat < 100000 := fun j => h _
  have hg : Host.gather gather_S100000_S1024x100000x1_S1024x100000_n_0_n_n_0_2_1 yv (wide x) i = yv (ix1 ⟨(x i).toNat, h _⟩) := by
    refine (gather_take_apply (N := 100000) (R := 1024) (C := 100000) (by decide) _ yv (wide x) i).trans ?_
    refine congrArg yv (congrArg ix1 (Fin.ext ?_))
    have e : wide x (takeIdx i) = x i := wide_apply x _ _ rfl rfl
    have hx := h i
    show min (wide x (takeIdx i)).toInt.toNat (100000 - 1) = (x i).toNat
    rw [e, Range.toInt_small _ (by omega)]
    omega
  unfold taken
  show Scalar.select _ _ _ = _
  rw [Host.reduce_andi_one _ _ _ _ _ rfl fun j => ?_]
  · exact hg
  · have hx := hc j
    refine IntOp.andi_eq_one.2 ⟨?_, ?_⟩
    · show IntOp.cmpi .sge (wide x j) 0#32 = 1#1
      have h0 : (0#32).toInt = 0 := by decide
      rw [IntOp.cmpi_sge, h0, Range.toInt_small _ (by omega)]
      omega
    · show IntOp.cmpi .sle (wide x j) 99999#32 = 1#1
      have h0 : (99999#32).toInt = 99999 := by decide
      rw [IntOp.cmpi_sle, Range.toInt_small _ (by omega), h0]
      omega

theorem firstTen_apply (yv : IVec S100000 32) (x : IVec S1024x100000 32) (h : ∀ i, (x i).toNat < 100000) (a : Fin 1024) (b : Fin 10) :
    firstTen yv x (ix2 a b) = yv (ix1 ⟨(x (ix2 a ⟨b.val, by omega⟩)).toNat, h _⟩) := by
  unfold firstTen
  rw [extractStridedSlice_apply _ _ _ _ (ix2 a ⟨b.val, by omega⟩ : S1024x100000.Idx) (fun q => by
      match q with
      | ⟨0, _⟩ => exact (Nat.zero_add _).symm
      | ⟨1, _⟩ => exact (Nat.zero_add _).symm),
    wrap_eq _ _ _ fun i => lt_trans (h i) (by decide), taken_apply yv x h]

theorem places_row (yv : IVec S100000 32) (x : IVec S1024x100000 32) (a : Fin 1024) (b : Fin 10) :
    places yv x (ix3 a b 0) = wrap bcast_S_S1024x10 1024#32 rowNo (ix2 a b) := by
  unfold places
  rw [concatenate_pair_apply]
  exact (dif_pos (by exact Nat.one_pos)).trans (col_apply _ _ _ rfl rfl)

theorem places_label (yv : IVec S100000 32) (x : IVec S1024x100000 32) (a : Fin 1024) (b : Fin 10) :
    places yv x (ix3 a b 1) = wrap bcast_S_S1024x10 1000#32 (firstTen yv x) (ix2 a b) := by
  unfold places
  rw [concatenate_pair_apply]
  exact (dif_neg (by exact Nat.lt_irrefl 1)).trans (col_apply _ _ _ rfl rfl)

/-- Update `(a, b)` lands at `(r, c)` exactly when `a` is the row and `c` the label of the row's `b`-th column. -/
theorem lands (yv : IVec S100000 32) (x : IVec S1024x100000 32) (hx : ∀ i, (x i).toNat < 100000) (hy : ∀ x, (yv x).toNat < 1000)
    (a : Fin 1024) (b : Fin 10) (r : Fin 1024) (c : Fin 1000) :
    scatter_S1024x1000_S1024x10x2_S1024x10_n_01_01_2.resultIdx? (ix2 a b) (places yv x) = some (ix2 r c)
      ↔ a = r ∧ Whole.lab yv (x (ix2 a ⟨b.val, by omega⟩)).toNat = c.val := by
  have hl : ∀ i, (firstTen yv x i).toNat < 1000 := fun i => by
    obtain ⟨a, b, rfl⟩ : ∃ (a : Fin 1024) (b : Fin 10), i = ix2 a b := ⟨i 0, i 1, eq_ix2 i⟩
    rw [firstTen_apply yv x hx]; exact hy _
  have hr : ∀ i, (rowNo i).toNat < 2 ^ 31 := fun i => by
    rw [rowNo_apply, BitVec.toNat_ofNat]
    exact lt_of_le_of_lt (Nat.mod_le _ _) (lt_trans (i 0).isLt (by decide))
  refine (scatter_lands2 (R := 1024) (C := 1000) (A := 1024) (B := 10) scatter_S1024x1000_S1024x10x2_S1024x10_n_01_01_2 rfl rfl rfl (places yv x) a b r c).trans ?_
  have h1 := hl (ix2 a b)
  rw [places_row, places_label, wrap_eq _ _ _ hr, wrap_eq _ _ _ (fun i => lt_trans (hl i) (by decide)), rowNo_apply]
  have he : Whole.lab yv (x (ix2 a ⟨b.val, by omega⟩)).toNat = (firstTen yv x (ix2 a b)).toNat := by
    rw [firstTen_apply yv x hx]
    unfold Whole.lab
    rw [dif_pos (hx _)]
  rw [he]
  have h2 := a.isLt
  have e1 : (BitVec.ofNat 32 a.val).toInt = (a.val : Int) := by
    have e0 : (BitVec.ofNat 32 a.val).toNat = a.val := by rw [BitVec.toNat_ofNat, Nat.mod_eq_of_lt (by omega)]
    rw [Range.toInt_small _ (by omega), e0]
  have e2 : (firstTen yv x (ix2 a b)).toInt = ((firstTen yv x (ix2 a b)).toNat : Int) := Range.toInt_small _ (by omega)
  show (BitVec.ofNat 32 a.val).toInt = _ ∧ _ ↔ _
  rw [e1, e2, Fin.ext_iff]
  omega

/-- The plain program's result is the one-hot array of the best columns without its padding. -/
theorem out_eq (y : S1024x64.Idx → EReal) (f : S100000x64.Idx → EReal) (yv : IVec S100000 32) (hy : ∀ x, (yv x).toNat < 1000) :
    out yv (order y f) = Whole.sliced (Whole.oneHot (F := Ideal) (Topk.best (sims (Host.unit y) f)) yv) := by
  classical
  funext x
  obtain ⟨r, c, rfl⟩ : ∃ (r : Fin 1024) (c : Fin 1000), x = ix2 r c := ⟨x 0, x 1, eq_ix2 x⟩
  have hs : Whole.sliced (Whole.oneHot (F := Ideal) (Topk.best (sims (Host.unit y) f)) yv) (ix2 r c)
      = if ∃ l : Fin 16, c.val = Whole.lab yv (Topk.best (sims (Host.unit y) f) (ix2 r l)).toNat then Scalar.ofBits (F := Ideal) .f32 0x3F800000#32 else Scalar.ofBits (F := Ideal) .f32 0x00000000#32 := by
    unfold Whole.sliced
    rw [extractStridedSlice_apply _ _ _ _ (ix2 r ⟨c.val, by omega⟩ : Cert.KernelIdeal.S1024x1024.Idx) (fun a => by
      match a with
      | ⟨0, _⟩ => exact (Nat.zero_add _).symm
      | ⟨1, _⟩ => exact (Nat.zero_add _).symm)]
    rfl
  rw [hs]
  unfold out
  by_cases h : ∃ l : Fin 16, c.val = Whole.lab yv (Topk.best (sims (Host.unit y) f) (ix2 r l)).toNat
  · rw [if_pos h]
    obtain ⟨l, hl⟩ := h
    obtain ⟨t, ht⟩ : ∃ t : Fin 10, Topk.best (sims (Host.unit y) f) (ix2 r l) = order y f (ix2 r ⟨t.val, by omega⟩) := by
      by_cases hlt : l.val < 10
      · refine ⟨⟨l.val, hlt⟩, ?_⟩
        rw [order_ten y f r _ hlt]
        exact congrArg (fun n => BitVec.ofNat 32 (nth (sims (Host.unit y) f r) (Finset.range 100000) n)) (if_pos hlt)
      · refine ⟨⟨0, by decide⟩, ?_⟩
        rw [order_ten y f r _ (by exact Nat.succ_pos 9)]
        exact congrArg (fun n => BitVec.ofNat 32 (nth (sims (Host.unit y) f r) (Finset.range 100000) n)) (if_neg hlt)
    refine scatter_set_hit _ _ _ _ _ _ (fun _ _ => rfl) (ix2 r t) ((lands yv _ (order_lt y f) hy r t r c).2 ⟨rfl, ?_⟩)
    rw [hl, ht]
  · rw [if_neg h]
    refine (scatter_set_miss _ _ _ _ _ fun k hk => h ?_).trans rfl
    rw [eq_ix2 k] at hk
    obtain ⟨e, hl⟩ := (lands yv _ (order_lt y f) hy _ _ r c).1 hk
    have hlt : (k 1).val < 10 := (k 1).isLt
    refine ⟨⟨(k 1).val, by omega⟩, ?_⟩
    rw [← hl, e, order_ten y f r _ hlt]
    refine congrArg (fun w : BitVec 32 => Whole.lab yv w.toNat) ?_
    exact (congrArg (fun n => BitVec.ofNat 32 (nth (sims (Host.unit y) f r) (Finset.range 100000) n)) (if_pos hlt)).symm

end Cert.Proof.RefWhole

end
-- ==== Proof.lean ====
/-
  The proof of `Cert.Claim`. The whole kernel's frame and value come from one run of its program at the ideal instance
  (Proof/WLaunch.lean: the host prefix, the TensorCore call of Proof/Region.lean, the label scatter on the tiles of
  Proof/WTile.lean), what its precondition gives from Proof/Inputs.lean, and the plain mathematics' value from
  Proof/RefWhole.lean over Proof/Sorted.lean. The label scatter alone is proved for any float values (Proof/Launch.lean over
  Proof/Tile.lean), and its plain form in Proof/RefValue.lean.
-/
module

public import proofs.«01_k».proof.Defs
public import proofs.«01_k».proof.Proof.Gen.Scatter
public import proofs.«01_k».proof.Proof.Gen.ScatterIdeal
public import proofs.«01_k».proof.Proof.Gen.ScatterReferenceIdeal
public import proofs.«01_k».proof.Proof.Gen.ScatterReferenceIdeal.Run
public import proofs.«01_k».proof.Proof.Gen.Pre_labels_in_range
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_sound_inputs
public import proofs.«01_k».proof.Proof.Launch
public import proofs.«01_k».proof.Proof.Range
public import proofs.«01_k».proof.Proof.RefValue
public import proofs.«01_k».proof.Proof.WLaunch
public import proofs.«01_k».proof.Proof.Inputs
public import proofs.«01_k».proof.Proof.RefWhole

@[expose] public section

noncomputable section

namespace Cert.Proof

open Idealize.ShloMosaic Idealize.SL.Sem

section Scatter

open Cert.ScatterIdeal

/-- Indices and labels in range, as the run of the label scatter asks for them. -/
theorem inRange {F : FTy → Type} [FloatOps F] (m : (ℓ : Loc nD τ sig) → Buf (Elt F) ℓ)
    (h : ∀ d : Dev nD, Cert.Pre_labels_in_range.fn (F := F) (Labels.ixOf m d) (Labels.yvOf m d) = fun _ => 1#1) (d : Dev nD) :
    Labels.InRange (Labels.ixOf m d) (Labels.yvOf m d) :=
  ⟨(Range.of_pre _ _ (h d)).1, fun x => lt_trans ((Range.of_pre _ _ (h d)).2 x) (by decide)⟩

end Scatter

instance instNonemptyBits : ∀ e, Nonempty (Elt Bits e) := fun e => by
  cases e <;> exact ⟨Classical.ofNonempty⟩

theorem frame_scatter : Cert.quiescent_Scatter := fun m ρ h =>
  (θ_run (Cert.ScatterIdeal.defs (F := Bits)) _ _).mono (fun _ h => ⟨fun c => ⟨(h.1 c).1, (h.1 c).2.1⟩, h.2⟩)
    (Labels.run_main (F := Bits) m ρ (inRange m h))

theorem frame_scatterIdeal : Cert.quiescent_ScatterIdeal := fun m ρ h =>
  (θ_run (Cert.ScatterIdeal.defs (F := Ideal)) _ _).mono (fun _ h => ⟨fun c => ⟨(h.1 c).1, (h.1 c).2.1⟩, h.2⟩)
    (Labels.run_main (F := Ideal) m ρ (inRange m h))

theorem frame_reference : Cert.quiescent_ScatterReferenceIdeal := fun m ρ _ =>
  (θ_run (Cert.ScatterReferenceIdeal.defs (F := Ideal)) _ _).mono
    (fun r h => ⟨fun c => ⟨(h c).2.1, (h c).2.2⟩, sem_eq_zero_of_no_sems (by decide) r.2⟩)
    (Cert.ScatterReferenceIdeal.Value.run (F := Ideal) m ρ)

/-- The kernel and the plain scatter end with the one-hot array without its padding columns. -/
theorem value : Cert.algebraic_ScatterIdeal_ScatterReferenceIdeal := fun m ρ m' ρ' h hm =>
  ⟨fun c => Labels.sliced (Labels.oneHot (F := Ideal) (Labels.ixOf m c) (Labels.yvOf m c)),
    (θ_run (Cert.ScatterIdeal.defs (F := Ideal)) _ _).mono (fun _ h c => ⟨(h.1 c).2.2, (h.1 c).1, (h.1 c).2.1⟩)
      (Labels.run_main (F := Ideal) m ρ (inRange m h)),
    (θ_run (Cert.ScatterReferenceIdeal.defs (F := Ideal)) _ _).mono
      (fun _ hr c => ⟨(hr c).1.trans ((RefValue.res_eq m' c).trans (by
          rw [(hm c).1, (hm c).2]
          exact RefValue.out_eq _ _ (Range.of_pre _ _ (h c)).1 (Range.of_pre _ _ (h c)).2)), (hr c).2.1, (hr c).2.2⟩)
      (Cert.ScatterReferenceIdeal.Value.run (F := Ideal) m' ρ')⟩

/-! ## The whole program -/

section Kernel

open Cert.KernelIdeal

/-- The whole program's run under its precondition. -/
theorem run_kernel (m : (ℓ : Loc nD τ sig) → Buf (Elt Ideal) ℓ) (ρ : Dev nD → PrngReg)
    (h : ∀ d : Dev nD, Cert.Pre_sound_inputs.fn (F := Ideal) (Whole.qvOf m d) (Whole.fvOf m d) (Whole.yvOf m d) = fun _ => 1#1) :
    θ_run (Cert.KernelIdeal.defs (F := Ideal)) (Cert.KernelIdeal.threads (F := Ideal)) ⟨m, fun _ => 0, ρ⟩ (Whole.QC m) := by
  have hp := fun d => Inputs.of_pre _ _ _ (h d)
  refine Whole.run_main m ρ (fun d => ⟨fun x => ?_, fun x => lt_trans ((hp d).2.2.2 x) (by decide)⟩) (fun d => Inputs.padded_holds _)
    (fun d => Inputs.sims_ne_bot _ _ (Inputs.unit_real _ (hp d).1 (hp d).2.2.1) (hp d).2.1)
  have hn : ∀ (s : ℕ → EReal) (n : ℕ), n < 100000 → (BitVec.ofNat 32 (Pick.nth s (Finset.range 100000) n)).toNat < 100000 := fun s n hn => by
    rw [BitVec.toNat_ofNat]
    exact lt_of_le_of_lt (Nat.mod_le _ _) (Finset.mem_range.1 (Pick.nth_mem s (by rw [Finset.card_range]; exact hn)))
  refine hn _ _ ?_
  split <;> omega

end Kernel

theorem frame_kernelIdeal : Cert.quiescent_KernelIdeal := fun m ρ h =>
  (θ_run (Cert.KernelIdeal.defs (F := Ideal)) _ _).mono (fun _ h => ⟨fun c => ⟨(h.1 c).1, (h.1 c).2.1, (h.1 c).2.2.1⟩, h.2⟩)
    (run_kernel m ρ h)

theorem frame_referenceIdeal : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- The whole kernel and the plain mathematics end with the one-hot array of the ten best columns' labels. -/
theorem value_whole : Cert.algebraic_KernelIdeal_ReferenceIdeal := fun m ρ m' ρ' h hm =>
  ⟨fun c => Whole.sliced (Whole.oneHot (F := Ideal) (Whole.ixOf m c) (Whole.yvOf m c)),
    (θ_run (Cert.KernelIdeal.defs (F := Ideal)) _ _).mono (fun _ h c => ⟨(h.1 c).2.2.2, (h.1 c).1, (h.1 c).2.1, (h.1 c).2.2.1⟩)
      (run_kernel m ρ h),
    (θ_run (Cert.ReferenceIdeal.defs (F := Ideal)) _ _).mono
      (fun _ hr c => ⟨(hr c).1.trans ((RefWhole.res_eq m' c).trans (by
          rw [(hm c).1, (hm c).2.1, (hm c).2.2]
          exact RefWhole.out_eq _ _ _ (Inputs.of_pre _ _ _ (h c)).2.2.2)), (hr c).2⟩)
      (Cert.ReferenceIdeal.Value.run (F := Ideal) m' ρ')⟩

theorem claim : Cert.Claim := ⟨Cert.Scatter.Gen.facts, Cert.ScatterIdeal.Gen.facts, Cert.ScatterReferenceIdeal.Gen.facts, Cert.KernelIdeal.Gen.facts,
  Cert.ReferenceIdeal.Gen.facts, Cert.Pre_labels_in_range.Gen.facts, Cert.Pre_sound_inputs.Gen.facts, frame_scatter, frame_scatterIdeal, frame_reference,
  fun m ρ _ => frame_reference m ρ trivial, frame_kernelIdeal, frame_referenceIdeal, fun m ρ _ => frame_referenceIdeal m ρ trivial, trivial, value, value_whole⟩

end Cert.Proof

end
